-- ==== Defs.lean ====
def Pre_X (m : (ℓ : Loc Cert.X.nD Cert.X.τ Cert.X.sig) → Buf (Elt Bits) ℓ) : Prop :=
  True

def Pre_XIdeal (m : (ℓ : Loc Cert.XIdeal.nD Cert.XIdeal.τ Cert.XIdeal.sig) → Buf (Elt Ideal) ℓ) : Prop :=
  True

def Pre_XRefIdeal (m : (ℓ : Loc Cert.XRefIdeal.nD Cert.XRefIdeal.τ Cert.XRefIdeal.sig) → Buf (Elt Ideal) ℓ) : Prop :=
  True

def Pre_L (m : (ℓ : Loc Cert.L.nD Cert.L.τ Cert.L.sig) → Buf (Elt Bits) ℓ) : Prop :=
  True

def Pre_LIdeal (m : (ℓ : Loc Cert.LIdeal.nD Cert.LIdeal.τ Cert.LIdeal.sig) → Buf (Elt Ideal) ℓ) : Prop :=
  True

def Pre_LRefIdeal (m : (ℓ : Loc Cert.LRefIdeal.nD Cert.LRefIdeal.τ Cert.LRefIdeal.sig) → Buf (Elt Ideal) ℓ) : Prop :=
  True

def Pre_E (m : (ℓ : Loc Cert.E.nD Cert.E.τ Cert.E.sig) → Buf (Elt Bits) ℓ) : Prop :=
  True

def Pre_EIdeal (m : (ℓ : Loc Cert.EIdeal.nD Cert.EIdeal.τ Cert.EIdeal.sig) → Buf (Elt Ideal) ℓ) : Prop :=
  True

def Pre_ERefIdeal (m : (ℓ : Loc Cert.ERefIdeal.nD Cert.ERefIdeal.τ Cert.ERefIdeal.sig) → Buf (Elt Ideal) ℓ) : Prop :=
  True

def Pre_F (m : (ℓ : Loc Cert.F.nD Cert.F.τ Cert.F.sig) → Buf (Elt Bits) ℓ) : Prop :=
  True

def Pre_FIdeal (m : (ℓ : Loc Cert.FIdeal.nD Cert.FIdeal.τ Cert.FIdeal.sig) → Buf (Elt Ideal) ℓ) : Prop :=
  True

def Pre_FRefIdeal (m : (ℓ : Loc Cert.FRefIdeal.nD Cert.FRefIdeal.τ Cert.FRefIdeal.sig) → Buf (Elt Ideal) ℓ) : Prop :=
  True

def Pre_S (m : (ℓ : Loc Cert.S.nD Cert.S.τ Cert.S.sig) → Buf (Elt Bits) ℓ) : Prop :=
  True

def Pre_SIdeal (m : (ℓ : Loc Cert.SIdeal.nD Cert.SIdeal.τ Cert.SIdeal.sig) → Buf (Elt Ideal) ℓ) : Prop :=
  True

def Pre_SRefIdeal (m : (ℓ : Loc Cert.SRefIdeal.nD Cert.SRefIdeal.τ Cert.SRefIdeal.sig) → Buf (Elt Ideal) ℓ) : Prop :=
  True

def Pre_H1 (m : (ℓ : Loc Cert.H1.nD Cert.H1.τ Cert.H1.sig) → Buf (Elt Bits) ℓ) : Prop :=
  True

def Pre_H1Ideal (m : (ℓ : Loc Cert.H1Ideal.nD Cert.H1Ideal.τ Cert.H1Ideal.sig) → Buf (Elt Ideal) ℓ) : Prop :=
  True

def Pre_H1RefIdeal (m : (ℓ : Loc Cert.H1RefIdeal.nD Cert.H1RefIdeal.τ Cert.H1RefIdeal.sig) → Buf (Elt Ideal) ℓ) : Prop :=
  True

def Pre_H2 (m : (ℓ : Loc Cert.H2.nD Cert.H2.τ Cert.H2.sig) → Buf (Elt Bits) ℓ) : Prop :=
  True

def Pre_H2Ideal (m : (ℓ : Loc Cert.H2Ideal.nD Cert.H2Ideal.τ Cert.H2Ideal.sig) → Buf (Elt Ideal) ℓ) : Prop :=
  True

def Pre_H2RefIdeal (m : (ℓ : Loc Cert.H2RefIdeal.nD Cert.H2RefIdeal.τ Cert.H2RefIdeal.sig) → Buf (Elt Ideal) ℓ) : Prop :=
  True

def Pre_N (m : (ℓ : Loc Cert.N.nD Cert.N.τ Cert.N.sig) → Buf (Elt Bits) ℓ) : Prop :=
  True

def Pre_NIdeal (m : (ℓ : Loc Cert.NIdeal.nD Cert.NIdeal.τ Cert.NIdeal.sig) → Buf (Elt Ideal) ℓ) : Prop :=
  True

def Pre_NRefIdeal (m : (ℓ : Loc Cert.NRefIdeal.nD Cert.NRefIdeal.τ Cert.NRefIdeal.sig) → Buf (Elt Ideal) ℓ) : Prop :=
  True

def quiescent_X [hX : Cert.X.Facts] : Prop :=
  ∀ (m : (ℓ : Loc Cert.X.nD Cert.X.τ Cert.X.sig) → Buf (Elt Bits) ℓ) (g : Dev Cert.X.nD → PrngReg), Pre_X m →
    θ_run (Cert.X.defs (F := Bits)) (onTc (τ := Cert.X.τ) (Cert.X.main (F := Bits))) ⟨m, fun _ => 0, g⟩ (fun r => (∀ c : Dev Cert.X.nD,
      r.2.mem ((c.tc : Thread Cert.X.nD Cert.X.τ).loc Cert.X.main_arg0) = m ((c.tc : Thread Cert.X.nD Cert.X.τ).loc Cert.X.main_arg0))
      ∧ r.2.sem = fun _ => 0)

def quiescent_XIdeal [hXIdeal : Cert.XIdeal.Facts] : Prop :=
  ∀ (m : (ℓ : Loc Cert.XIdeal.nD Cert.XIdeal.τ Cert.XIdeal.sig) → Buf (Elt Ideal) ℓ) (g : Dev Cert.XIdeal.nD → PrngReg), Pre_XIdeal m →
    θ_run (Cert.XIdeal.defs (F := Ideal)) (onTc (τ := Cert.XIdeal.τ) (Cert.XIdeal.main (F := Ideal))) ⟨m, fun _ => 0, g⟩ (fun r => (∀ c : Dev Cert.XIdeal.nD,
      r.2.mem ((c.tc : Thread Cert.XIdeal.nD Cert.XIdeal.τ).loc Cert.XIdeal.main_arg0) = m ((c.tc : Thread Cert.XIdeal.nD Cert.XIdeal.τ).loc Cert.XIdeal.main_arg0))
      ∧ r.2.sem = fun _ => 0)

def quiescent_XRefIdeal [hXRefIdeal : Cert.XRefIdeal.Facts] : Prop :=
  ∀ (m : (ℓ : Loc Cert.XRefIdeal.nD Cert.XRefIdeal.τ Cert.XRefIdeal.sig) → Buf (Elt Ideal) ℓ) (g : Dev Cert.XRefIdeal.nD → PrngReg), Pre_XRefIdeal m →
    θ_run (Cert.XRefIdeal.defs (F := Ideal)) (onTc (τ := Cert.XRefIdeal.τ) (Cert.XRefIdeal.main (F := Ideal))) ⟨m, fun _ => 0, g⟩ (fun r => (∀ c : Dev Cert.XRefIdeal.nD,
      r.2.mem ((c.tc : Thread Cert.XRefIdeal.nD Cert.XRefIdeal.τ).loc Cert.XRefIdeal.main_arg0) = m ((c.tc : Thread Cert.XRefIdeal.nD Cert.XRefIdeal.τ).loc Cert.XRefIdeal.main_arg0))
      ∧ r.2.sem = fun _ => 0)

def quiescent_L [hL : Cert.L.Facts] : Prop :=
  ∀ (m : (ℓ : Loc Cert.L.nD Cert.L.τ Cert.L.sig) → Buf (Elt Bits) ℓ) (g : Dev Cert.L.nD → PrngReg), Pre_L m →
    θ_run (Cert.L.defs (F := Bits)) (onTc (τ := Cert.L.τ) (Cert.L.main (F := Bits))) ⟨m, fun _ => 0, g⟩ (fun r => (∀ c : Dev Cert.L.nD,
      r.2.mem ((c.tc : Thread Cert.L.nD Cert.L.τ).loc Cert.L.main_arg0) = m ((c.tc : Thread Cert.L.nD Cert.L.τ).loc Cert.L.main_arg0)
      ∧ r.2.mem ((c.tc : Thread Cert.L.nD Cert.L.τ).loc Cert.L.main_arg1) = m ((c.tc : Thread Cert.L.nD Cert.L.τ).loc Cert.L.main_arg1)
      ∧ r.2.mem ((c.tc : Thread Cert.L.nD Cert.L.τ).loc Cert.L.main_arg2) = m ((c.tc : Thread Cert.L.nD Cert.L.τ).loc Cert.L.main_arg2)
      ∧ r.2.mem ((c.tc : Thread Cert.L.nD Cert.L.τ).loc Cert.L.main_arg3) = m ((c.tc : Thread Cert.L.nD Cert.L.τ).loc Cert.L.main_arg3))
      ∧ r.2.sem = fun _ => 0)

def quiescent_LIdeal [hLIdeal : Cert.LIdeal.Facts] : Prop :=
  ∀ (m : (ℓ : Loc Cert.LIdeal.nD Cert.LIdeal.τ Cert.LIdeal.sig) → Buf (Elt Ideal) ℓ) (g : Dev Cert.LIdeal.nD → PrngReg), Pre_LIdeal m →
    θ_run (Cert.LIdeal.defs (F := Ideal)) (onTc (τ := Cert.LIdeal.τ) (Cert.LIdeal.main (F := Ideal))) ⟨m, fun _ => 0, g⟩ (fun r => (∀ c : Dev Cert.LIdeal.nD,
      r.2.mem ((c.tc : Thread Cert.LIdeal.nD Cert.LIdeal.τ).loc Cert.LIdeal.main_arg0) = m ((c.tc : Thread Cert.LIdeal.nD Cert.LIdeal.τ).loc Cert.LIdeal.main_arg0)
      ∧ r.2.mem ((c.tc : Thread Cert.LIdeal.nD Cert.LIdeal.τ).loc Cert.LIdeal.main_arg1) = m ((c.tc : Thread Cert.LIdeal.nD Cert.LIdeal.τ).loc Cert.LIdeal.main_arg1)
      ∧ r.2.mem ((c.tc : Thread Cert.LIdeal.nD Cert.LIdeal.τ).loc Cert.LIdeal.main_arg2) = m ((c.tc : Thread Cert.LIdeal.nD Cert.LIdeal.τ).loc Cert.LIdeal.main_arg2)
      ∧ r.2.mem ((c.tc : Thread Cert.LIdeal.nD Cert.LIdeal.τ).loc Cert.LIdeal.main_arg3) = m ((c.tc : Thread Cert.LIdeal.nD Cert.LIdeal.τ).loc Cert.LIdeal.main_arg3))
      ∧ r.2.sem = fun _ => 0)

def quiescent_LRefIdeal [hLRefIdeal : Cert.LRefIdeal.Facts] : Prop :=
  ∀ (m : (ℓ : Loc Cert.LRefIdeal.nD Cert.LRefIdeal.τ Cert.LRefIdeal.sig) → Buf (Elt Ideal) ℓ) (g : Dev Cert.LRefIdeal.nD → PrngReg), Pre_LRefIdeal m →
    θ_run (Cert.LRefIdeal.defs (F := Ideal)) (onTc (τ := Cert.LRefIdeal.τ) (Cert.LRefIdeal.main (F := Ideal))) ⟨m, fun _ => 0, g⟩ (fun r => (∀ c : Dev Cert.LRefIdeal.nD,
      r.2.mem ((c.tc : Thread Cert.LRefIdeal.nD Cert.LRefIdeal.τ).loc Cert.LRefIdeal.main_arg0) = m ((c.tc : Thread Cert.LRefIdeal.nD Cert.LRefIdeal.τ).loc Cert.LRefIdeal.main_arg0)
      ∧ r.2.mem ((c.tc : Thread Cert.LRefIdeal.nD Cert.LRefIdeal.τ).loc Cert.LRefIdeal.main_arg1) = m ((c.tc : Thread Cert.LRefIdeal.nD Cert.LRefIdeal.τ).loc Cert.LRefIdeal.main_arg1)
      ∧ r.2.mem ((c.tc : Thread Cert.LRefIdeal.nD Cert.LRefIdeal.τ).loc Cert.LRefIdeal.main_arg2) = m ((c.tc : Thread Cert.LRefIdeal.nD Cert.LRefIdeal.τ).loc Cert.LRefIdeal.main_arg2)
      ∧ r.2.mem ((c.tc : Thread Cert.LRefIdeal.nD Cert.LRefIdeal.τ).loc Cert.LRefIdeal.main_arg3) = m ((c.tc : Thread Cert.LRefIdeal.nD Cert.LRefIdeal.τ).loc Cert.LRefIdeal.main_arg3))
      ∧ r.2.sem = fun _ => 0)

def quiescent_E [hE : Cert.E.Facts] : Prop :=
  ∀ (m : (ℓ : Loc Cert.E.nD Cert.E.τ Cert.E.sig) → Buf (Elt Bits) ℓ) (g : Dev Cert.E.nD → PrngReg), Pre_E m →
    θ_run (Cert.E.defs (F := Bits)) (onTc (τ := Cert.E.τ) (Cert.E.main (F := Bits))) ⟨m, fun _ => 0, g⟩ (fun r => (∀ c : Dev Cert.E.nD,
      r.2.mem ((c.tc : Thread Cert.E.nD Cert.E.τ).loc Cert.E.main_arg0) = m ((c.tc : Thread Cert.E.nD Cert.E.τ).loc Cert.E.main_arg0)
      ∧ r.2.mem ((c.tc : Thread Cert.E.nD Cert.E.τ).loc Cert.E.main_arg1) = m ((c.tc : Thread Cert.E.nD Cert.E.τ).loc Cert.E.main_arg1)
      ∧ r.2.mem ((c.tc : Thread Cert.E.nD Cert.E.τ).loc Cert.E.main_arg2) = m ((c.tc : Thread Cert.E.nD Cert.E.τ).loc Cert.E.main_arg2)
      ∧ r.2.mem ((c.tc : Thread Cert.E.nD Cert.E.τ).loc Cert.E.main_arg3) = m ((c.tc : Thread Cert.E.nD Cert.E.τ).loc Cert.E.main_arg3))
      ∧ r.2.sem = fun _ => 0)

def quiescent_EIdeal [hEIdeal : Cert.EIdeal.Facts] : Prop :=
  ∀ (m : (ℓ : Loc Cert.EIdeal.nD Cert.EIdeal.τ Cert.EIdeal.sig) → Buf (Elt Ideal) ℓ) (g : Dev Cert.EIdeal.nD → PrngReg), Pre_EIdeal m →
    θ_run (Cert.EIdeal.defs (F := Ideal)) (onTc (τ := Cert.EIdeal.τ) (Cert.EIdeal.main (F := Ideal))) ⟨m, fun _ => 0, g⟩ (fun r => (∀ c : Dev Cert.EIdeal.nD,
      r.2.mem ((c.tc : Thread Cert.EIdeal.nD Cert.EIdeal.τ).loc Cert.EIdeal.main_arg0) = m ((c.tc : Thread Cert.EIdeal.nD Cert.EIdeal.τ).loc Cert.EIdeal.main_arg0)
      ∧ r.2.mem ((c.tc : Thread Cert.EIdeal.nD Cert.EIdeal.τ).loc Cert.EIdeal.main_arg1) = m ((c.tc : Thread Cert.EIdeal.nD Cert.EIdeal.τ).loc Cert.EIdeal.main_arg1)
      ∧ r.2.mem ((c.tc : Thread Cert.EIdeal.nD Cert.EIdeal.τ).loc Cert.EIdeal.main_arg2) = m ((c.tc : Thread Cert.EIdeal.nD Cert.EIdeal.τ).loc Cert.EIdeal.main_arg2)
      ∧ r.2.mem ((c.tc : Thread Cert.EIdeal.nD Cert.EIdeal.τ).loc Cert.EIdeal.main_arg3) = m ((c.tc : Thread Cert.EIdeal.nD Cert.EIdeal.τ).loc Cert.EIdeal.main_arg3))
      ∧ r.2.sem = fun _ => 0)

def quiescent_ERefIdeal [hERefIdeal : Cert.ERefIdeal.Facts] : Prop :=
  ∀ (m : (ℓ : Loc Cert.ERefIdeal.nD Cert.ERefIdeal.τ Cert.ERefIdeal.sig) → Buf (Elt Ideal) ℓ) (g : Dev Cert.ERefIdeal.nD → PrngReg), Pre_ERefIdeal m →
    θ_run (Cert.ERefIdeal.defs (F := Ideal)) (onTc (τ := Cert.ERefIdeal.τ) (Cert.ERefIdeal.main (F := Ideal))) ⟨m, fun _ => 0, g⟩ (fun r => (∀ c : Dev Cert.ERefIdeal.nD,
      r.2.mem ((c.tc : Thread Cert.ERefIdeal.nD Cert.ERefIdeal.τ).loc Cert.ERefIdeal.main_arg0) = m ((c.tc : Thread Cert.ERefIdeal.nD Cert.ERefIdeal.τ).loc Cert.ERefIdeal.main_arg0)
      ∧ r.2.mem ((c.tc : Thread Cert.ERefIdeal.nD Cert.ERefIdeal.τ).loc Cert.ERefIdeal.main_arg1) = m ((c.tc : Thread Cert.ERefIdeal.nD Cert.ERefIdeal.τ).loc Cert.ERefIdeal.main_arg1)
      ∧ r.2.mem ((c.tc : Thread Cert.ERefIdeal.nD Cert.ERefIdeal.τ).loc Cert.ERefIdeal.main_arg2) = m ((c.tc : Thread Cert.ERefIdeal.nD Cert.ERefIdeal.τ).loc Cert.ERefIdeal.main_arg2)
      ∧ r.2.mem ((c.tc : Thread Cert.ERefIdeal.nD Cert.ERefIdeal.τ).loc Cert.ERefIdeal.main_arg3) = m ((c.tc : Thread Cert.ERefIdeal.nD Cert.ERefIdeal.τ).loc Cert.ERefIdeal.main_arg3))
      ∧ r.2.sem = fun _ => 0)

def quiescent_F [hF : Cert.F.Facts] : Prop :=
  ∀ (m : (ℓ : Loc Cert.F.nD Cert.F.τ Cert.F.sig) → Buf (Elt Bits) ℓ) (g : Dev Cert.F.nD → PrngReg), Pre_F m →
    θ_run (Cert.F.defs (F := Bits)) (onTc (τ := Cert.F.τ) (Cert.F.main (F := Bits))) ⟨m, fun _ => 0, g⟩ (fun r => (∀ c : Dev Cert.F.nD,
      r.2.mem ((c.tc : Thread Cert.F.nD Cert.F.τ).loc Cert.F.main_arg0) = m ((c.tc : Thread Cert.F.nD Cert.F.τ).loc Cert.F.main_arg0)
      ∧ r.2.mem ((c.tc : Thread Cert.F.nD Cert.F.τ).loc Cert.F.main_arg1) = m ((c.tc : Thread Cert.F.nD Cert.F.τ).loc Cert.F.main_arg1))
      ∧ r.2.sem = fun _ => 0)

def quiescent_FIdeal [hFIdeal : Cert.FIdeal.Facts] : Prop :=
  ∀ (m : (ℓ : Loc Cert.FIdeal.nD Cert.FIdeal.τ Cert.FIdeal.sig) → Buf (Elt Ideal) ℓ) (g : Dev Cert.FIdeal.nD → PrngReg), Pre_FIdeal m →
    θ_run (Cert.FIdeal.defs (F := Ideal)) (onTc (τ := Cert.FIdeal.τ) (Cert.FIdeal.main (F := Ideal))) ⟨m, fun _ => 0, g⟩ (fun r => (∀ c : Dev Cert.FIdeal.nD,
      r.2.mem ((c.tc : Thread Cert.FIdeal.nD Cert.FIdeal.τ).loc Cert.FIdeal.main_arg0) = m ((c.tc : Thread Cert.FIdeal.nD Cert.FIdeal.τ).loc Cert.FIdeal.main_arg0)
      ∧ r.2.mem ((c.tc : Thread Cert.FIdeal.nD Cert.FIdeal.τ).loc Cert.FIdeal.main_arg1) = m ((c.tc : Thread Cert.FIdeal.nD Cert.FIdeal.τ).loc Cert.FIdeal.main_arg1))
      ∧ r.2.sem = fun _ => 0)

def quiescent_FRefIdeal [hFRefIdeal : Cert.FRefIdeal.Facts] : Prop :=
  ∀ (m : (ℓ : Loc Cert.FRefIdeal.nD Cert.FRefIdeal.τ Cert.FRefIdeal.sig) → Buf (Elt Ideal) ℓ) (g : Dev Cert.FRefIdeal.nD → PrngReg), Pre_FRefIdeal m →
    θ_run (Cert.FRefIdeal.defs (F := Ideal)) (onTc (τ := Cert.FRefIdeal.τ) (Cert.FRefIdeal.main (F := Ideal))) ⟨m, fun _ => 0, g⟩ (fun r => (∀ c : Dev Cert.FRefIdeal.nD,
      r.2.mem ((c.tc : Thread Cert.FRefIdeal.nD Cert.FRefIdeal.τ).loc Cert.FRefIdeal.main_arg0) = m ((c.tc : Thread Cert.FRefIdeal.nD Cert.FRefIdeal.τ).loc Cert.FRefIdeal.main_arg0)
      ∧ r.2.mem ((c.tc : Thread Cert.FRefIdeal.nD Cert.FRefIdeal.τ).loc Cert.FRefIdeal.main_arg1) = m ((c.tc : Thread Cert.FRefIdeal.nD Cert.FRefIdeal.τ).loc Cert.FRefIdeal.main_arg1))
      ∧ r.2.sem = fun _ => 0)

def quiescent_S [hS : Cert.S.Facts] : Prop :=
  ∀ (m : (ℓ : Loc Cert.S.nD Cert.S.τ Cert.S.sig) → Buf (Elt Bits) ℓ) (g : Dev Cert.S.nD → PrngReg), Pre_S m →
    θ_run (Cert.S.defs (F := Bits)) (onTc (τ := Cert.S.τ) (Cert.S.main (F := Bits))) ⟨m, fun _ => 0, g⟩ (fun r => (∀ c : Dev Cert.S.nD,
      r.2.mem ((c.tc : Thread Cert.S.nD Cert.S.τ).loc Cert.S.main_arg0) = m ((c.tc : Thread Cert.S.nD Cert.S.τ).loc Cert.S.main_arg0)
      ∧ r.2.mem ((c.tc : Thread Cert.S.nD Cert.S.τ).loc Cert.S.main_arg1) = m ((c.tc : Thread Cert.S.nD Cert.S.τ).loc Cert.S.main_arg1)
      ∧ r.2.mem ((c.tc : Thread Cert.S.nD Cert.S.τ).loc Cert.S.main_arg2) = m ((c.tc : Thread Cert.S.nD Cert.S.τ).loc Cert.S.main_arg2)
      ∧ r.2.mem ((c.tc : Thread Cert.S.nD Cert.S.τ).loc Cert.S.main_arg3) = m ((c.tc : Thread Cert.S.nD Cert.S.τ).loc Cert.S.main_arg3)
      ∧ r.2.mem ((c.tc : Thread Cert.S.nD Cert.S.τ).loc Cert.S.main_arg4) = m ((c.tc : Thread Cert.S.nD Cert.S.τ).loc Cert.S.main_arg4))
      ∧ r.2.sem = fun _ => 0)

def quiescent_SIdeal [hSIdeal : Cert.SIdeal.Facts] : Prop :=
  ∀ (m : (ℓ : Loc Cert.SIdeal.nD Cert.SIdeal.τ Cert.SIdeal.sig) → Buf (Elt Ideal) ℓ) (g : Dev Cert.SIdeal.nD → PrngReg), Pre_SIdeal m →
    θ_run (Cert.SIdeal.defs (F := Ideal)) (onTc (τ := Cert.SIdeal.τ) (Cert.SIdeal.main (F := Ideal))) ⟨m, fun _ => 0, g⟩ (fun r => (∀ c : Dev Cert.SIdeal.nD,
      r.2.mem ((c.tc : Thread Cert.SIdeal.nD Cert.SIdeal.τ).loc Cert.SIdeal.main_arg0) = m ((c.tc : Thread Cert.SIdeal.nD Cert.SIdeal.τ).loc Cert.SIdeal.main_arg0)
      ∧ r.2.mem ((c.tc : Thread Cert.SIdeal.nD Cert.SIdeal.τ).loc Cert.SIdeal.main_arg1) = m ((c.tc : Thread Cert.SIdeal.nD Cert.SIdeal.τ).loc Cert.SIdeal.main_arg1)
      ∧ r.2.mem ((c.tc : Thread Cert.SIdeal.nD Cert.SIdeal.τ).loc Cert.SIdeal.main_arg2) = m ((c.tc : Thread Cert.SIdeal.nD Cert.SIdeal.τ).loc Cert.SIdeal.main_arg2)
      ∧ r.2.mem ((c.tc : Thread Cert.SIdeal.nD Cert.SIdeal.τ).loc Cert.SIdeal.main_arg3) = m ((c.tc : Thread Cert.SIdeal.nD Cert.SIdeal.τ).loc Cert.SIdeal.main_arg3)
      ∧ r.2.mem ((c.tc : Thread Cert.SIdeal.nD Cert.SIdeal.τ).loc Cert.SIdeal.main_arg4) = m ((c.tc : Thread Cert.SIdeal.nD Cert.SIdeal.τ).loc Cert.SIdeal.main_arg4))
      ∧ r.2.sem = fun _ => 0)

def quiescent_SRefIdeal [hSRefIdeal : Cert.SRefIdeal.Facts] : Prop :=
  ∀ (m : (ℓ : Loc Cert.SRefIdeal.nD Cert.SRefIdeal.τ Cert.SRefIdeal.sig) → Buf (Elt Ideal) ℓ) (g : Dev Cert.SRefIdeal.nD → PrngReg), Pre_SRefIdeal m →
    θ_run (Cert.SRefIdeal.defs (F := Ideal)) (onTc (τ := Cert.SRefIdeal.τ) (Cert.SRefIdeal.main (F := Ideal))) ⟨m, fun _ => 0, g⟩ (fun r => (∀ c : Dev Cert.SRefIdeal.nD,
      r.2.mem ((c.tc : Thread Cert.SRefIdeal.nD Cert.SRefIdeal.τ).loc Cert.SRefIdeal.main_arg0) = m ((c.tc : Thread Cert.SRefIdeal.nD Cert.SRefIdeal.τ).loc Cert.SRefIdeal.main_arg0)
      ∧ r.2.mem ((c.tc : Thread Cert.SRefIdeal.nD Cert.SRefIdeal.τ).loc Cert.SRefIdeal.main_arg1) = m ((c.tc : Thread Cert.SRefIdeal.nD Cert.SRefIdeal.τ).loc Cert.SRefIdeal.main_arg1)
      ∧ r.2.mem ((c.tc : Thread Cert.SRefIdeal.nD Cert.SRefIdeal.τ).loc Cert.SRefIdeal.main_arg2) = m ((c.tc : Thread Cert.SRefIdeal.nD Cert.SRefIdeal.τ).loc Cert.SRefIdeal.main_arg2)
      ∧ r.2.mem ((c.tc : Thread Cert.SRefIdeal.nD Cert.SRefIdeal.τ).loc Cert.SRefIdeal.main_arg3) = m ((c.tc : Thread Cert.SRefIdeal.nD Cert.SRefIdeal.τ).loc Cert.SRefIdeal.main_arg3)
      ∧ r.2.mem ((c.tc : Thread Cert.SRefIdeal.nD Cert.SRefIdeal.τ).loc Cert.SRefIdeal.main_arg4) = m ((c.tc : Thread Cert.SRefIdeal.nD Cert.SRefIdeal.τ).loc Cert.SRefIdeal.main_arg4))
      ∧ r.2.sem = fun _ => 0)

def quiescent_H1 [hH1 : Cert.H1.Facts] : Prop :=
  ∀ (m : (ℓ : Loc Cert.H1.nD Cert.H1.τ Cert.H1.sig) → Buf (Elt Bits) ℓ) (g : Dev Cert.H1.nD → PrngReg), Pre_H1 m →
    θ_run (Cert.H1.defs (F := Bits)) (onTc (τ := Cert.H1.τ) (Cert.H1.main (F := Bits))) ⟨m, fun _ => 0, g⟩ (fun r => (∀ c : Dev Cert.H1.nD,
      r.2.mem ((c.tc : Thread Cert.H1.nD Cert.H1.τ).loc Cert.H1.main_arg0) = m ((c.tc : Thread Cert.H1.nD Cert.H1.τ).loc Cert.H1.main_arg0)
      ∧ r.2.mem ((c.tc : Thread Cert.H1.nD Cert.H1.τ).loc Cert.H1.main_arg1) = m ((c.tc : Thread Cert.H1.nD Cert.H1.τ).loc Cert.H1.main_arg1)
      ∧ r.2.mem ((c.tc : Thread Cert.H1.nD Cert.H1.τ).loc Cert.H1.main_arg2) = m ((c.tc : Thread Cert.H1.nD Cert.H1.τ).loc Cert.H1.main_arg2)
      ∧ r.2.mem ((c.tc : Thread Cert.H1.nD Cert.H1.τ).loc Cert.H1.main_arg3) = m ((c.tc : Thread Cert.H1.nD Cert.H1.τ).loc Cert.H1.main_arg3)
      ∧ r.2.mem ((c.tc : Thread Cert.H1.nD Cert.H1.τ).loc Cert.H1.main_arg4) = m ((c.tc : Thread Cert.H1.nD Cert.H1.τ).loc Cert.H1.main_arg4))
      ∧ r.2.sem = fun _ => 0)

def quiescent_H1Ideal [hH1Ideal : Cert.H1Ideal.Facts] : Prop :=
  ∀ (m : (ℓ : Loc Cert.H1Ideal.nD Cert.H1Ideal.τ Cert.H1Ideal.sig) → Buf (Elt Ideal) ℓ) (g : Dev Cert.H1Ideal.nD → PrngReg), Pre_H1Ideal m →
    θ_run (Cert.H1Ideal.defs (F := Ideal)) (onTc (τ := Cert.H1Ideal.τ) (Cert.H1Ideal.main (F := Ideal))) ⟨m, fun _ => 0, g⟩ (fun r => (∀ c : Dev Cert.H1Ideal.nD,
      r.2.mem ((c.tc : Thread Cert.H1Ideal.nD Cert.H1Ideal.τ).loc Cert.H1Ideal.main_arg0) = m ((c.tc : Thread Cert.H1Ideal.nD Cert.H1Ideal.τ).loc Cert.H1Ideal.main_arg0)
      ∧ r.2.mem ((c.tc : Thread Cert.H1Ideal.nD Cert.H1Ideal.τ).loc Cert.H1Ideal.main_arg1) = m ((c.tc : Thread Cert.H1Ideal.nD Cert.H1Ideal.τ).loc Cert.H1Ideal.main_arg1)
      ∧ r.2.mem ((c.tc : Thread Cert.H1Ideal.nD Cert.H1Ideal.τ).loc Cert.H1Ideal.main_arg2) = m ((c.tc : Thread Cert.H1Ideal.nD Cert.H1Ideal.τ).loc Cert.H1Ideal.main_arg2)
      ∧ r.2.mem ((c.tc : Thread Cert.H1Ideal.nD Cert.H1Ideal.τ).loc Cert.H1Ideal.main_arg3) = m ((c.tc : Thread Cert.H1Ideal.nD Cert.H1Ideal.τ).loc Cert.H1Ideal.main_arg3)
      ∧ r.2.mem ((c.tc : Thread Cert.H1Ideal.nD Cert.H1Ideal.τ).loc Cert.H1Ideal.main_arg4) = m ((c.tc : Thread Cert.H1Ideal.nD Cert.H1Ideal.τ).loc Cert.H1Ideal.main_arg4))
      ∧ r.2.sem = fun _ => 0)

def quiescent_H1RefIdeal [hH1RefIdeal : Cert.H1RefIdeal.Facts] : Prop :=
  ∀ (m : (ℓ : Loc Cert.H1RefIdeal.nD Cert.H1RefIdeal.τ Cert.H1RefIdeal.sig) → Buf (Elt Ideal) ℓ) (g : Dev Cert.H1RefIdeal.nD → PrngReg), Pre_H1RefIdeal m →
    θ_run (Cert.H1RefIdeal.defs (F := Ideal)) (onTc (τ := Cert.H1RefIdeal.τ) (Cert.H1RefIdeal.main (F := Ideal))) ⟨m, fun _ => 0, g⟩ (fun r => (∀ c : Dev Cert.H1RefIdeal.nD,
      r.2.mem ((c.tc : Thread Cert.H1RefIdeal.nD Cert.H1RefIdeal.τ).loc Cert.H1RefIdeal.main_arg0) = m ((c.tc : Thread Cert.H1RefIdeal.nD Cert.H1RefIdeal.τ).loc Cert.H1RefIdeal.main_arg0)
      ∧ r.2.mem ((c.tc : Thread Cert.H1RefIdeal.nD Cert.H1RefIdeal.τ).loc Cert.H1RefIdeal.main_arg1) = m ((c.tc : Thread Cert.H1RefIdeal.nD Cert.H1RefIdeal.τ).loc Cert.H1RefIdeal.main_arg1)
      ∧ r.2.mem ((c.tc : Thread Cert.H1RefIdeal.nD Cert.H1RefIdeal.τ).loc Cert.H1RefIdeal.main_arg2) = m ((c.tc : Thread Cert.H1RefIdeal.nD Cert.H1RefIdeal.τ).loc Cert.H1RefIdeal.main_arg2)
      ∧ r.2.mem ((c.tc : Thread Cert.H1RefIdeal.nD Cert.H1RefIdeal.τ).loc Cert.H1RefIdeal.main_arg3) = m ((c.tc : Thread Cert.H1RefIdeal.nD Cert.H1RefIdeal.τ).loc Cert.H1RefIdeal.main_arg3)
      ∧ r.2.mem ((c.tc : Thread Cert.H1RefIdeal.nD Cert.H1RefIdeal.τ).loc Cert.H1RefIdeal.main_arg4) = m ((c.tc : Thread Cert.H1RefIdeal.nD Cert.H1RefIdeal.τ).loc Cert.H1RefIdeal.main_arg4))
      ∧ r.2.sem = fun _ => 0)

def quiescent_H2 [hH2 : Cert.H2.Facts] : Prop :=
  ∀ (m : (ℓ : Loc Cert.H2.nD Cert.H2.τ Cert.H2.sig) → Buf (Elt Bits) ℓ) (g : Dev Cert.H2.nD → PrngReg), Pre_H2 m →
    θ_run (Cert.H2.defs (F := Bits)) (onTc (τ := Cert.H2.τ) (Cert.H2.main (F := Bits))) ⟨m, fun _ => 0, g⟩ (fun r => (∀ c : Dev Cert.H2.nD,
      r.2.mem ((c.tc : Thread Cert.H2.nD Cert.H2.τ).loc Cert.H2.main_arg0) = m ((c.tc : Thread Cert.H2.nD Cert.H2.τ).loc Cert.H2.main_arg0)
      ∧ r.2.mem ((c.tc : Thread Cert.H2.nD Cert.H2.τ).loc Cert.H2.main_arg1) = m ((c.tc : Thread Cert.H2.nD Cert.H2.τ).loc Cert.H2.main_arg1)
      ∧ r.2.mem ((c.tc : Thread Cert.H2.nD Cert.H2.τ).loc Cert.H2.main_arg2) = m ((c.tc : Thread Cert.H2.nD Cert.H2.τ).loc Cert.H2.main_arg2)
      ∧ r.2.mem ((c.tc : Thread Cert.H2.nD Cert.H2.τ).loc Cert.H2.main_arg3) = m ((c.tc : Thread Cert.H2.nD Cert.H2.τ).loc Cert.H2.main_arg3)
      ∧ r.2.mem ((c.tc : Thread Cert.H2.nD Cert.H2.τ).loc Cert.H2.main_arg4) = m ((c.tc : Thread Cert.H2.nD Cert.H2.τ).loc Cert.H2.main_arg4))
      ∧ r.2.sem = fun _ => 0)

def quiescent_H2Ideal [hH2Ideal : Cert.H2Ideal.Facts] : Prop :=
  ∀ (m : (ℓ : Loc Cert.H2Ideal.nD Cert.H2Ideal.τ Cert.H2Ideal.sig) → Buf (Elt Ideal) ℓ) (g : Dev Cert.H2Ideal.nD → PrngReg), Pre_H2Ideal m →
    θ_run (Cert.H2Ideal.defs (F := Ideal)) (onTc (τ := Cert.H2Ideal.τ) (Cert.H2Ideal.main (F := Ideal))) ⟨m, fun _ => 0, g⟩ (fun r => (∀ c : Dev Cert.H2Ideal.nD,
      r.2.mem ((c.tc : Thread Cert.H2Ideal.nD Cert.H2Ideal.τ).loc Cert.H2Ideal.main_arg0) = m ((c.tc : Thread Cert.H2Ideal.nD Cert.H2Ideal.τ).loc Cert.H2Ideal.main_arg0)
      ∧ r.2.mem ((c.tc : Thread Cert.H2Ideal.nD Cert.H2Ideal.τ).loc Cert.H2Ideal.main_arg1) = m ((c.tc : Thread Cert.H2Ideal.nD Cert.H2Ideal.τ).loc Cert.H2Ideal.main_arg1)
      ∧ r.2.mem ((c.tc : Thread Cert.H2Ideal.nD Cert.H2Ideal.τ).loc Cert.H2Ideal.main_arg2) = m ((c.tc : Thread Cert.H2Ideal.nD Cert.H2Ideal.τ).loc Cert.H2Ideal.main_arg2)
      ∧ r.2.mem ((c.tc : Thread Cert.H2Ideal.nD Cert.H2Ideal.τ).loc Cert.H2Ideal.main_arg3) = m ((c.tc : Thread Cert.H2Ideal.nD Cert.H2Ideal.τ).loc Cert.H2Ideal.main_arg3)
      ∧ r.2.mem ((c.tc : Thread Cert.H2Ideal.nD Cert.H2Ideal.τ).loc Cert.H2Ideal.main_arg4) = m ((c.tc : Thread Cert.H2Ideal.nD Cert.H2Ideal.τ).loc Cert.H2Ideal.main_arg4))
      ∧ r.2.sem = fun _ => 0)

def quiescent_H2RefIdeal [hH2RefIdeal : Cert.H2RefIdeal.Facts] : Prop :=
  ∀ (m : (ℓ : Loc Cert.H2RefIdeal.nD Cert.H2RefIdeal.τ Cert.H2RefIdeal.sig) → Buf (Elt Ideal) ℓ) (g : Dev Cert.H2RefIdeal.nD → PrngReg), Pre_H2RefIdeal m →
    θ_run (Cert.H2RefIdeal.defs (F := Ideal)) (onTc (τ := Cert.H2RefIdeal.τ) (Cert.H2RefIdeal.main (F := Ideal))) ⟨m, fun _ => 0, g⟩ (fun r => (∀ c : Dev Cert.H2RefIdeal.nD,
      r.2.mem ((c.tc : Thread Cert.H2RefIdeal.nD Cert.H2RefIdeal.τ).loc Cert.H2RefIdeal.main_arg0) = m ((c.tc : Thread Cert.H2RefIdeal.nD Cert.H2RefIdeal.τ).loc Cert.H2RefIdeal.main_arg0)
      ∧ r.2.mem ((c.tc : Thread Cert.H2RefIdeal.nD Cert.H2RefIdeal.τ).loc Cert.H2RefIdeal.main_arg1) = m ((c.tc : Thread Cert.H2RefIdeal.nD Cert.H2RefIdeal.τ).loc Cert.H2RefIdeal.main_arg1)
      ∧ r.2.mem ((c.tc : Thread Cert.H2RefIdeal.nD Cert.H2RefIdeal.τ).loc Cert.H2RefIdeal.main_arg2) = m ((c.tc : Thread Cert.H2RefIdeal.nD Cert.H2RefIdeal.τ).loc Cert.H2RefIdeal.main_arg2)
      ∧ r.2.mem ((c.tc : Thread Cert.H2RefIdeal.nD Cert.H2RefIdeal.τ).loc Cert.H2RefIdeal.main_arg3) = m ((c.tc : Thread Cert.H2RefIdeal.nD Cert.H2RefIdeal.τ).loc Cert.H2RefIdeal.main_arg3)
      ∧ r.2.mem ((c.tc : Thread Cert.H2RefIdeal.nD Cert.H2RefIdeal.τ).loc Cert.H2RefIdeal.main_arg4) = m ((c.tc : Thread Cert.H2RefIdeal.nD Cert.H2RefIdeal.τ).loc Cert.H2RefIdeal.main_arg4))
      ∧ r.2.sem = fun _ => 0)

def quiescent_N [hN : Cert.N.Facts] : Prop :=
  ∀ (m : (ℓ : Loc Cert.N.nD Cert.N.τ Cert.N.sig) → Buf (Elt Bits) ℓ) (g : Dev Cert.N.nD → PrngReg), Pre_N m →
    θ_run (Cert.N.defs (F := Bits)) (onTc (τ := Cert.N.τ) (Cert.N.main (F := Bits))) ⟨m, fun _ => 0, g⟩ (fun r => (∀ c : Dev Cert.N.nD,
      r.2.mem ((c.tc : Thread Cert.N.nD Cert.N.τ).loc Cert.N.main_arg0) = m ((c.tc : Thread Cert.N.nD Cert.N.τ).loc Cert.N.main_arg0)
      ∧ r.2.mem ((c.tc : Thread Cert.N.nD Cert.N.τ).loc Cert.N.main_arg1) = m ((c.tc : Thread Cert.N.nD Cert.N.τ).loc Cert.N.main_arg1)
      ∧ r.2.mem ((c.tc : Thread Cert.N.nD Cert.N.τ).loc Cert.N.main_arg2) = m ((c.tc : Thread Cert.N.nD Cert.N.τ).loc Cert.N.main_arg2)
      ∧ r.2.mem ((c.tc : Thread Cert.N.nD Cert.N.τ).loc Cert.N.main_arg3) = m ((c.tc : Thread Cert.N.nD Cert.N.τ).loc Cert.N.main_arg3))
      ∧ r.2.sem = fun _ => 0)

def quiescent_NIdeal [hNIdeal : Cert.NIdeal.Facts] : Prop :=
  ∀ (m : (ℓ : Loc Cert.NIdeal.nD Cert.NIdeal.τ Cert.NIdeal.sig) → Buf (Elt Ideal) ℓ) (g : Dev Cert.NIdeal.nD → PrngReg), Pre_NIdeal m →
    θ_run (Cert.NIdeal.defs (F := Ideal)) (onTc (τ := Cert.NIdeal.τ) (Cert.NIdeal.main (F := Ideal))) ⟨m, fun _ => 0, g⟩ (fun r => (∀ c : Dev Cert.NIdeal.nD,
      r.2.mem ((c.tc : Thread Cert.NIdeal.nD Cert.NIdeal.τ).loc Cert.NIdeal.main_arg0) = m ((c.tc : Thread Cert.NIdeal.nD Cert.NIdeal.τ).loc Cert.NIdeal.main_arg0)
      ∧ r.2.mem ((c.tc : Thread Cert.NIdeal.nD Cert.NIdeal.τ).loc Cert.NIdeal.main_arg1) = m ((c.tc : Thread Cert.NIdeal.nD Cert.NIdeal.τ).loc Cert.NIdeal.main_arg1)
      ∧ r.2.mem ((c.tc : Thread Cert.NIdeal.nD Cert.NIdeal.τ).loc Cert.NIdeal.main_arg2) = m ((c.tc : Thread Cert.NIdeal.nD Cert.NIdeal.τ).loc Cert.NIdeal.main_arg2)
      ∧ r.2.mem ((c.tc : Thread Cert.NIdeal.nD Cert.NIdeal.τ).loc Cert.NIdeal.main_arg3) = m ((c.tc : Thread Cert.NIdeal.nD Cert.NIdeal.τ).loc Cert.NIdeal.main_arg3))
      ∧ r.2.sem = fun _ => 0)

def quiescent_NRefIdeal [hNRefIdeal : Cert.NRefIdeal.Facts] : Prop :=
  ∀ (m : (ℓ : Loc Cert.NRefIdeal.nD Cert.NRefIdeal.τ Cert.NRefIdeal.sig) → Buf (Elt Ideal) ℓ) (g : Dev Cert.NRefIdeal.nD → PrngReg), Pre_NRefIdeal m →
    θ_run (Cert.NRefIdeal.defs (F := Ideal)) (onTc (τ := Cert.NRefIdeal.τ) (Cert.NRefIdeal.main (F := Ideal))) ⟨m, fun _ => 0, g⟩ (fun r => (∀ c : Dev Cert.NRefIdeal.nD,
      r.2.mem ((c.tc : Thread Cert.NRefIdeal.nD Cert.NRefIdeal.τ).loc Cert.NRefIdeal.main_arg0) = m ((c.tc : Thread Cert.NRefIdeal.nD Cert.NRefIdeal.τ).loc Cert.NRefIdeal.main_arg0)
      ∧ r.2.mem ((c.tc : Thread Cert.NRefIdeal.nD Cert.NRefIdeal.τ).loc Cert.NRefIdeal.main_arg1) = m ((c.tc : Thread Cert.NRefIdeal.nD Cert.NRefIdeal.τ).loc Cert.NRefIdeal.main_arg1)
      ∧ r.2.mem ((c.tc : Thread Cert.NRefIdeal.nD Cert.NRefIdeal.τ).loc Cert.NRefIdeal.main_arg2) = m ((c.tc : Thread Cert.NRefIdeal.nD Cert.NRefIdeal.τ).loc Cert.NRefIdeal.main_arg2)
      ∧ r.2.mem ((c.tc : Thread Cert.NRefIdeal.nD Cert.NRefIdeal.τ).loc Cert.NRefIdeal.main_arg3) = m ((c.tc : Thread Cert.NRefIdeal.nD Cert.NRefIdeal.τ).loc Cert.NRefIdeal.main_arg3))
      ∧ r.2.sem = fun _ => 0)

def preserves_X_XIdeal : Prop :=
  True

def algebraic_XIdeal_XRefIdeal [hXIdeal : Cert.XIdeal.Facts] [hXRefIdeal : Cert.XRefIdeal.Facts] : Prop :=
  ∀ (m : (ℓ : Loc Cert.XIdeal.nD Cert.XIdeal.τ Cert.XIdeal.sig) → Buf (Elt Ideal) ℓ) (g : Dev Cert.XIdeal.nD → PrngReg)
    (m' : (ℓ : Loc Cert.XRefIdeal.nD Cert.XRefIdeal.τ Cert.XRefIdeal.sig) → Buf (Elt Ideal) ℓ) (g' : Dev Cert.XRefIdeal.nD → PrngReg), Pre_XIdeal m →
    (∀ c : Dev Cert.XIdeal.nD,
      m' ((c.tc : Thread Cert.XRefIdeal.nD Cert.XRefIdeal.τ).loc Cert.XRefIdeal.main_arg0) = m ((c.tc : Thread Cert.XIdeal.nD Cert.XIdeal.τ).loc Cert.XIdeal.main_arg0)) →
    ∃ (v0 : (c : Dev Cert.XIdeal.nD) → Buf (Elt Ideal) ((c.tc : Thread Cert.XIdeal.nD Cert.XIdeal.τ).loc Cert.XIdeal.main_v0_0)) (v1 : (c : Dev Cert.XIdeal.nD) → Buf (Elt Ideal) ((c.tc : Thread Cert.XIdeal.nD Cert.XIdeal.τ).loc Cert.XIdeal.main_v0_1)) (v2 : (c : Dev Cert.XIdeal.nD) → Buf (Elt Ideal) ((c.tc : Thread Cert.XIdeal.nD Cert.XIdeal.τ).loc Cert.XIdeal.main_v0_2)),
      θ_run (Cert.XIdeal.defs (F := Ideal)) (onTc (τ := Cert.XIdeal.τ) (Cert.XIdeal.main (F := Ideal))) ⟨m, fun _ => 0, g⟩ (fun r => ∀ c : Dev Cert.XIdeal.nD,
          r.2.mem ((c.tc : Thread Cert.XIdeal.nD Cert.XIdeal.τ).loc Cert.XIdeal.main_v0_0) = v0 c
          ∧ r.2.mem ((c.tc : Thread Cert.XIdeal.nD Cert.XIdeal.τ).loc Cert.XIdeal.main_v0_1) = v1 c
          ∧ r.2.mem ((c.tc : Thread Cert.XIdeal.nD Cert.XIdeal.τ).loc Cert.XIdeal.main_v0_2) = v2 c
          ∧ r.2.mem ((c.tc : Thread Cert.XIdeal.nD Cert.XIdeal.τ).loc Cert.XIdeal.main_arg0) = m ((c.tc : Thread Cert.XIdeal.nD Cert.XIdeal.τ).loc Cert.XIdeal.main_arg0))
      ∧ θ_run (Cert.XRefIdeal.defs (F := Ideal)) (onTc (τ := Cert.XRefIdeal.τ) (Cert.XRefIdeal.main (F := Ideal))) ⟨m', fun _ => 0, g'⟩ (fun r => ∀ c : Dev Cert.XRefIdeal.nD,
          r.2.mem ((c.tc : Thread Cert.XRefIdeal.nD Cert.XRefIdeal.τ).loc Cert.XRefIdeal.main_v0_0) = v0 c
          ∧ r.2.mem ((c.tc : Thread Cert.XRefIdeal.nD Cert.XRefIdeal.τ).loc Cert.XRefIdeal.main_v0_1) = v1 c
          ∧ r.2.mem ((c.tc : Thread Cert.XRefIdeal.nD Cert.XRefIdeal.τ).loc Cert.XRefIdeal.main_v0_2) = v2 c
          ∧ r.2.mem ((c.tc : Thread Cert.XRefIdeal.nD Cert.XRefIdeal.τ).loc Cert.XRefIdeal.main_arg0) = m' ((c.tc : Thread Cert.XRefIdeal.nD Cert.XRefIdeal.τ).loc Cert.XRefIdeal.main_arg0))

def preserves_L_LIdeal : Prop :=
  True

def algebraic_LIdeal_LRefIdeal [hLIdeal : Cert.LIdeal.Facts] [hLRefIdeal : Cert.LRefIdeal.Facts] : Prop :=
  ∀ (m : (ℓ : Loc Cert.LIdeal.nD Cert.LIdeal.τ Cert.LIdeal.sig) → Buf (Elt Ideal) ℓ) (g : Dev Cert.LIdeal.nD → PrngReg)
    (m' : (ℓ : Loc Cert.LRefIdeal.nD Cert.LRefIdeal.τ Cert.LRefIdeal.sig) → Buf (Elt Ideal) ℓ) (g' : Dev Cert.LRefIdeal.nD → PrngReg), Pre_LIdeal m →
    (∀ c : Dev Cert.LIdeal.nD,
      m' ((c.tc : Thread Cert.LRefIdeal.nD Cert.LRefIdeal.τ).loc Cert.LRefIdeal.main_arg0) = m ((c.tc : Thread Cert.LIdeal.nD Cert.LIdeal.τ).loc Cert.LIdeal.main_arg0)
      ∧ m' ((c.tc : Thread Cert.LRefIdeal.nD Cert.LRefIdeal.τ).loc Cert.LRefIdeal.main_arg1) = m ((c.tc : Thread Cert.LIdeal.nD Cert.LIdeal.τ).loc Cert.LIdeal.main_arg1)
      ∧ m' ((c.tc : Thread Cert.LRefIdeal.nD Cert.LRefIdeal.τ).loc Cert.LRefIdeal.main_arg2) = m ((c.tc : Thread Cert.LIdeal.nD Cert.LIdeal.τ).loc Cert.LIdeal.main_arg2)
      ∧ m' ((c.tc : Thread Cert.LRefIdeal.nD Cert.LRefIdeal.τ).loc Cert.LRefIdeal.main_arg3) = m ((c.tc : Thread Cert.LIdeal.nD Cert.LIdeal.τ).loc Cert.LIdeal.main_arg3)) →
    ∃ (v0 : (c : Dev Cert.LIdeal.nD) → Buf (Elt Ideal) ((c.tc : Thread Cert.LIdeal.nD Cert.LIdeal.τ).loc Cert.LIdeal.main_v0)),
      θ_run (Cert.LIdeal.defs (F := Ideal)) (onTc (τ := Cert.LIdeal.τ) (Cert.LIdeal.main (F := Ideal))) ⟨m, fun _ => 0, g⟩ (fun r => ∀ c : Dev Cert.LIdeal.nD,
          r.2.mem ((c.tc : Thread Cert.LIdeal.nD Cert.LIdeal.τ).loc Cert.LIdeal.main_v0) = v0 c
          ∧ r.2.mem ((c.tc : Thread Cert.LIdeal.nD Cert.LIdeal.τ).loc Cert.LIdeal.main_arg0) = m ((c.tc : Thread Cert.LIdeal.nD Cert.LIdeal.τ).loc Cert.LIdeal.main_arg0)
          ∧ r.2.mem ((c.tc : Thread Cert.LIdeal.nD Cert.LIdeal.τ).loc Cert.LIdeal.main_arg1) = m ((c.tc : Thread Cert.LIdeal.nD Cert.LIdeal.τ).loc Cert.LIdeal.main_arg1)
          ∧ r.2.mem ((c.tc : Thread Cert.LIdeal.nD Cert.LIdeal.τ).loc Cert.LIdeal.main_arg2) = m ((c.tc : Thread Cert.LIdeal.nD Cert.LIdeal.τ).loc Cert.LIdeal.main_arg2)
          ∧ r.2.mem ((c.tc : Thread Cert.LIdeal.nD Cert.LIdeal.τ).loc Cert.LIdeal.main_arg3) = m ((c.tc : Thread Cert.LIdeal.nD Cert.LIdeal.τ).loc Cert.LIdeal.main_arg3))
      ∧ θ_run (Cert.LRefIdeal.defs (F := Ideal)) (onTc (τ := Cert.LRefIdeal.τ) (Cert.LRefIdeal.main (F := Ideal))) ⟨m', fun _ => 0, g'⟩ (fun r => ∀ c : Dev Cert.LRefIdeal.nD,
          r.2.mem ((c.tc : Thread Cert.LRefIdeal.nD Cert.LRefIdeal.τ).loc Cert.LRefIdeal.main_v0) = v0 c
          ∧ r.2.mem ((c.tc : Thread Cert.LRefIdeal.nD Cert.LRefIdeal.τ).loc Cert.LRefIdeal.main_arg0) = m' ((c.tc : Thread Cert.LRefIdeal.nD Cert.LRefIdeal.τ).loc Cert.LRefIdeal.main_arg0)
          ∧ r.2.mem ((c.tc : Thread Cert.LRefIdeal.nD Cert.LRefIdeal.τ).loc Cert.LRefIdeal.main_arg1) = m' ((c.tc : Thread Cert.LRefIdeal.nD Cert.LRefIdeal.τ).loc Cert.LRefIdeal.main_arg1)
          ∧ r.2.mem ((c.tc : Thread Cert.LRefIdeal.nD Cert.LRefIdeal.τ).loc Cert.LRefIdeal.main_arg2) = m' ((c.tc : Thread Cert.LRefIdeal.nD Cert.LRefIdeal.τ).loc Cert.LRefIdeal.main_arg2)
          ∧ r.2.mem ((c.tc : Thread Cert.LRefIdeal.nD Cert.LRefIdeal.τ).loc Cert.LRefIdeal.main_arg3) = m' ((c.tc : Thread Cert.LRefIdeal.nD Cert.LRefIdeal.τ).loc Cert.LRefIdeal.main_arg3))

def preserves_E_EIdeal : Prop :=
  True

def algebraic_EIdeal_ERefIdeal [hEIdeal : Cert.EIdeal.Facts] [hERefIdeal : Cert.ERefIdeal.Facts] : Prop :=
  ∀ (m : (ℓ : Loc Cert.EIdeal.nD Cert.EIdeal.τ Cert.EIdeal.sig) → Buf (Elt Ideal) ℓ) (g : Dev Cert.EIdeal.nD → PrngReg)
    (m' : (ℓ : Loc Cert.ERefIdeal.nD Cert.ERefIdeal.τ Cert.ERefIdeal.sig) → Buf (Elt Ideal) ℓ) (g' : Dev Cert.ERefIdeal.nD → PrngReg), Pre_EIdeal m →
    (∀ c : Dev Cert.EIdeal.nD,
      m' ((c.tc : Thread Cert.ERefIdeal.nD Cert.ERefIdeal.τ).loc Cert.ERefIdeal.main_arg0) = m ((c.tc : Thread Cert.EIdeal.nD Cert.EIdeal.τ).loc Cert.EIdeal.main_arg0)
      ∧ m' ((c.tc : Thread Cert.ERefIdeal.nD Cert.ERefIdeal.τ).loc Cert.ERefIdeal.main_arg1) = m ((c.tc : Thread Cert.EIdeal.nD Cert.EIdeal.τ).loc Cert.EIdeal.main_arg1)
      ∧ m' ((c.tc : Thread Cert.ERefIdeal.nD Cert.ERefIdeal.τ).loc Cert.ERefIdeal.main_arg2) = m ((c.tc : Thread Cert.EIdeal.nD Cert.EIdeal.τ).loc Cert.EIdeal.main_arg2)
      ∧ m' ((c.tc : Thread Cert.ERefIdeal.nD Cert.ERefIdeal.τ).loc Cert.ERefIdeal.main_arg3) = m ((c.tc : Thread Cert.EIdeal.nD Cert.EIdeal.τ).loc Cert.EIdeal.main_arg3)) →
    ∃ (v0 : (c : Dev Cert.EIdeal.nD) → Buf (Elt Ideal) ((c.tc : Thread Cert.EIdeal.nD Cert.EIdeal.τ).loc Cert.EIdeal.main_v0)),
      θ_run (Cert.EIdeal.defs (F := Ideal)) (onTc (τ := Cert.EIdeal.τ) (Cert.EIdeal.main (F := Ideal))) ⟨m, fun _ => 0, g⟩ (fun r => ∀ c : Dev Cert.EIdeal.nD,
          r.2.mem ((c.tc : Thread Cert.EIdeal.nD Cert.EIdeal.τ).loc Cert.EIdeal.main_v0) = v0 c
          ∧ r.2.mem ((c.tc : Thread Cert.EIdeal.nD Cert.EIdeal.τ).loc Cert.EIdeal.main_arg0) = m ((c.tc : Thread Cert.EIdeal.nD Cert.EIdeal.τ).loc Cert.EIdeal.main_arg0)
          ∧ r.2.mem ((c.tc : Thread Cert.EIdeal.nD Cert.EIdeal.τ).loc Cert.EIdeal.main_arg1) = m ((c.tc : Thread Cert.EIdeal.nD Cert.EIdeal.τ).loc Cert.EIdeal.main_arg1)
          ∧ r.2.mem ((c.tc : Thread Cert.EIdeal.nD Cert.EIdeal.τ).loc Cert.EIdeal.main_arg2) = m ((c.tc : Thread Cert.EIdeal.nD Cert.EIdeal.τ).loc Cert.EIdeal.main_arg2)
          ∧ r.2.mem ((c.tc : Thread Cert.EIdeal.nD Cert.EIdeal.τ).loc Cert.EIdeal.main_arg3) = m ((c.tc : Thread Cert.EIdeal.nD Cert.EIdeal.τ).loc Cert.EIdeal.main_arg3))
      ∧ θ_run (Cert.ERefIdeal.defs (F := Ideal)) (onTc (τ := Cert.ERefIdeal.τ) (Cert.ERefIdeal.main (F := Ideal))) ⟨m', fun _ => 0, g'⟩ (fun r => ∀ c : Dev Cert.ERefIdeal.nD,
          r.2.mem ((c.tc : Thread Cert.ERefIdeal.nD Cert.ERefIdeal.τ).loc Cert.ERefIdeal.main_v0) = v0 c
          ∧ r.2.mem ((c.tc : Thread Cert.ERefIdeal.nD Cert.ERefIdeal.τ).loc Cert.ERefIdeal.main_arg0) = m' ((c.tc : Thread Cert.ERefIdeal.nD Cert.ERefIdeal.τ).loc Cert.ERefIdeal.main_arg0)
          ∧ r.2.mem ((c.tc : Thread Cert.ERefIdeal.nD Cert.ERefIdeal.τ).loc Cert.ERefIdeal.main_arg1) = m' ((c.tc : Thread Cert.ERefIdeal.nD Cert.ERefIdeal.τ).loc Cert.ERefIdeal.main_arg1)
          ∧ r.2.mem ((c.tc : Thread Cert.ERefIdeal.nD Cert.ERefIdeal.τ).loc Cert.ERefIdeal.main_arg2) = m' ((c.tc : Thread Cert.ERefIdeal.nD Cert.ERefIdeal.τ).loc Cert.ERefIdeal.main_arg2)
          ∧ r.2.mem ((c.tc : Thread Cert.ERefIdeal.nD Cert.ERefIdeal.τ).loc Cert.ERefIdeal.main_arg3) = m' ((c.tc : Thread Cert.ERefIdeal.nD Cert.ERefIdeal.τ).loc Cert.ERefIdeal.main_arg3))

def preserves_F_FIdeal : Prop :=
  True

def algebraic_FIdeal_FRefIdeal [hFIdeal : Cert.FIdeal.Facts] [hFRefIdeal : Cert.FRefIdeal.Facts] : Prop :=
  ∀ (m : (ℓ : Loc Cert.FIdeal.nD Cert.FIdeal.τ Cert.FIdeal.sig) → Buf (Elt Ideal) ℓ) (g : Dev Cert.FIdeal.nD → PrngReg)
    (m' : (ℓ : Loc Cert.FRefIdeal.nD Cert.FRefIdeal.τ Cert.FRefIdeal.sig) → Buf (Elt Ideal) ℓ) (g' : Dev Cert.FRefIdeal.nD → PrngReg), Pre_FIdeal m →
    (∀ c : Dev Cert.FIdeal.nD,
      m' ((c.tc : Thread Cert.FRefIdeal.nD Cert.FRefIdeal.τ).loc Cert.FRefIdeal.main_arg0) = m ((c.tc : Thread Cert.FIdeal.nD Cert.FIdeal.τ).loc Cert.FIdeal.main_arg0)
      ∧ m' ((c.tc : Thread Cert.FRefIdeal.nD Cert.FRefIdeal.τ).loc Cert.FRefIdeal.main_arg1) = m ((c.tc : Thread Cert.FIdeal.nD Cert.FIdeal.τ).loc Cert.FIdeal.main_arg1)) →
    ∃ (v0 : (c : Dev Cert.FIdeal.nD) → Buf (Elt Ideal) ((c.tc : Thread Cert.FIdeal.nD Cert.FIdeal.τ).loc Cert.FIdeal.main_v0_0)) (v1 : (c : Dev Cert.FIdeal.nD) → Buf (Elt Ideal) ((c.tc : Thread Cert.FIdeal.nD Cert.FIdeal.τ).loc Cert.FIdeal.main_v0_1)) (v2 : (c : Dev Cert.FIdeal.nD) → Buf (Elt Ideal) ((c.tc : Thread Cert.FIdeal.nD Cert.FIdeal.τ).loc Cert.FIdeal.main_v0_2)),
      θ_run (Cert.FIdeal.defs (F := Ideal)) (onTc (τ := Cert.FIdeal.τ) (Cert.FIdeal.main (F := Ideal))) ⟨m, fun _ => 0, g⟩ (fun r => ∀ c : Dev Cert.FIdeal.nD,
          r.2.mem ((c.tc : Thread Cert.FIdeal.nD Cert.FIdeal.τ).loc Cert.FIdeal.main_v0_0) = v0 c
          ∧ r.2.mem ((c.tc : Thread Cert.FIdeal.nD Cert.FIdeal.τ).loc Cert.FIdeal.main_v0_1) = v1 c
          ∧ r.2.mem ((c.tc : Thread Cert.FIdeal.nD Cert.FIdeal.τ).loc Cert.FIdeal.main_v0_2) = v2 c
          ∧ r.2.mem ((c.tc : Thread Cert.FIdeal.nD Cert.FIdeal.τ).loc Cert.FIdeal.main_arg0) = m ((c.tc : Thread Cert.FIdeal.nD Cert.FIdeal.τ).loc Cert.FIdeal.main_arg0)
          ∧ r.2.mem ((c.tc : Thread Cert.FIdeal.nD Cert.FIdeal.τ).loc Cert.FIdeal.main_arg1) = m ((c.tc : Thread Cert.FIdeal.nD Cert.FIdeal.τ).loc Cert.FIdeal.main_arg1))
      ∧ θ_run (Cert.FRefIdeal.defs (F := Ideal)) (onTc (τ := Cert.FRefIdeal.τ) (Cert.FRefIdeal.main (F := Ideal))) ⟨m', fun _ => 0, g'⟩ (fun r => ∀ c : Dev Cert.FRefIdeal.nD,
          r.2.mem ((c.tc : Thread Cert.FRefIdeal.nD Cert.FRefIdeal.τ).loc Cert.FRefIdeal.main_v0_0) = v0 c
          ∧ r.2.mem ((c.tc : Thread Cert.FRefIdeal.nD Cert.FRefIdeal.τ).loc Cert.FRefIdeal.main_v0_1) = v1 c
          ∧ r.2.mem ((c.tc : Thread Cert.FRefIdeal.nD Cert.FRefIdeal.τ).loc Cert.FRefIdeal.main_v0_2) = v2 c
          ∧ r.2.mem ((c.tc : Thread Cert.FRefIdeal.nD Cert.FRefIdeal.τ).loc Cert.FRefIdeal.main_arg0) = m' ((c.tc : Thread Cert.FRefIdeal.nD Cert.FRefIdeal.τ).loc Cert.FRefIdeal.main_arg0)
          ∧ r.2.mem ((c.tc : Thread Cert.FRefIdeal.nD Cert.FRefIdeal.τ).loc Cert.FRefIdeal.main_arg1) = m' ((c.tc : Thread Cert.FRefIdeal.nD Cert.FRefIdeal.τ).loc Cert.FRefIdeal.main_arg1))

def preserves_S_SIdeal : Prop :=
  True

def algebraic_SIdeal_SRefIdeal [hSIdeal : Cert.SIdeal.Facts] [hSRefIdeal : Cert.SRefIdeal.Facts] : Prop :=
  ∀ (m : (ℓ : Loc Cert.SIdeal.nD Cert.SIdeal.τ Cert.SIdeal.sig) → Buf (Elt Ideal) ℓ) (g : Dev Cert.SIdeal.nD → PrngReg)
    (m' : (ℓ : Loc Cert.SRefIdeal.nD Cert.SRefIdeal.τ Cert.SRefIdeal.sig) → Buf (Elt Ideal) ℓ) (g' : Dev Cert.SRefIdeal.nD → PrngReg), Pre_SIdeal m →
    (∀ c : Dev Cert.SIdeal.nD,
      m' ((c.tc : Thread Cert.SRefIdeal.nD Cert.SRefIdeal.τ).loc Cert.SRefIdeal.main_arg0) = m ((c.tc : Thread Cert.SIdeal.nD Cert.SIdeal.τ).loc Cert.SIdeal.main_arg0)
      ∧ m' ((c.tc : Thread Cert.SRefIdeal.nD Cert.SRefIdeal.τ).loc Cert.SRefIdeal.main_arg1) = m ((c.tc : Thread Cert.SIdeal.nD Cert.SIdeal.τ).loc Cert.SIdeal.main_arg1)
      ∧ m' ((c.tc : Thread Cert.SRefIdeal.nD Cert.SRefIdeal.τ).loc Cert.SRefIdeal.main_arg2) = m ((c.tc : Thread Cert.SIdeal.nD Cert.SIdeal.τ).loc Cert.SIdeal.main_arg2)
      ∧ m' ((c.tc : Thread Cert.SRefIdeal.nD Cert.SRefIdeal.τ).loc Cert.SRefIdeal.main_arg3) = m ((c.tc : Thread Cert.SIdeal.nD Cert.SIdeal.τ).loc Cert.SIdeal.main_arg3)
      ∧ m' ((c.tc : Thread Cert.SRefIdeal.nD Cert.SRefIdeal.τ).loc Cert.SRefIdeal.main_arg4) = m ((c.tc : Thread Cert.SIdeal.nD Cert.SIdeal.τ).loc Cert.SIdeal.main_arg4)) →
    ∃ (v0 : (c : Dev Cert.SIdeal.nD) → Buf (Elt Ideal) ((c.tc : Thread Cert.SIdeal.nD Cert.SIdeal.τ).loc Cert.SIdeal.main_v0_0)) (v1 : (c : Dev Cert.SIdeal.nD) → Buf (Elt Ideal) ((c.tc : Thread Cert.SIdeal.nD Cert.SIdeal.τ).loc Cert.SIdeal.main_v0_1)) (v2 : (c : Dev Cert.SIdeal.nD) → Buf (Elt Ideal) ((c.tc : Thread Cert.SIdeal.nD Cert.SIdeal.τ).loc Cert.SIdeal.main_v0_2)),
      θ_run (Cert.SIdeal.defs (F := Ideal)) (onTc (τ := Cert.SIdeal.τ) (Cert.SIdeal.main (F := Ideal))) ⟨m, fun _ => 0, g⟩ (fun r => ∀ c : Dev Cert.SIdeal.nD,
          r.2.mem ((c.tc : Thread Cert.SIdeal.nD Cert.SIdeal.τ).loc Cert.SIdeal.main_v0_0) = v0 c
          ∧ r.2.mem ((c.tc : Thread Cert.SIdeal.nD Cert.SIdeal.τ).loc Cert.SIdeal.main_v0_1) = v1 c
          ∧ r.2.mem ((c.tc : Thread Cert.SIdeal.nD Cert.SIdeal.τ).loc Cert.SIdeal.main_v0_2) = v2 c
          ∧ r.2.mem ((c.tc : Thread Cert.SIdeal.nD Cert.SIdeal.τ).loc Cert.SIdeal.main_arg0) = m ((c.tc : Thread Cert.SIdeal.nD Cert.SIdeal.τ).loc Cert.SIdeal.main_arg0)
          ∧ r.2.mem ((c.tc : Thread Cert.SIdeal.nD Cert.SIdeal.τ).loc Cert.SIdeal.main_arg1) = m ((c.tc : Thread Cert.SIdeal.nD Cert.SIdeal.τ).loc Cert.SIdeal.main_arg1)
          ∧ r.2.mem ((c.tc : Thread Cert.SIdeal.nD Cert.SIdeal.τ).loc Cert.SIdeal.main_arg2) = m ((c.tc : Thread Cert.SIdeal.nD Cert.SIdeal.τ).loc Cert.SIdeal.main_arg2)
          ∧ r.2.mem ((c.tc : Thread Cert.SIdeal.nD Cert.SIdeal.τ).loc Cert.SIdeal.main_arg3) = m ((c.tc : Thread Cert.SIdeal.nD Cert.SIdeal.τ).loc Cert.SIdeal.main_arg3)
          ∧ r.2.mem ((c.tc : Thread Cert.SIdeal.nD Cert.SIdeal.τ).loc Cert.SIdeal.main_arg4) = m ((c.tc : Thread Cert.SIdeal.nD Cert.SIdeal.τ).loc Cert.SIdeal.main_arg4))
      ∧ θ_run (Cert.SRefIdeal.defs (F := Ideal)) (onTc (τ := Cert.SRefIdeal.τ) (Cert.SRefIdeal.main (F := Ideal))) ⟨m', fun _ => 0, g'⟩ (fun r => ∀ c : Dev Cert.SRefIdeal.nD,
          r.2.mem ((c.tc : Thread Cert.SRefIdeal.nD Cert.SRefIdeal.τ).loc Cert.SRefIdeal.main_v0_0) = v0 c
          ∧ r.2.mem ((c.tc : Thread Cert.SRefIdeal.nD Cert.SRefIdeal.τ).loc Cert.SRefIdeal.main_v0_1) = v1 c
          ∧ r.2.mem ((c.tc : Thread Cert.SRefIdeal.nD Cert.SRefIdeal.τ).loc Cert.SRefIdeal.main_v0_2) = v2 c
          ∧ r.2.mem ((c.tc : Thread Cert.SRefIdeal.nD Cert.SRefIdeal.τ).loc Cert.SRefIdeal.main_arg0) = m' ((c.tc : Thread Cert.SRefIdeal.nD Cert.SRefIdeal.τ).loc Cert.SRefIdeal.main_arg0)
          ∧ r.2.mem ((c.tc : Thread Cert.SRefIdeal.nD Cert.SRefIdeal.τ).loc Cert.SRefIdeal.main_arg1) = m' ((c.tc : Thread Cert.SRefIdeal.nD Cert.SRefIdeal.τ).loc Cert.SRefIdeal.main_arg1)
          ∧ r.2.mem ((c.tc : Thread Cert.SRefIdeal.nD Cert.SRefIdeal.τ).loc Cert.SRefIdeal.main_arg2) = m' ((c.tc : Thread Cert.SRefIdeal.nD Cert.SRefIdeal.τ).loc Cert.SRefIdeal.main_arg2)
          ∧ r.2.mem ((c.tc : Thread Cert.SRefIdeal.nD Cert.SRefIdeal.τ).loc Cert.SRefIdeal.main_arg3) = m' ((c.tc : Thread Cert.SRefIdeal.nD Cert.SRefIdeal.τ).loc Cert.SRefIdeal.main_arg3)
          ∧ r.2.mem ((c.tc : Thread Cert.SRefIdeal.nD Cert.SRefIdeal.τ).loc Cert.SRefIdeal.main_arg4) = m' ((c.tc : Thread Cert.SRefIdeal.nD Cert.SRefIdeal.τ).loc Cert.SRefIdeal.main_arg4))

def preserves_H1_H1Ideal : Prop :=
  True

def algebraic_H1Ideal_H1RefIdeal [hH1Ideal : Cert.H1Ideal.Facts] [hH1RefIdeal : Cert.H1RefIdeal.Facts] : Prop :=
  ∀ (m : (ℓ : Loc Cert.H1Ideal.nD Cert.H1Ideal.τ Cert.H1Ideal.sig) → Buf (Elt Ideal) ℓ) (g : Dev Cert.H1Ideal.nD → PrngReg)
    (m' : (ℓ : Loc Cert.H1RefIdeal.nD Cert.H1RefIdeal.τ Cert.H1RefIdeal.sig) → Buf (Elt Ideal) ℓ) (g' : Dev Cert.H1RefIdeal.nD → PrngReg), Pre_H1Ideal m →
    (∀ c : Dev Cert.H1Ideal.nD,
      m' ((c.tc : Thread Cert.H1RefIdeal.nD Cert.H1RefIdeal.τ).loc Cert.H1RefIdeal.main_arg0) = m ((c.tc : Thread Cert.H1Ideal.nD Cert.H1Ideal.τ).loc Cert.H1Ideal.main_arg0)
      ∧ m' ((c.tc : Thread Cert.H1RefIdeal.nD Cert.H1RefIdeal.τ).loc Cert.H1RefIdeal.main_arg1) = m ((c.tc : Thread Cert.H1Ideal.nD Cert.H1Ideal.τ).loc Cert.H1Ideal.main_arg1)
      ∧ m' ((c.tc : Thread Cert.H1RefIdeal.nD Cert.H1RefIdeal.τ).loc Cert.H1RefIdeal.main_arg2) = m ((c.tc : Thread Cert.H1Ideal.nD Cert.H1Ideal.τ).loc Cert.H1Ideal.main_arg2)
      ∧ m' ((c.tc : Thread Cert.H1RefIdeal.nD Cert.H1RefIdeal.τ).loc Cert.H1RefIdeal.main_arg3) = m ((c.tc : Thread Cert.H1Ideal.nD Cert.H1Ideal.τ).loc Cert.H1Ideal.main_arg3)
      ∧ m' ((c.tc : Thread Cert.H1RefIdeal.nD Cert.H1RefIdeal.τ).loc Cert.H1RefIdeal.main_arg4) = m ((c.tc : Thread Cert.H1Ideal.nD Cert.H1Ideal.τ).loc Cert.H1Ideal.main_arg4)) →
    ∃ (v0 : (c : Dev Cert.H1Ideal.nD) → Buf (Elt Ideal) ((c.tc : Thread Cert.H1Ideal.nD Cert.H1Ideal.τ).loc Cert.H1Ideal.main_v0_0)) (v1 : (c : Dev Cert.H1Ideal.nD) → Buf (Elt Ideal) ((c.tc : Thread Cert.H1Ideal.nD Cert.H1Ideal.τ).loc Cert.H1Ideal.main_v0_1)) (v2 : (c : Dev Cert.H1Ideal.nD) → Buf (Elt Ideal) ((c.tc : Thread Cert.H1Ideal.nD Cert.H1Ideal.τ).loc Cert.H1Ideal.main_v0_2)) (v3 : (c : Dev Cert.H1Ideal.nD) → Buf (Elt Ideal) ((c.tc : Thread Cert.H1Ideal.nD Cert.H1Ideal.τ).loc Cert.H1Ideal.main_v0_3)),
      θ_run (Cert.H1Ideal.defs (F := Ideal)) (onTc (τ := Cert.H1Ideal.τ) (Cert.H1Ideal.main (F := Ideal))) ⟨m, fun _ => 0, g⟩ (fun r => ∀ c : Dev Cert.H1Ideal.nD,
          r.2.mem ((c.tc : Thread Cert.H1Ideal.nD Cert.H1Ideal.τ).loc Cert.H1Ideal.main_v0_0) = v0 c
          ∧ r.2.mem ((c.tc : Thread Cert.H1Ideal.nD Cert.H1Ideal.τ).loc Cert.H1Ideal.main_v0_1) = v1 c
          ∧ r.2.mem ((c.tc : Thread Cert.H1Ideal.nD Cert.H1Ideal.τ).loc Cert.H1Ideal.main_v0_2) = v2 c
          ∧ r.2.mem ((c.tc : Thread Cert.H1Ideal.nD Cert.H1Ideal.τ).loc Cert.H1Ideal.main_v0_3) = v3 c
          ∧ r.2.mem ((c.tc : Thread Cert.H1Ideal.nD Cert.H1Ideal.τ).loc Cert.H1Ideal.main_arg0) = m ((c.tc : Thread Cert.H1Ideal.nD Cert.H1Ideal.τ).loc Cert.H1Ideal.main_arg0)
          ∧ r.2.mem ((c.tc : Thread Cert.H1Ideal.nD Cert.H1Ideal.τ).loc Cert.H1Ideal.main_arg1) = m ((c.tc : Thread Cert.H1Ideal.nD Cert.H1Ideal.τ).loc Cert.H1Ideal.main_arg1)
          ∧ r.2.mem ((c.tc : Thread Cert.H1Ideal.nD Cert.H1Ideal.τ).loc Cert.H1Ideal.main_arg2) = m ((c.tc : Thread Cert.H1Ideal.nD Cert.H1Ideal.τ).loc Cert.H1Ideal.main_arg2)
          ∧ r.2.mem ((c.tc : Thread Cert.H1Ideal.nD Cert.H1Ideal.τ).loc Cert.H1Ideal.main_arg3) = m ((c.tc : Thread Cert.H1Ideal.nD Cert.H1Ideal.τ).loc Cert.H1Ideal.main_arg3)
          ∧ r.2.mem ((c.tc : Thread Cert.H1Ideal.nD Cert.H1Ideal.τ).loc Cert.H1Ideal.main_arg4) = m ((c.tc : Thread Cert.H1Ideal.nD Cert.H1Ideal.τ).loc Cert.H1Ideal.main_arg4))
      ∧ θ_run (Cert.H1RefIdeal.defs (F := Ideal)) (onTc (τ := Cert.H1RefIdeal.τ) (Cert.H1RefIdeal.main (F := Ideal))) ⟨m', fun _ => 0, g'⟩ (fun r => ∀ c : Dev Cert.H1RefIdeal.nD,
          r.2.mem ((c.tc : Thread Cert.H1RefIdeal.nD Cert.H1RefIdeal.τ).loc Cert.H1RefIdeal.main_v0_0) = v0 c
          ∧ r.2.mem ((c.tc : Thread Cert.H1RefIdeal.nD Cert.H1RefIdeal.τ).loc Cert.H1RefIdeal.main_v0_1) = v1 c
          ∧ r.2.mem ((c.tc : Thread Cert.H1RefIdeal.nD Cert.H1RefIdeal.τ).loc Cert.H1RefIdeal.main_v0_2) = v2 c
          ∧ r.2.mem ((c.tc : Thread Cert.H1RefIdeal.nD Cert.H1RefIdeal.τ).loc Cert.H1RefIdeal.main_v0_3) = v3 c
          ∧ r.2.mem ((c.tc : Thread Cert.H1RefIdeal.nD Cert.H1RefIdeal.τ).loc Cert.H1RefIdeal.main_arg0) = m' ((c.tc : Thread Cert.H1RefIdeal.nD Cert.H1RefIdeal.τ).loc Cert.H1RefIdeal.main_arg0)
          ∧ r.2.mem ((c.tc : Thread Cert.H1RefIdeal.nD Cert.H1RefIdeal.τ).loc Cert.H1RefIdeal.main_arg1) = m' ((c.tc : Thread Cert.H1RefIdeal.nD Cert.H1RefIdeal.τ).loc Cert.H1RefIdeal.main_arg1)
          ∧ r.2.mem ((c.tc : Thread Cert.H1RefIdeal.nD Cert.H1RefIdeal.τ).loc Cert.H1RefIdeal.main_arg2) = m' ((c.tc : Thread Cert.H1RefIdeal.nD Cert.H1RefIdeal.τ).loc Cert.H1RefIdeal.main_arg2)
          ∧ r.2.mem ((c.tc : Thread Cert.H1RefIdeal.nD Cert.H1RefIdeal.τ).loc Cert.H1RefIdeal.main_arg3) = m' ((c.tc : Thread Cert.H1RefIdeal.nD Cert.H1RefIdeal.τ).loc Cert.H1RefIdeal.main_arg3)
          ∧ r.2.mem ((c.tc : Thread Cert.H1RefIdeal.nD Cert.H1RefIdeal.τ).loc Cert.H1RefIdeal.main_arg4) = m' ((c.tc : Thread Cert.H1RefIdeal.nD Cert.H1RefIdeal.τ).loc Cert.H1RefIdeal.main_arg4))

def preserves_H2_H2Ideal : Prop :=
  True

def algebraic_H2Ideal_H2RefIdeal [hH2Ideal : Cert.H2Ideal.Facts] [hH2RefIdeal : Cert.H2RefIdeal.Facts] : Prop :=
  ∀ (m : (ℓ : Loc Cert.H2Ideal.nD Cert.H2Ideal.τ Cert.H2Ideal.sig) → Buf (Elt Ideal) ℓ) (g : Dev Cert.H2Ideal.nD → PrngReg)
    (m' : (ℓ : Loc Cert.H2RefIdeal.nD Cert.H2RefIdeal.τ Cert.H2RefIdeal.sig) → Buf (Elt Ideal) ℓ) (g' : Dev Cert.H2RefIdeal.nD → PrngReg), Pre_H2Ideal m →
    (∀ c : Dev Cert.H2Ideal.nD,
      m' ((c.tc : Thread Cert.H2RefIdeal.nD Cert.H2RefIdeal.τ).loc Cert.H2RefIdeal.main_arg0) = m ((c.tc : Thread Cert.H2Ideal.nD Cert.H2Ideal.τ).loc Cert.H2Ideal.main_arg0)
      ∧ m' ((c.tc : Thread Cert.H2RefIdeal.nD Cert.H2RefIdeal.τ).loc Cert.H2RefIdeal.main_arg1) = m ((c.tc : Thread Cert.H2Ideal.nD Cert.H2Ideal.τ).loc Cert.H2Ideal.main_arg1)
      ∧ m' ((c.tc : Thread Cert.H2RefIdeal.nD Cert.H2RefIdeal.τ).loc Cert.H2RefIdeal.main_arg2) = m ((c.tc : Thread Cert.H2Ideal.nD Cert.H2Ideal.τ).loc Cert.H2Ideal.main_arg2)
      ∧ m' ((c.tc : Thread Cert.H2RefIdeal.nD Cert.H2RefIdeal.τ).loc Cert.H2RefIdeal.main_arg3) = m ((c.tc : Thread Cert.H2Ideal.nD Cert.H2Ideal.τ).loc Cert.H2Ideal.main_arg3)
      ∧ m' ((c.tc : Thread Cert.H2RefIdeal.nD Cert.H2RefIdeal.τ).loc Cert.H2RefIdeal.main_arg4) = m ((c.tc : Thread Cert.H2Ideal.nD Cert.H2Ideal.τ).loc Cert.H2Ideal.main_arg4)) →
    ∃ (v0 : (c : Dev Cert.H2Ideal.nD) → Buf (Elt Ideal) ((c.tc : Thread Cert.H2Ideal.nD Cert.H2Ideal.τ).loc Cert.H2Ideal.main_v0_0)) (v1 : (c : Dev Cert.H2Ideal.nD) → Buf (Elt Ideal) ((c.tc : Thread Cert.H2Ideal.nD Cert.H2Ideal.τ).loc Cert.H2Ideal.main_v0_1)) (v2 : (c : Dev Cert.H2Ideal.nD) → Buf (Elt Ideal) ((c.tc : Thread Cert.H2Ideal.nD Cert.H2Ideal.τ).loc Cert.H2Ideal.main_v0_2)),
      θ_run (Cert.H2Ideal.defs (F := Ideal)) (onTc (τ := Cert.H2Ideal.τ) (Cert.H2Ideal.main (F := Ideal))) ⟨m, fun _ => 0, g⟩ (fun r => ∀ c : Dev Cert.H2Ideal.nD,
          r.2.mem ((c.tc : Thread Cert.H2Ideal.nD Cert.H2Ideal.τ).loc Cert.H2Ideal.main_v0_0) = v0 c
          ∧ r.2.mem ((c.tc : Thread Cert.H2Ideal.nD Cert.H2Ideal.τ).loc Cert.H2Ideal.main_v0_1) = v1 c
          ∧ r.2.mem ((c.tc : Thread Cert.H2Ideal.nD Cert.H2Ideal.τ).loc Cert.H2Ideal.main_v0_2) = v2 c
          ∧ r.2.mem ((c.tc : Thread Cert.H2Ideal.nD Cert.H2Ideal.τ).loc Cert.H2Ideal.main_arg0) = m ((c.tc : Thread Cert.H2Ideal.nD Cert.H2Ideal.τ).loc Cert.H2Ideal.main_arg0)
          ∧ r.2.mem ((c.tc : Thread Cert.H2Ideal.nD Cert.H2Ideal.τ).loc Cert.H2Ideal.main_arg1) = m ((c.tc : Thread Cert.H2Ideal.nD Cert.H2Ideal.τ).loc Cert.H2Ideal.main_arg1)
          ∧ r.2.mem ((c.tc : Thread Cert.H2Ideal.nD Cert.H2Ideal.τ).loc Cert.H2Ideal.main_arg2) = m ((c.tc : Thread Cert.H2Ideal.nD Cert.H2Ideal.τ).loc Cert.H2Ideal.main_arg2)
          ∧ r.2.mem ((c.tc : Thread Cert.H2Ideal.nD Cert.H2Ideal.τ).loc Cert.H2Ideal.main_arg3) = m ((c.tc : Thread Cert.H2Ideal.nD Cert.H2Ideal.τ).loc Cert.H2Ideal.main_arg3)
          ∧ r.2.mem ((c.tc : Thread Cert.H2Ideal.nD Cert.H2Ideal.τ).loc Cert.H2Ideal.main_arg4) = m ((c.tc : Thread Cert.H2Ideal.nD Cert.H2Ideal.τ).loc Cert.H2Ideal.main_arg4))
      ∧ θ_run (Cert.H2RefIdeal.defs (F := Ideal)) (onTc (τ := Cert.H2RefIdeal.τ) (Cert.H2RefIdeal.main (F := Ideal))) ⟨m', fun _ => 0, g'⟩ (fun r => ∀ c : Dev Cert.H2RefIdeal.nD,
          r.2.mem ((c.tc : Thread Cert.H2RefIdeal.nD Cert.H2RefIdeal.τ).loc Cert.H2RefIdeal.main_v0_0) = v0 c
          ∧ r.2.mem ((c.tc : Thread Cert.H2RefIdeal.nD Cert.H2RefIdeal.τ).loc Cert.H2RefIdeal.main_v0_1) = v1 c
          ∧ r.2.mem ((c.tc : Thread Cert.H2RefIdeal.nD Cert.H2RefIdeal.τ).loc Cert.H2RefIdeal.main_v0_2) = v2 c
          ∧ r.2.mem ((c.tc : Thread Cert.H2RefIdeal.nD Cert.H2RefIdeal.τ).loc Cert.H2RefIdeal.main_arg0) = m' ((c.tc : Thread Cert.H2RefIdeal.nD Cert.H2RefIdeal.τ).loc Cert.H2RefIdeal.main_arg0)
          ∧ r.2.mem ((c.tc : Thread Cert.H2RefIdeal.nD Cert.H2RefIdeal.τ).loc Cert.H2RefIdeal.main_arg1) = m' ((c.tc : Thread Cert.H2RefIdeal.nD Cert.H2RefIdeal.τ).loc Cert.H2RefIdeal.main_arg1)
          ∧ r.2.mem ((c.tc : Thread Cert.H2RefIdeal.nD Cert.H2RefIdeal.τ).loc Cert.H2RefIdeal.main_arg2) = m' ((c.tc : Thread Cert.H2RefIdeal.nD Cert.H2RefIdeal.τ).loc Cert.H2RefIdeal.main_arg2)
          ∧ r.2.mem ((c.tc : Thread Cert.H2RefIdeal.nD Cert.H2RefIdeal.τ).loc Cert.H2RefIdeal.main_arg3) = m' ((c.tc : Thread Cert.H2RefIdeal.nD Cert.H2RefIdeal.τ).loc Cert.H2RefIdeal.main_arg3)
          ∧ r.2.mem ((c.tc : Thread Cert.H2RefIdeal.nD Cert.H2RefIdeal.τ).loc Cert.H2RefIdeal.main_arg4) = m' ((c.tc : Thread Cert.H2RefIdeal.nD Cert.H2RefIdeal.τ).loc Cert.H2RefIdeal.main_arg4))

def preserves_N_NIdeal : Prop :=
  True

def algebraic_NIdeal_NRefIdeal [hNIdeal : Cert.NIdeal.Facts] [hNRefIdeal : Cert.NRefIdeal.Facts] : Prop :=
  ∀ (m : (ℓ : Loc Cert.NIdeal.nD Cert.NIdeal.τ Cert.NIdeal.sig) → Buf (Elt Ideal) ℓ) (g : Dev Cert.NIdeal.nD → PrngReg)
    (m' : (ℓ : Loc Cert.NRefIdeal.nD Cert.NRefIdeal.τ Cert.NRefIdeal.sig) → Buf (Elt Ideal) ℓ) (g' : Dev Cert.NRefIdeal.nD → PrngReg), Pre_NIdeal m →
    (∀ c : Dev Cert.NIdeal.nD,
      m' ((c.tc : Thread Cert.NRefIdeal.nD Cert.NRefIdeal.τ).loc Cert.NRefIdeal.main_arg0) = m ((c.tc : Thread Cert.NIdeal.nD Cert.NIdeal.τ).loc Cert.NIdeal.main_arg0)
      ∧ m' ((c.tc : Thread Cert.NRefIdeal.nD Cert.NRefIdeal.τ).loc Cert.NRefIdeal.main_arg1) = m ((c.tc : Thread Cert.NIdeal.nD Cert.NIdeal.τ).loc Cert.NIdeal.main_arg1)
      ∧ m' ((c.tc : Thread Cert.NRefIdeal.nD Cert.NRefIdeal.τ).loc Cert.NRefIdeal.main_arg2) = m ((c.tc : Thread Cert.NIdeal.nD Cert.NIdeal.τ).loc Cert.NIdeal.main_arg2)
      ∧ m' ((c.tc : Thread Cert.NRefIdeal.nD Cert.NRefIdeal.τ).loc Cert.NRefIdeal.main_arg3) = m ((c.tc : Thread Cert.NIdeal.nD Cert.NIdeal.τ).loc Cert.NIdeal.main_arg3)) →
    ∃ (v0 : (c : Dev Cert.NIdeal.nD) → Buf (Elt Ideal) ((c.tc : Thread Cert.NIdeal.nD Cert.NIdeal.τ).loc Cert.NIdeal.main_v0_0)),
      θ_run (Cert.NIdeal.defs (F := Ideal)) (onTc (τ := Cert.NIdeal.τ) (Cert.NIdeal.main (F := Ideal))) ⟨m, fun _ => 0, g⟩ (fun r => ∀ c : Dev Cert.NIdeal.nD,
          r.2.mem ((c.tc : Thread Cert.NIdeal.nD Cert.NIdeal.τ).loc Cert.NIdeal.main_v0_0) = v0 c
          ∧ r.2.mem ((c.tc : Thread Cert.NIdeal.nD Cert.NIdeal.τ).loc Cert.NIdeal.main_arg0) = m ((c.tc : Thread Cert.NIdeal.nD Cert.NIdeal.τ).loc Cert.NIdeal.main_arg0)
          ∧ r.2.mem ((c.tc : Thread Cert.NIdeal.nD Cert.NIdeal.τ).loc Cert.NIdeal.main_arg1) = m ((c.tc : Thread Cert.NIdeal.nD Cert.NIdeal.τ).loc Cert.NIdeal.main_arg1)
          ∧ r.2.mem ((c.tc : Thread Cert.NIdeal.nD Cert.NIdeal.τ).loc Cert.NIdeal.main_arg2) = m ((c.tc : Thread Cert.NIdeal.nD Cert.NIdeal.τ).loc Cert.NIdeal.main_arg2)
          ∧ r.2.mem ((c.tc : Thread Cert.NIdeal.nD Cert.NIdeal.τ).loc Cert.NIdeal.main_arg3) = m ((c.tc : Thread Cert.NIdeal.nD Cert.NIdeal.τ).loc Cert.NIdeal.main_arg3))
      ∧ θ_run (Cert.NRefIdeal.defs (F := Ideal)) (onTc (τ := Cert.NRefIdeal.τ) (Cert.NRefIdeal.main (F := Ideal))) ⟨m', fun _ => 0, g'⟩ (fun r => ∀ c : Dev Cert.NRefIdeal.nD,
          r.2.mem ((c.tc : Thread Cert.NRefIdeal.nD Cert.NRefIdeal.τ).loc Cert.NRefIdeal.main_v0) = v0 c
          ∧ r.2.mem ((c.tc : Thread Cert.NRefIdeal.nD Cert.NRefIdeal.τ).loc Cert.NRefIdeal.main_arg0) = m' ((c.tc : Thread Cert.NRefIdeal.nD Cert.NRefIdeal.τ).loc Cert.NRefIdeal.main_arg0)
          ∧ r.2.mem ((c.tc : Thread Cert.NRefIdeal.nD Cert.NRefIdeal.τ).loc Cert.NRefIdeal.main_arg1) = m' ((c.tc : Thread Cert.NRefIdeal.nD Cert.NRefIdeal.τ).loc Cert.NRefIdeal.main_arg1)
          ∧ r.2.mem ((c.tc : Thread Cert.NRefIdeal.nD Cert.NRefIdeal.τ).loc Cert.NRefIdeal.main_arg2) = m' ((c.tc : Thread Cert.NRefIdeal.nD Cert.NRefIdeal.τ).loc Cert.NRefIdeal.main_arg2)
          ∧ r.2.mem ((c.tc : Thread Cert.NRefIdeal.nD Cert.NRefIdeal.τ).loc Cert.NRefIdeal.main_arg3) = m' ((c.tc : Thread Cert.NRefIdeal.nD Cert.NRefIdeal.τ).loc Cert.NRefIdeal.main_arg3))

def Claim : Prop :=
  ∃ (hX : Cert.X.Facts) (hXIdeal : Cert.XIdeal.Facts) (hXRefIdeal : Cert.XRefIdeal.Facts) (hL : Cert.L.Facts) (hLIdeal : Cert.LIdeal.Facts) (hLRefIdeal : Cert.LRefIdeal.Facts) (hE : Cert.E.Facts) (hEIdeal : Cert.EIdeal.Facts) (hERefIdeal : Cert.ERefIdeal.Facts) (hF : Cert.F.Facts) (hFIdeal : Cert.FIdeal.Facts) (hFRefIdeal : Cert.FRefIdeal.Facts) (hS : Cert.S.Facts) (hSIdeal : Cert.SIdeal.Facts) (hSRefIdeal : Cert.SRefIdeal.Facts) (hH1 : Cert.H1.Facts) (hH1Ideal : Cert.H1Ideal.Facts) (hH1RefIdeal : Cert.H1RefIdeal.Facts) (hH2 : Cert.H2.Facts) (hH2Ideal : Cert.H2Ideal.Facts) (hH2RefIdeal : Cert.H2RefIdeal.Facts) (hN : Cert.N.Facts) (hNIdeal : Cert.NIdeal.Facts) (hNRefIdeal : Cert.NRefIdeal.Facts),
    quiescent_X (hX := hX)
    ∧ quiescent_XIdeal (hXIdeal := hXIdeal)
    ∧ quiescent_XRefIdeal (hXRefIdeal := hXRefIdeal)
    ∧ quiescent_L (hL := hL)
    ∧ quiescent_LIdeal (hLIdeal := hLIdeal)
    ∧ quiescent_LRefIdeal (hLRefIdeal := hLRefIdeal)
    ∧ quiescent_E (hE := hE)
    ∧ quiescent_EIdeal (hEIdeal := hEIdeal)
    ∧ quiescent_ERefIdeal (hERefIdeal := hERefIdeal)
    ∧ quiescent_F (hF := hF)
    ∧ quiescent_FIdeal (hFIdeal := hFIdeal)
    ∧ quiescent_FRefIdeal (hFRefIdeal := hFRefIdeal)
    ∧ quiescent_S (hS := hS)
    ∧ quiescent_SIdeal (hSIdeal := hSIdeal)
    ∧ quiescent_SRefIdeal (hSRefIdeal := hSRefIdeal)
    ∧ quiescent_H1 (hH1 := hH1)
    ∧ quiescent_H1Ideal (hH1Ideal := hH1Ideal)
    ∧ quiescent_H1RefIdeal (hH1RefIdeal := hH1RefIdeal)
    ∧ quiescent_H2 (hH2 := hH2)
    ∧ quiescent_H2Ideal (hH2Ideal := hH2Ideal)
    ∧ quiescent_H2RefIdeal (hH2RefIdeal := hH2RefIdeal)
    ∧ quiescent_N (hN := hN)
    ∧ quiescent_NIdeal (hNIdeal := hNIdeal)
    ∧ quiescent_NRefIdeal (hNRefIdeal := hNRefIdeal)
    ∧ preserves_X_XIdeal
    ∧ algebraic_XIdeal_XRefIdeal (hXIdeal := hXIdeal) (hXRefIdeal := hXRefIdeal)
    ∧ preserves_L_LIdeal
    ∧ algebraic_LIdeal_LRefIdeal (hLIdeal := hLIdeal) (hLRefIdeal := hLRefIdeal)
    ∧ preserves_E_EIdeal
    ∧ algebraic_EIdeal_ERefIdeal (hEIdeal := hEIdeal) (hERefIdeal := hERefIdeal)
    ∧ preserves_F_FIdeal
    ∧ algebraic_FIdeal_FRefIdeal (hFIdeal := hFIdeal) (hFRefIdeal := hFRefIdeal)
    ∧ preserves_S_SIdeal
    ∧ algebraic_SIdeal_SRefIdeal (hSIdeal := hSIdeal) (hSRefIdeal := hSRefIdeal)
    ∧ preserves_H1_H1Ideal
    ∧ algebraic_H1Ideal_H1RefIdeal (hH1Ideal := hH1Ideal) (hH1RefIdeal := hH1RefIdeal)
    ∧ preserves_H2_H2Ideal
    ∧ algebraic_H2Ideal_H2RefIdeal (hH2Ideal := hH2Ideal) (hH2RefIdeal := hH2RefIdeal)
    ∧ preserves_N_NIdeal
    ∧ algebraic_NIdeal_NRefIdeal (hNIdeal := hNIdeal) (hNRefIdeal := hNRefIdeal)
-- ==== X.lean ====
abbrev S16x3072 : Shape := ⟨2, ![16, 3072]⟩
abbrev S16x128 : Shape := ⟨2, ![16, 128]⟩
abbrev S16 : Shape := ⟨1, ![16]⟩
abbrev S16x1 : Shape := ⟨2, ![16, 1]⟩
abbrev S1x246 : Shape := ⟨2, ![1, 246]⟩
abbrev S16x246 : Shape := ⟨2, ![16, 246]⟩

abbrev nBuf : Space → Nat
  | .hbm => 4
  | .vmem => 4
  | .smem => 0
  | _ => 0

abbrev bufTy : (tb : Table) → Fin (tcTables nBuf tb) → BufTy
  | .hbm, ⟨0, _⟩ => ⟨S16x3072, .f32⟩
  | .hbm, ⟨1, _⟩ => ⟨S16x3072, .fp8e4m3⟩
  | .hbm, ⟨2, _⟩ => ⟨S16x3072, .f32⟩
  | .hbm, ⟨3, _⟩ => ⟨S16x3072, .bf16⟩
  | .local _ .vmem, ⟨0, _⟩ => ⟨S16x3072, .f32⟩
  | .local _ .vmem, ⟨1, _⟩ => ⟨S16x3072, .fp8e4m3⟩
  | .local _ .vmem, ⟨2, _⟩ => ⟨S16x3072, .f32⟩
  | .local _ .vmem, ⟨3, _⟩ => ⟨S16x3072, .bf16⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== XRefIdeal.lean ====
abbrev S16x3072 : Shape := ⟨2, ![16, 3072]⟩
abbrev S16x24x128 : Shape := ⟨3, ![16, 24, 128]⟩
abbrev S16x24 : Shape := ⟨2, ![16, 24]⟩
abbrev S16x24x1 : Shape := ⟨3, ![16, 24, 1]⟩

abbrev nBuf : Space → Nat
  | .hbm => 4
  | .vmem => 4
  | .smem => 0
  | _ => 0

abbrev bufTy : (tb : Table) → Fin (tcTables nBuf tb) → BufTy
  | .hbm, ⟨0, _⟩ => ⟨S16x3072, .f32⟩
  | .hbm, ⟨1, _⟩ => ⟨S16x3072, .fp8e4m3⟩
  | .hbm, ⟨2, _⟩ => ⟨S16x3072, .f32⟩
  | .hbm, ⟨3, _⟩ => ⟨S16x3072, .bf16⟩
  | .local _ .vmem, ⟨0, _⟩ => ⟨S16x3072, .f32⟩
  | .local _ .vmem, ⟨1, _⟩ => ⟨S16x3072, .fp8e4m3⟩
  | .local _ .vmem, ⟨2, _⟩ => ⟨S16x3072, .f32⟩
  | .local _ .vmem, ⟨3, _⟩ => ⟨S16x3072, .bf16⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== L.lean ====
abbrev S16x3072 : Shape := ⟨2, ![16, 3072]⟩
abbrev S3072x3072 : Shape := ⟨2, ![3072, 3072]⟩
abbrev S24x3072 : Shape := ⟨2, ![24, 3072]⟩
abbrev S16x1 : Shape := ⟨2, ![16, 1]⟩
abbrev S3072x256 : Shape := ⟨2, ![3072, 256]⟩
abbrev S24x256 : Shape := ⟨2, ![24, 256]⟩
abbrev S16x256 : Shape := ⟨2, ![16, 256]⟩
abbrev S128x256 : Shape := ⟨2, ![128, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S16x3072, .bf16⟩
  | .hbm, ⟨1, _⟩ => ⟨S3072x3072, .fp8e4m3⟩
  | .hbm, ⟨2, _⟩ => ⟨S24x3072, .f32⟩
  | .hbm, ⟨3, _⟩ => ⟨S16x1, .f32⟩
  | .hbm, ⟨4, _⟩ => ⟨S16x3072, .f32⟩
  | .local _ .vmem, ⟨0, _⟩ => ⟨S16x3072, .bf16⟩
  | .local _ .vmem, ⟨1, _⟩ => ⟨S3072x256, .fp8e4m3⟩
  | .local _ .vmem, ⟨2, _⟩ => ⟨S3072x256, .fp8e4m3⟩
  | .local _ .vmem, ⟨3, _⟩ => ⟨S24x256, .f32⟩
  | .local _ .vmem, ⟨4, _⟩ => ⟨S24x256, .f32⟩
  | .local _ .vmem, ⟨5, _⟩ => ⟨S16x1, .f32⟩
  | .local _ .vmem, ⟨6, _⟩ => ⟨S16x256, .f32⟩
  | .local _ .vmem, ⟨7, _⟩ => ⟨S16x256, .f32⟩
  | .local _ .vmem, ⟨8, _⟩ => ⟨S3072x256, .bf16⟩
  | _, _ => ⟨S16x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LIdeal.lean ====
abbrev S16x3072 : Shape := ⟨2, ![16, 3072]⟩
abbrev S3072x3072 : Shape := ⟨2, ![3072, 3072]⟩
abbrev S24x3072 : Shape := ⟨2, ![24, 3072]⟩
abbrev S16x1 : Shape := ⟨2, ![16, 1]⟩
abbrev S3072x256 : Shape := ⟨2, ![3072, 256]⟩
abbrev S24x256 : Shape := ⟨2, ![24, 256]⟩
abbrev S16x256 : Shape := ⟨2, ![16, 256]⟩
abbrev S128x256 : Shape := ⟨2, ![128, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S16x3072, .bf16⟩
  | .hbm, ⟨1, _⟩ => ⟨S3072x3072, .fp8e4m3⟩
  | .hbm, ⟨2, _⟩ => ⟨S24x3072, .f32⟩
  | .hbm, ⟨3, _⟩ => ⟨S16x1, .f32⟩
  | .hbm, ⟨4, _⟩ => ⟨S16x3072, .f32⟩
  | .local _ .vmem, ⟨0, _⟩ => ⟨S16x3072, .bf16⟩
  | .local _ .vmem, ⟨1, _⟩ => ⟨S3072x256, .fp8e4m3⟩
  | .local _ .vmem, ⟨2, _⟩ => ⟨S3072x256, .fp8e4m3⟩
  | .local _ .vmem, ⟨3, _⟩ => ⟨S24x256, .f32⟩
  | .local _ .vmem, ⟨4, _⟩ => ⟨S24x256, .f32⟩
  | .local _ .vmem, ⟨5, _⟩ => ⟨S16x1, .f32⟩
  | .local _ .vmem, ⟨6, _⟩ => ⟨S16x256, .f32⟩
  | .local _ .vmem, ⟨7, _⟩ => ⟨S16x256, .f32⟩
  | .local _ .vmem, ⟨8, _⟩ => ⟨S3072x256, .bf16⟩
  | _, _ => ⟨S16x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LRefIdeal.lean ====
abbrev S16x3072 : Shape := ⟨2, ![16, 3072]⟩
abbrev S3072x3072 : Shape := ⟨2, ![3072, 3072]⟩
abbrev S24x3072 : Shape := ⟨2, ![24, 3072]⟩
abbrev S16x1 : Shape := ⟨2, ![16, 1]⟩
abbrev S24x128x3072 : Shape := ⟨3, ![24, 128, 3072]⟩
abbrev S24x1x3072 : Shape := ⟨3, ![24, 1, 3072]⟩

abbrev nBuf : Space → Nat
  | .hbm => 5
  | .vmem => 5
  | .smem => 0
  | _ => 0

abbrev bufTy : (tb : Table) → Fin (tcTables nBuf tb) → BufTy
  | .hbm, ⟨0, _⟩ => ⟨S16x3072, .bf16⟩
  | .hbm, ⟨1, _⟩ => ⟨S3072x3072, .fp8e4m3⟩
  | .hbm, ⟨2, _⟩ => ⟨S24x3072, .f32⟩
  | .hbm, ⟨3, _⟩ => ⟨S16x1, .f32⟩
  | .hbm, ⟨4, _⟩ => ⟨S16x3072, .f32⟩
  | .local _ .vmem, ⟨0, _⟩ => ⟨S16x3072, .bf16⟩
  | .local _ .vmem, ⟨1, _⟩ => ⟨S3072x3072, .fp8e4m3⟩
  | .local _ .vmem, ⟨2, _⟩ => ⟨S24x3072, .f32⟩
  | .local _ .vmem, ⟨3, _⟩ => ⟨S16x1, .f32⟩
  | .local _ .vmem, ⟨4, _⟩ => ⟨S16x3072, .f32⟩
  | _, _ => ⟨S16x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== E.lean ====
abbrev S480x3072 : Shape := ⟨2, ![480, 3072]⟩
abbrev S3072x3072 : Shape := ⟨2, ![3072, 3072]⟩
abbrev S24x3072 : Shape := ⟨2, ![24, 3072]⟩
abbrev S480x1 : Shape := ⟨2, ![480, 1]⟩
abbrev S3072x256 : Shape := ⟨2, ![3072, 256]⟩
abbrev S24x256 : Shape := ⟨2, ![24, 256]⟩
abbrev S480x256 : Shape := ⟨2, ![480, 256]⟩
abbrev S128x256 : Shape := ⟨2, ![128, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S480x3072, .bf16⟩
  | .hbm, ⟨1, _⟩ => ⟨S3072x3072, .fp8e4m3⟩
  | .hbm, ⟨2, _⟩ => ⟨S24x3072, .f32⟩
  | .hbm, ⟨3, _⟩ => ⟨S480x1, .f32⟩
  | .hbm, ⟨4, _⟩ => ⟨S480x3072, .f32⟩
  | .local _ .vmem, ⟨0, _⟩ => ⟨S480x3072, .bf16⟩
  | .local _ .vmem, ⟨1, _⟩ => ⟨S3072x256, .fp8e4m3⟩
  | .local _ .vmem, ⟨2, _⟩ => ⟨S3072x256, .fp8e4m3⟩
  | .local _ .vmem, ⟨3, _⟩ => ⟨S24x256, .f32⟩
  | .local _ .vmem, ⟨4, _⟩ => ⟨S24x256, .f32⟩
  | .local _ .vmem, ⟨5, _⟩ => ⟨S480x1, .f32⟩
  | .local _ .vmem, ⟨6, _⟩ => ⟨S480x256, .f32⟩
  | .local _ .vmem, ⟨7, _⟩ => ⟨S480x256, .f32⟩
  | .local _ .vmem, ⟨8, _⟩ => ⟨S3072x256, .bf16⟩
  | _, _ => ⟨S480x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S480x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S480x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S480x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ERefIdeal.lean ====
abbrev S480x3072 : Shape := ⟨2, ![480, 3072]⟩
abbrev S3072x3072 : Shape := ⟨2, ![3072, 3072]⟩
abbrev S24x3072 : Shape := ⟨2, ![24, 3072]⟩
abbrev S480x1 : Shape := ⟨2, ![480, 1]⟩
abbrev S24x128x3072 : Shape := ⟨3, ![24, 128, 3072]⟩
abbrev S24x1x3072 : Shape := ⟨3, ![24, 1, 3072]⟩

abbrev nBuf : Space → Nat
  | .hbm => 5
  | .vmem => 5
  | .smem => 0
  | _ => 0

abbrev bufTy : (tb : Table) → Fin (tcTables nBuf tb) → BufTy
  | .hbm, ⟨0, _⟩ => ⟨S480x3072, .bf16⟩
  | .hbm, ⟨1, _⟩ => ⟨S3072x3072, .fp8e4m3⟩
  | .hbm, ⟨2, _⟩ => ⟨S24x3072, .f32⟩
  | .hbm, ⟨3, _⟩ => ⟨S480x1, .f32⟩
  | .hbm, ⟨4, _⟩ => ⟨S480x3072, .f32⟩
  | .local _ .vmem, ⟨0, _⟩ => ⟨S480x3072, .bf16⟩
  | .local _ .vmem, ⟨1, _⟩ => ⟨S3072x3072, .fp8e4m3⟩
  | .local _ .vmem, ⟨2, _⟩ => ⟨S24x3072, .f32⟩
  | .local _ .vmem, ⟨3, _⟩ => ⟨S480x1, .f32⟩
  | .local _ .vmem, ⟨4, _⟩ => ⟨S480x3072, .f32⟩
  | _, _ => ⟨S480x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S480x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S480x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S480x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== F.lean ====
abbrev S96x3072 : Shape := ⟨2, ![96, 3072]⟩
abbrev S1x3072 : Shape := ⟨2, ![1, 3072]⟩
abbrev S96x128 : Shape := ⟨2, ![96, 128]⟩
abbrev S1x128 : Shape := ⟨2, ![1, 128]⟩
abbrev S96 : Shape := ⟨1, ![96]⟩
abbrev S96x1 : Shape := ⟨2, ![96, 1]⟩
abbrev S1x246 : Shape := ⟨2, ![1, 246]⟩
abbrev S96x246 : Shape := ⟨2, ![96, 246]⟩

abbrev nBuf : Space → Nat
  | .hbm => 5
  | .vmem => 5
  | .smem => 0
  | _ => 0

abbrev bufTy : (tb : Table) → Fin (tcTables nBuf tb) → BufTy
  | .hbm, ⟨0, _⟩ => ⟨S96x3072, .f32⟩
  | .hbm, ⟨1, _⟩ => ⟨S1x3072, .f32⟩
  | .hbm, ⟨2, _⟩ => ⟨S96x3072, .fp8e4m3⟩
  | .hbm, ⟨3, _⟩ => ⟨S96x3072, .f32⟩
  | .hbm, ⟨4, _⟩ => ⟨S96x3072, .bf16⟩
  | .local _ .vmem, ⟨0, _⟩ => ⟨S96x3072, .f32⟩
  | .local _ .vmem, ⟨1, _⟩ => ⟨S1x3072, .f32⟩
  | .local _ .vmem, ⟨2, _⟩ => ⟨S96x3072, .fp8e4m3⟩
  | .local _ .vmem, ⟨3, _⟩ => ⟨S96x3072, .f32⟩
  | .local _ .vmem, ⟨4, _⟩ => ⟨S96x3072, .bf16⟩
  | _, _ => ⟨S96x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S96x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== FRefIdeal.lean ====
abbrev S96x3072 : Shape := ⟨2, ![96, 3072]⟩
abbrev S1x3072 : Shape := ⟨2, ![1, 3072]⟩
abbrev S96x24x128 : Shape := ⟨3, ![96, 24, 128]⟩
abbrev S96x24 : Shape := ⟨2, ![96, 24]⟩
abbrev S96x24x1 : Shape := ⟨3, ![96, 24, 1]⟩

abbrev nBuf : Space → Nat
  | .hbm => 5
  | .vmem => 5
  | .smem => 0
  | _ => 0

abbrev bufTy : (tb : Table) → Fin (tcTables nBuf tb) → BufTy
  | .hbm, ⟨0, _⟩ => ⟨S96x3072, .f32⟩
  | .hbm, ⟨1, _⟩ => ⟨S1x3072, .f32⟩
  | .hbm, ⟨2, _⟩ => ⟨S96x3072, .fp8e4m3⟩
  | .hbm, ⟨3, _⟩ => ⟨S96x3072, .f32⟩
  | .hbm, ⟨4, _⟩ => ⟨S96x3072, .bf16⟩
  | .local _ .vmem, ⟨0, _⟩ => ⟨S96x3072, .f32⟩
  | .local _ .vmem, ⟨1, _⟩ => ⟨S1x3072, .f32⟩
  | .local _ .vmem, ⟨2, _⟩ => ⟨S96x3072, .fp8e4m3⟩
  | .local _ .vmem, ⟨3, _⟩ => ⟨S96x3072, .f32⟩
  | .local _ .vmem, ⟨4, _⟩ => ⟨S96x3072, .bf16⟩
  | _, _ => ⟨S96x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S96x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== S.lean ====
abbrev S96x3072 : Shape := ⟨2, ![96, 3072]⟩
abbrev S3072x3072 : Shape := ⟨2, ![3072, 3072]⟩
abbrev S24x3072 : Shape := ⟨2, ![24, 3072]⟩
abbrev S1x3072 : Shape := ⟨2, ![1, 3072]⟩
abbrev S3072x256 : Shape := ⟨2, ![3072, 256]⟩
abbrev S24x256 : Shape := ⟨2, ![24, 256]⟩
abbrev S96x256 : Shape := ⟨2, ![96, 256]⟩
abbrev S1x256 : Shape := ⟨2, ![1, 256]⟩
abbrev S128x256 : Shape := ⟨2, ![128, 256]⟩
abbrev S96x128 : Shape := ⟨2, ![96, 128]⟩
abbrev S96 : Shape := ⟨1, ![96]⟩
abbrev S96x1 : Shape := ⟨2, ![96, 1]⟩
abbrev S1x246 : Shape := ⟨2, ![1, 246]⟩
abbrev S96x246 : Shape := ⟨2, ![96, 246]⟩

abbrev nBuf : Space → Nat
  | .hbm => 8
  | .vmem => 16
  | .smem => 0
  | _ => 0

abbrev bufTy : (tb : Table) → Fin (tcTables nBuf tb) → BufTy
  | .hbm, ⟨0, _⟩ => ⟨S96x3072, .bf16⟩
  | .hbm, ⟨1, _⟩ => ⟨S3072x3072, .fp8e4m3⟩
  | .hbm, ⟨2, _⟩ => ⟨S24x3072, .f32⟩
  | .hbm, ⟨3, _⟩ => ⟨S96x3072, .f32⟩
  | .hbm, ⟨4, _⟩ => ⟨S1x3072, .f32⟩
  | .hbm, ⟨5, _⟩ => ⟨S96x3072, .fp8e4m3⟩
  | .hbm, ⟨6, _⟩ => ⟨S96x3072, .f32⟩
  | .hbm, ⟨7, _⟩ => ⟨S96x3072, .bf16⟩
  | .local _ .vmem, ⟨0, _⟩ => ⟨S96x3072, .bf16⟩
  | .local _ .vmem, ⟨1, _⟩ => ⟨S3072x256, .fp8e4m3⟩
  | .local _ .vmem, ⟨2, _⟩ => ⟨S3072x256, .fp8e4m3⟩
  | .local _ .vmem, ⟨3, _⟩ => ⟨S24x256, .f32⟩
  | .local _ .vmem, ⟨4, _⟩ => ⟨S24x256, .f32⟩
  | .local _ .vmem, ⟨5, _⟩ => ⟨S96x256, .f32⟩
  | .local _ .vmem, ⟨6, _⟩ => ⟨S96x256, .f32⟩
  | .local _ .vmem, ⟨7, _⟩ => ⟨S1x256, .f32⟩
  | .local _ .vmem, ⟨8, _⟩ => ⟨S1x256, .f32⟩
  | .local _ .vmem, ⟨9, _⟩ => ⟨S96x256, .fp8e4m3⟩
  | .local _ .vmem, ⟨10, _⟩ => ⟨S96x256, .fp8e4m3⟩
  | .local _ .vmem, ⟨11, _⟩ => ⟨S96x256, .f32⟩
  | .local _ .vmem, ⟨12, _⟩ => ⟨S96x256, .f32⟩
  | .local _ .vmem, ⟨13, _⟩ => ⟨S96x256, .bf16⟩
  | .local _ .vmem, ⟨14, _⟩ => ⟨S96x256, .bf16⟩
  | .local _ .vmem, ⟨15, _⟩ => ⟨S3072x256, .bf16⟩
  | _, _ => ⟨S96x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SRefIdeal.lean ====
abbrev S96x3072 : Shape := ⟨2, ![96, 3072]⟩
abbrev S3072x3072 : Shape := ⟨2, ![3072, 3072]⟩
abbrev S24x3072 : Shape := ⟨2, ![24, 3072]⟩
abbrev S1x3072 : Shape := ⟨2, ![1, 3072]⟩
abbrev S24x128x3072 : Shape := ⟨3, ![24, 128, 3072]⟩
abbrev S24x1x3072 : Shape := ⟨3, ![24, 1, 3072]⟩
abbrev S96x24x128 : Shape := ⟨3, ![96, 24, 128]⟩
abbrev S96x24 : Shape := ⟨2, ![96, 24]⟩
abbrev S96x24x1 : Shape := ⟨3, ![96, 24, 1]⟩

abbrev nBuf : Space → Nat
  | .hbm => 8
  | .vmem => 8
  | .smem => 0
  | _ => 0

abbrev bufTy : (tb : Table) → Fin (tcTables nBuf tb) → BufTy
  | .hbm, ⟨0, _⟩ => ⟨S96x3072, .bf16⟩
  | .hbm, ⟨1, _⟩ => ⟨S3072x3072, .fp8e4m3⟩
  | .hbm, ⟨2, _⟩ => ⟨S24x3072, .f32⟩
  | .hbm, ⟨3, _⟩ => ⟨S96x3072, .f32⟩
  | .hbm, ⟨4, _⟩ => ⟨S1x3072, .f32⟩
  | .hbm, ⟨5, _⟩ => ⟨S96x3072, .fp8e4m3⟩
  | .hbm, ⟨6, _⟩ => ⟨S96x3072, .f32⟩
  | .hbm, ⟨7, _⟩ => ⟨S96x3072, .bf16⟩
  | .local _ .vmem, ⟨0, _⟩ => ⟨S96x3072, .bf16⟩
  | .local _ .vmem, ⟨1, _⟩ => ⟨S3072x3072, .fp8e4m3⟩
  | .local _ .vmem, ⟨2, _⟩ => ⟨S24x3072, .f32⟩
  | .local _ .vmem, ⟨3, _⟩ => ⟨S96x3072, .f32⟩
  | .local _ .vmem, ⟨4, _⟩ => ⟨S1x3072, .f32⟩
  | .local _ .vmem, ⟨5, _⟩ => ⟨S96x3072, .fp8e4m3⟩
  | .local _ .vmem, ⟨6, _⟩ => ⟨S96x3072, .f32⟩
  | .local _ .vmem, ⟨7, _⟩ => ⟨S96x3072, .bf16⟩
  | _, _ => ⟨S96x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S96x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== H1.lean ====
abbrev S480x3072 : Shape := ⟨2, ![480, 3072]⟩
abbrev S3072x3072 : Shape := ⟨2, ![3072, 3072]⟩
abbrev S24x3072 : Shape := ⟨2, ![24, 3072]⟩
abbrev S1x3072 : Shape := ⟨2, ![1, 3072]⟩
abbrev S3072x256 : Shape := ⟨2, ![3072, 256]⟩
abbrev S24x256 : Shape := ⟨2, ![24, 256]⟩
abbrev S480x256 : Shape := ⟨2, ![480, 256]⟩
abbrev S1x256 : Shape := ⟨2, ![1, 256]⟩
abbrev S128x256 : Shape := ⟨2, ![128, 256]⟩
abbrev S480x128 : Shape := ⟨2, ![480, 128]⟩
abbrev S480 : Shape := ⟨1, ![480]⟩
abbrev S480x1 : Shape := ⟨2, ![480, 1]⟩
abbrev S1x246 : Shape := ⟨2, ![1, 246]⟩
abbrev S480x246 : Shape := ⟨2, ![480, 246]⟩

abbrev nBuf : Space → Nat
  | .hbm => 9
  | .vmem => 18
  | .smem => 0
  | _ => 0

abbrev bufTy : (tb : Table) → Fin (tcTables nBuf tb) → BufTy
  | .hbm, ⟨0, _⟩ => ⟨S480x3072, .bf16⟩
  | .hbm, ⟨1, _⟩ => ⟨S3072x3072, .fp8e4m3⟩
  | .hbm, ⟨2, _⟩ => ⟨S24x3072, .f32⟩
  | .hbm, ⟨3, _⟩ => ⟨S480x3072, .f32⟩
  | .hbm, ⟨4, _⟩ => ⟨S1x3072, .f32⟩
  | .hbm, ⟨5, _⟩ => ⟨S480x3072, .f32⟩
  | .hbm, ⟨6, _⟩ => ⟨S480x3072, .fp8e4m3⟩
  | .hbm, ⟨7, _⟩ => ⟨S480x3072, .f32⟩
  | .hbm, ⟨8, _⟩ => ⟨S480x3072, .bf16⟩
  | .local _ .vmem, ⟨0, _⟩ => ⟨S480x3072, .bf16⟩
  | .local _ .vmem, ⟨1, _⟩ => ⟨S3072x256, .fp8e4m3⟩
  | .local _ .vmem, ⟨2, _⟩ => ⟨S3072x256, .fp8e4m3⟩
  | .local _ .vmem, ⟨3, _⟩ => ⟨S24x256, .f32⟩
  | .local _ .vmem, ⟨4, _⟩ => ⟨S24x256, .f32⟩
  | .local _ .vmem, ⟨5, _⟩ => ⟨S480x256, .f32⟩
  | .local _ .vmem, ⟨6, _⟩ => ⟨S480x256, .f32⟩
  | .local _ .vmem, ⟨7, _⟩ => ⟨S1x256, .f32⟩
  | .local _ .vmem, ⟨8, _⟩ => ⟨S1x256, .f32⟩
  | .local _ .vmem, ⟨9, _⟩ => ⟨S480x256, .f32⟩
  | .local _ .vmem, ⟨10, _⟩ => ⟨S480x256, .f32⟩
  | .local _ .vmem, ⟨11, _⟩ => ⟨S480x256, .fp8e4m3⟩
  | .local _ .vmem, ⟨12, _⟩ => ⟨S480x256, .fp8e4m3⟩
  | .local _ .vmem, ⟨13, _⟩ => ⟨S480x256, .f32⟩
  | .local _ .vmem, ⟨14, _⟩ => ⟨S480x256, .f32⟩
  | .local _ .vmem, ⟨15, _⟩ => ⟨S480x256, .bf16⟩
  | .local _ .vmem, ⟨16, _⟩ => ⟨S480x256, .bf16⟩
  | .local _ .vmem, ⟨17, _⟩ => ⟨S3072x256, .bf16⟩
  | _, _ => ⟨S480x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S480x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S480x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S480x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S480x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S480x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S480x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== H1RefIdeal.lean ====
abbrev S480x3072 : Shape := ⟨2, ![480, 3072]⟩
abbrev S3072x3072 : Shape := ⟨2, ![3072, 3072]⟩
abbrev S24x3072 : Shape := ⟨2, ![24, 3072]⟩
abbrev S1x3072 : Shape := ⟨2, ![1, 3072]⟩
abbrev S24x128x3072 : Shape := ⟨3, ![24, 128, 3072]⟩
abbrev S24x1x3072 : Shape := ⟨3, ![24, 1, 3072]⟩
abbrev S480x24x128 : Shape := ⟨3, ![480, 24, 128]⟩
abbrev S480x24 : Shape := ⟨2, ![480, 24]⟩
abbrev S480x24x1 : Shape := ⟨3, ![480, 24, 1]⟩

abbrev nBuf : Space → Nat
  | .hbm => 9
  | .vmem => 9
  | .smem => 0
  | _ => 0

abbrev bufTy : (tb : Table) → Fin (tcTables nBuf tb) → BufTy
  | .hbm, ⟨0, _⟩ => ⟨S480x3072, .bf16⟩
  | .hbm, ⟨1, _⟩ => ⟨S3072x3072, .fp8e4m3⟩
  | .hbm, ⟨2, _⟩ => ⟨S24x3072, .f32⟩
  | .hbm, ⟨3, _⟩ => ⟨S480x3072, .f32⟩
  | .hbm, ⟨4, _⟩ => ⟨S1x3072, .f32⟩
  | .hbm, ⟨5, _⟩ => ⟨S480x3072, .f32⟩
  | .hbm, ⟨6, _⟩ => ⟨S480x3072, .fp8e4m3⟩
  | .hbm, ⟨7, _⟩ => ⟨S480x3072, .f32⟩
  | .hbm, ⟨8, _⟩ => ⟨S480x3072, .bf16⟩
  | .local _ .vmem, ⟨0, _⟩ => ⟨S480x3072, .bf16⟩
  | .local _ .vmem, ⟨1, _⟩ => ⟨S3072x3072, .fp8e4m3⟩
  | .local _ .vmem, ⟨2, _⟩ => ⟨S24x3072, .f32⟩
  | .local _ .vmem, ⟨3, _⟩ => ⟨S480x3072, .f32⟩
  | .local _ .vmem, ⟨4, _⟩ => ⟨S1x3072, .f32⟩
  | .local _ .vmem, ⟨5, _⟩ => ⟨S480x3072, .f32⟩
  | .local _ .vmem, ⟨6, _⟩ => ⟨S480x3072, .fp8e4m3⟩
  | .local _ .vmem, ⟨7, _⟩ => ⟨S480x3072, .f32⟩
  | .local _ .vmem, ⟨8, _⟩ => ⟨S480x3072, .bf16⟩
  | _, _ => ⟨S480x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S480x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S480x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S480x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S480x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S480x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S480x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== H2.lean ====
abbrev S480x3072 : Shape := ⟨2, ![480, 3072]⟩
abbrev S3072x3072 : Shape := ⟨2, ![3072, 3072]⟩
abbrev S24x3072 : Shape := ⟨2, ![24, 3072]⟩
abbrev S1x3072 : Shape := ⟨2, ![1, 3072]⟩
abbrev S3072x256 : Shape := ⟨2, ![3072, 256]⟩
abbrev S24x256 : Shape := ⟨2, ![24, 256]⟩
abbrev S480x256 : Shape := ⟨2, ![480, 256]⟩
abbrev S1x256 : Shape := ⟨2, ![1, 256]⟩
abbrev S128x256 : Shape := ⟨2, ![128, 256]⟩
abbrev S480x128 : Shape := ⟨2, ![480, 128]⟩
abbrev S480 : Shape := ⟨1, ![480]⟩
abbrev S480x1 : Shape := ⟨2, ![480, 1]⟩
abbrev S1x246 : Shape := ⟨2, ![1, 246]⟩
abbrev S480x246 : Shape := ⟨2, ![480, 246]⟩

abbrev nBuf : Space → Nat
  | .hbm => 8
  | .vmem => 16
  | .smem => 0
  | _ => 0

abbrev bufTy : (tb : Table) → Fin (tcTables nBuf tb) → BufTy
  | .hbm, ⟨0, _⟩ => ⟨S480x3072, .bf16⟩
  | .hbm, ⟨1, _⟩ => ⟨S3072x3072, .fp8e4m3⟩
  | .hbm, ⟨2, _⟩ => ⟨S24x3072, .f32⟩
  | .hbm, ⟨3, _⟩ => ⟨S480x3072, .f32⟩
  | .hbm, ⟨4, _⟩ => ⟨S1x3072, .f32⟩
  | .hbm, ⟨5, _⟩ => ⟨S480x3072, .fp8e4m3⟩
  | .hbm, ⟨6, _⟩ => ⟨S480x3072, .f32⟩
  | .hbm, ⟨7, _⟩ => ⟨S480x3072, .bf16⟩
  | .local _ .vmem, ⟨0, _⟩ => ⟨S480x3072, .bf16⟩
  | .local _ .vmem, ⟨1, _⟩ => ⟨S3072x256, .fp8e4m3⟩
  | .local _ .vmem, ⟨2, _⟩ => ⟨S3072x256, .fp8e4m3⟩
  | .local _ .vmem, ⟨3, _⟩ => ⟨S24x256, .f32⟩
  | .local _ .vmem, ⟨4, _⟩ => ⟨S24x256, .f32⟩
  | .local _ .vmem, ⟨5, _⟩ => ⟨S480x256, .f32⟩
  | .local _ .vmem, ⟨6, _⟩ => ⟨S480x256, .f32⟩
  | .local _ .vmem, ⟨7, _⟩ => ⟨S1x256, .f32⟩
  | .local _ .vmem, ⟨8, _⟩ => ⟨S1x256, .f32⟩
  | .local _ .vmem, ⟨9, _⟩ => ⟨S480x256, .fp8e4m3⟩
  | .local _ .vmem, ⟨10, _⟩ => ⟨S480x256, .fp8e4m3⟩
  | .local _ .vmem, ⟨11, _⟩ => ⟨S480x256, .f32⟩
  | .local _ .vmem, ⟨12, _⟩ => ⟨S480x256, .f32⟩
  | .local _ .vmem, ⟨13, _⟩ => ⟨S480x256, .bf16⟩
  | .local _ .vmem, ⟨14, _⟩ => ⟨S480x256, .bf16⟩
  | .local _ .vmem, ⟨15, _⟩ => ⟨S3072x256, .bf16⟩
  | _, _ => ⟨S480x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S480x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S480x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S480x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S480x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S480x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== H2RefIdeal.lean ====
abbrev S480x3072 : Shape := ⟨2, ![480, 3072]⟩
abbrev S3072x3072 : Shape := ⟨2, ![3072, 3072]⟩
abbrev S24x3072 : Shape := ⟨2, ![24, 3072]⟩
abbrev S1x3072 : Shape := ⟨2, ![1, 3072]⟩
abbrev S24x128x3072 : Shape := ⟨3, ![24, 128, 3072]⟩
abbrev S24x1x3072 : Shape := ⟨3, ![24, 1, 3072]⟩
abbrev S480x24x128 : Shape := ⟨3, ![480, 24, 128]⟩
abbrev S480x24 : Shape := ⟨2, ![480, 24]⟩
abbrev S480x24x1 : Shape := ⟨3, ![480, 24, 1]⟩

abbrev nBuf : Space → Nat
  | .hbm => 8
  | .vmem => 8
  | .smem => 0
  | _ => 0

abbrev bufTy : (tb : Table) → Fin (tcTables nBuf tb) → BufTy
  | .hbm, ⟨0, _⟩ => ⟨S480x3072, .bf16⟩
  | .hbm, ⟨1, _⟩ => ⟨S3072x3072, .fp8e4m3⟩
  | .hbm, ⟨2, _⟩ => ⟨S24x3072, .f32⟩
  | .hbm, ⟨3, _⟩ => ⟨S480x3072, .f32⟩
  | .hbm, ⟨4, _⟩ => ⟨S1x3072, .f32⟩
  | .hbm, ⟨5, _⟩ => ⟨S480x3072, .fp8e4m3⟩
  | .hbm, ⟨6, _⟩ => ⟨S480x3072, .f32⟩
  | .hbm, ⟨7, _⟩ => ⟨S480x3072, .bf16⟩
  | .local _ .vmem, ⟨0, _⟩ => ⟨S480x3072, .bf16⟩
  | .local _ .vmem, ⟨1, _⟩ => ⟨S3072x3072, .fp8e4m3⟩
  | .local _ .vmem, ⟨2, _⟩ => ⟨S24x3072, .f32⟩
  | .local _ .vmem, ⟨3, _⟩ => ⟨S480x3072, .f32⟩
  | .local _ .vmem, ⟨4, _⟩ => ⟨S1x3072, .f32⟩
  | .local _ .vmem, ⟨5, _⟩ => ⟨S480x3072, .fp8e4m3⟩
  | .local _ .vmem, ⟨6, _⟩ => ⟨S480x3072, .f32⟩
  | .local _ .vmem, ⟨7, _⟩ => ⟨S480x3072, .bf16⟩
  | _, _ => ⟨S480x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S480x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S480x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S480x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S480x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S480x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== N.lean ====
abbrev S480x3072 : Shape := ⟨2, ![480, 3072]⟩
abbrev S3072x128256 : Shape := ⟨2, ![3072, 128256]⟩
abbrev S24x128256 : Shape := ⟨2, ![24, 128256]⟩
abbrev S480x1 : Shape := ⟨2, ![480, 1]⟩
abbrev S96x5x128256 : Shape := ⟨3, ![96, 5, 128256]⟩
abbrev S3072x512 : Shape := ⟨2, ![3072, 512]⟩
abbrev S24x512 : Shape := ⟨2, ![24, 512]⟩
abbrev S96x5x512 : Shape := ⟨3, ![96, 5, 512]⟩
abbrev S4x488x128 : Shape := ⟨3, ![4, 488, 128]⟩
abbrev S480x128 : Shape := ⟨2, ![480, 128]⟩
abbrev S128x512 : Shape := ⟨2, ![128, 512]⟩
abbrev S1x512 : Shape := ⟨2, ![1, 512]⟩
abbrev S480x512 : Shape := ⟨2, ![480, 512]⟩
abbrev S1x480x128 : Shape := ⟨3, ![1, 480, 128]⟩
abbrev S1x5x128 : Shape := ⟨3, ![1, 5, 128]⟩
abbrev S5x128 : Shape := ⟨2, ![5, 128]⟩
abbrev S480 : Shape := ⟨1, ![480]⟩

abbrev nBuf : Space → Nat
  | .hbm => 7
  | .vmem => 15
  | .smem => 0
  | _ => 0

abbrev bufTy : (tb : Table) → Fin (tcTables nBuf tb) → BufTy
  | .hbm, ⟨0, _⟩ => ⟨S480x3072, .bf16⟩
  | .hbm, ⟨1, _⟩ => ⟨S3072x128256, .fp8e4m3⟩
  | .hbm, ⟨2, _⟩ => ⟨S24x128256, .f32⟩
  | .hbm, ⟨3, _⟩ => ⟨S480x1, .i32⟩
  | .hbm, ⟨4, _⟩ => ⟨S96x5x128256, .bf16⟩
  | .hbm, ⟨5, _⟩ => ⟨S480x1, .f32⟩
  | .hbm, ⟨6, _⟩ => ⟨S480x1, .f32⟩
  | .local _ .vmem, ⟨0, _⟩ => ⟨S480x3072, .bf16⟩
  | .local _ .vmem, ⟨1, _⟩ => ⟨S3072x512, .fp8e4m3⟩
  | .local _ .vmem, ⟨2, _⟩ => ⟨S3072x512, .fp8e4m3⟩
  | .local _ .vmem, ⟨3, _⟩ => ⟨S24x512, .f32⟩
  | .local _ .vmem, ⟨4, _⟩ => ⟨S24x512, .f32⟩
  | .local _ .vmem, ⟨5, _⟩ => ⟨S480x1, .i32⟩
  | .local _ .vmem, ⟨6, _⟩ => ⟨S96x5x512, .bf16⟩
  | .local _ .vmem, ⟨7, _⟩ => ⟨S96x5x512, .bf16⟩
  | .local _ .vmem, ⟨8, _⟩ => ⟨S480x1, .f32⟩
  | .local _ .vmem, ⟨9, _⟩ => ⟨S480x1, .f32⟩
  | .local _ .vmem, ⟨10, _⟩ => ⟨S3072x512, .bf16⟩
  | .local _ .vmem, ⟨11, _⟩ => ⟨S4x488x128, .f32⟩
  | .local _ .vmem, ⟨12, _⟩ => ⟨S480x128, .f32⟩
  | .local _ .vmem, ⟨13, _⟩ => ⟨S480x128, .f32⟩
  | .local _ .vmem, ⟨14, _⟩ => ⟨S480x128, .f32⟩
  | _, _ => ⟨S480x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![251], ![false]⟩

def k0_cond2 (i : grid0.Coords) : BitVec 1 :=
  let arg0 : BitVec 32 := BitVec.ofNat 32 (i 0).val
  let c250_i32 : BitVec 32 := 250#32
  let v2654 : BitVec 1 := Scalar.cmpi .eq arg0 c250_i32
  let v2655 : BitVec 32 := Scalar.extui v2654
  let c0_i32_2319 : BitVec 32 := 0#32
  let v2656 : BitVec 1 := Scalar.cmpi .ne v2655 c0_i32_2319
  v2656

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S480x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S480x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x5x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S480x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S480x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NRefIdeal.lean ====
abbrev S480x3072 : Shape := ⟨2, ![480, 3072]⟩
abbrev S3072x128256 : Shape := ⟨2, ![3072, 128256]⟩
abbrev S24x128256 : Shape := ⟨2, ![24, 128256]⟩
abbrev S480x1 : Shape := ⟨2, ![480, 1]⟩
abbrev S96x5x128256 : Shape := ⟨3, ![96, 5, 128256]⟩
abbrev S24x128x128256 : Shape := ⟨3, ![24, 128, 128256]⟩
abbrev S24x1x128256 : Shape := ⟨3, ![24, 1, 128256]⟩
abbrev S480x128256 : Shape := ⟨2, ![480, 128256]⟩

abbrev nBuf : Space → Nat
  | .hbm => 5
  | .vmem => 4
  | .smem => 0
  | _ => 0

abbrev bufTy : (tb : Table) → Fin (tcTables nBuf tb) → BufTy
  | .hbm, ⟨0, _⟩ => ⟨S480x3072, .bf16⟩
  | .hbm, ⟨1, _⟩ => ⟨S3072x128256, .fp8e4m3⟩
  | .hbm, ⟨2, _⟩ => ⟨S24x128256, .f32⟩
  | .hbm, ⟨3, _⟩ => ⟨S480x1, .i32⟩
  | .hbm, ⟨4, _⟩ => ⟨S96x5x128256, .bf16⟩
  | .local _ .vmem, ⟨0, _⟩ => ⟨S480x3072, .bf16⟩
  | .local _ .vmem, ⟨1, _⟩ => ⟨S3072x128256, .fp8e4m3⟩
  | .local _ .vmem, ⟨2, _⟩ => ⟨S24x128256, .f32⟩
  | .local _ .vmem, ⟨3, _⟩ => ⟨S96x5x128256, .bf16⟩
  | _, _ => ⟨S480x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S480x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x128256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x128256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x5x128256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Quantiser.lean ====
module

public import Idealize.ShloMosaic.Lib.IdealHost

/-!
# The quantiser's power of two

A group of 128 values is scaled by a power of two taken from its largest absolute value `a`. The reference
takes the exponent from a logarithm; the kernel counts the powers of two that `a / 448` reaches and writes the
count into the exponent field of a float. Over the extended reals the two are the same number.
-/

@[expose] public section

noncomputable section

namespace Cert.Quantiser

open Idealize.ShloMosaic

/-- The exponent as the reference states it. -/
def expo (a : EReal) : EReal :=
  if a = 0 then 0
  else min (Ideal.ofBits .f32 0x42F00000#32) (max (Ideal.ofBits .f32 0xC2FC0000#32)
    (Ideal.liftRound Int.floor (Ideal.div (Ideal.log (a * Ideal.ofBits .f32 0x3B124925#32)) (Ideal.log (Ideal.ofBits .f32 0x40000000#32))) + 1))

/-- How many of the powers of two `2 ^ (-126) … 2 ^ 119` the number `q` reaches, as the kernel counts them. -/
def field (q : EReal) : BitVec 32 :=
  Finset.fold IntOp.addi (0#32)
    (fun x : Fin 246 => if Ideal.ofBits .f32 (IntOp.shli ArithUnit.vector (IntOp.addi (BitVec.ofNat 32 ↑x) 1#32) 23#32) ≤ q then 1#32 else 0#32)
    Finset.univ

/-- The exponent as the kernel computes it, an integer word. -/
def word (a : EReal) : BitVec 32 :=
  if a * Ideal.ofBits .f32 0x3B124925#32 = 0 then 0#32 else IntOp.subi (field (a * Ideal.ofBits .f32 0x3B124925#32)) 126#32

/-- The scale read from its exponent field. -/
def scale (a : EReal) : EReal := Ideal.ofBits .f32 (IntOp.shli ArithUnit.vector (IntOp.addi (word a) 127#32) 23#32)

/-- The reciprocal of the scale read from its exponent field. -/
def recip (a : EReal) : EReal := Ideal.ofBits .f32 (IntOp.shli ArithUnit.vector (IntOp.subi 127#32 (word a)) 23#32)

theorem field_bits : ∀ n : Fin 255,
    ((IntOp.shli ArithUnit.vector (BitVec.ofNat 32 n) 23#32).extractLsb' 31 1 == 1#1) = false
    ∧ ((IntOp.shli ArithUnit.vector (BitVec.ofNat 32 n) 23#32).extractLsb' 23 8).toNat = n
    ∧ ((IntOp.shli ArithUnit.vector (BitVec.ofNat 32 n) 23#32).extractLsb' 0 23).toNat = 0 := by decide +kernel

/-- A positive float of significand one, from its fields. -/
theorem ieee_pow (b : BitVec 32) (n : ℕ) (h1 : 1 ≤ n) (h2 : n < 255) (hs : (b.extractLsb' 31 1 == 1#1) = false)
    (he : (b.extractLsb' 23 8).toNat = n) (hf : (b.extractLsb' 0 23).toNat = 0) :
    Ideal.ofBits .f32 b = (((2 : ℝ) ^ ((n : ℤ) - 127) : ℝ) : EReal) := by
  simp only [Ideal.ofBits, Ideal.ieee, Nat.reduceAdd, hs, he, hf]
  rw [if_neg (by omega), if_neg (by omega)]
  congr 1
  have : (n : ℤ) - 127 = 23 + ((n : ℤ) - (2 ^ (8 - 1) - 1) - (23 : ℕ)) := by push_cast; ring
  rw [this, zpow_add₀ (by norm_num)]
  norm_num

/-- A word with only its exponent field `n` set, read as a float, is `2 ^ (n - 127)`. -/
theorem ofBits_field (n : ℕ) (h1 : 1 ≤ n) (h2 : n < 255) :
    Ideal.ofBits .f32 (IntOp.shli ArithUnit.vector (BitVec.ofNat 32 n) 23#32) = (((2 : ℝ) ^ ((n : ℤ) - 127) : ℝ) : EReal) :=
  ieee_pow _ n h1 h2 (field_bits ⟨n, h2⟩).1 (field_bits ⟨n, h2⟩).2.1 (field_bits ⟨n, h2⟩).2.2

theorem ofBits_two : Ideal.ofBits .f32 0x40000000#32 = ((2 : ℝ) : EReal) := by
  simp [Ideal.ofBits, Ideal.ieee, -EReal.coe_mul, -EReal.coe_neg]; norm_num

theorem ofBits_lo : Ideal.ofBits .f32 0xC2FC0000#32 = ((-126 : ℝ) : EReal) := by
  simp [Ideal.ofBits, Ideal.ieee, -EReal.coe_mul, -EReal.coe_neg]; norm_num

theorem ofBits_hi : Ideal.ofBits .f32 0x42F00000#32 = ((120 : ℝ) : EReal) := by
  simp [Ideal.ofBits, Ideal.ieee, -EReal.coe_mul, -EReal.coe_neg]; norm_num

theorem ofBits_bot : Ideal.ofBits .f32 0xFF800000#32 = ⊥ := by
  simp [Ideal.ofBits, Ideal.ieee]

/-- The constant the largest absolute value is multiplied by is a positive number. -/
theorem ofBits_recip : ∃ c : ℝ, 0 < c ∧ Ideal.ofBits .f32 0x3B124925#32 = (c : EReal) := by
  refine ⟨9586981 * 2 ^ (-32 : ℤ), by positivity, ?_⟩
  simp [Ideal.ofBits, Ideal.ieee, -EReal.coe_mul, -EReal.coe_neg]

/-- A count by folding is a cardinality. -/
theorem fold_count {ι : Type} [DecidableEq ι] (s : Finset ι) (p : ι → Prop) [DecidablePred p] :
    Finset.fold IntOp.addi (0#32) (fun x => if p x then 1#32 else 0#32) s = BitVec.ofNat 32 (s.filter p).card := by
  induction s using Finset.induction_on with
  | empty => simp
  | insert a s ha ih =>
    rw [Finset.fold_insert ha, ih, Finset.filter_insert]
    by_cases hp : p a
    · rw [if_pos hp, if_pos hp, Finset.card_insert_of_notMem (by simp [ha])]
      simp only [IntOp.addi]
      rw [← BitVec.ofNat_add, Nat.add_comm]
    · rw [if_neg hp, if_neg hp]
      simp [IntOp.addi]

theorem card_lt : ∀ N : Fin 247, (Finset.filter (fun x : Fin 246 => (x : ℕ) < (N : ℕ)) Finset.univ).card = (N : ℕ) := by decide +kernel

/-- The count is the least number of powers, given which of them are reached. -/
theorem field_eq (q : EReal) (N : ℕ) (hN : N ≤ 246)
    (h : ∀ x : Fin 246, (((2 : ℝ) ^ ((x : ℤ) - 126) : ℝ) : EReal) ≤ q ↔ (x : ℕ) < N) : field q = BitVec.ofNat 32 N := by
  have e : ∀ x : Fin 246, Ideal.ofBits .f32 (IntOp.shli ArithUnit.vector (IntOp.addi (BitVec.ofNat 32 ↑x) 1#32) 23#32)
      = (((2 : ℝ) ^ ((x : ℤ) - 126) : ℝ) : EReal) := fun x => by
    have : IntOp.addi (BitVec.ofNat 32 ↑x) 1#32 = BitVec.ofNat 32 (x + 1) := by simp only [IntOp.addi]; rw [BitVec.ofNat_add]
    rw [this, ofBits_field _ (by omega) (by have := x.isLt; omega)]
    congr 2; push_cast; ring
  unfold field
  rw [fold_count]
  refine congrArg _ (Eq.trans ?_ (card_lt ⟨N, by omega⟩))
  congr 1
  ext x
  simp only [Finset.mem_filter, Finset.mem_univ, true_and]
  rw [e, h]

theorem word_add (N : Fin 247) : IntOp.addi (IntOp.subi (BitVec.ofNat 32 N) 126#32) 127#32 = BitVec.ofNat 32 (N + 1) := by
  revert N; decide +kernel

theorem sub_word (N : Fin 247) : IntOp.subi 127#32 (IntOp.subi (BitVec.ofNat 32 N) 126#32) = BitVec.ofNat 32 (253 - N) := by
  revert N; decide +kernel

theorem exp2_int (z : ℤ) : Ideal.exp2 (((z : ℝ) : ℝ) : EReal) = (((2 : ℝ) ^ z : ℝ) : EReal) := by
  rw [Ideal.exp2_coe]; congr 1; exact Real.rpow_intCast 2 z

/-- What both exponents are: an integer `e` between -126 and 120. -/
theorem expo_word (a : EReal) (ha : 0 ≤ a) : ∃ e : ℤ, -126 ≤ e ∧ e ≤ 120 ∧ expo a = ((e : ℝ) : EReal)
    ∧ IntOp.addi (word a) 127#32 = BitVec.ofNat 32 (e + 127).toNat ∧ IntOp.subi 127#32 (word a) = BitVec.ofNat 32 (127 - e).toNat := by
  obtain ⟨c, hc, hcb⟩ := ofBits_recip
  by_cases h0 : a = 0
  · refine ⟨0, by norm_num, by norm_num, ?_, ?_, ?_⟩
    · simp [expo, h0]
    · simp only [word, h0, zero_mul, if_true]; decide
    · simp only [word, h0, zero_mul, if_true]; decide
  have hlog2 : (0 : ℝ) < Real.log 2 := Real.log_pos (by norm_num)
  -- the two exponents once the count `N` is known
  suffices H : ∃ N : ℕ, N ≤ 246 ∧ (∀ x : Fin 246, (((2 : ℝ) ^ ((x : ℤ) - 126) : ℝ) : EReal) ≤ a * (c : EReal) ↔ (x : ℕ) < N)
      ∧ a * (c : EReal) ≠ 0 ∧ expo a = ((((N : ℤ) - 126 : ℤ) : ℝ) : EReal) by
    obtain ⟨N, hN, hx, hne, he⟩ := H
    have hw : word a = IntOp.subi (BitVec.ofNat 32 N) 126#32 := by
      rw [word, hcb, if_neg hne, field_eq _ N hN hx]
    refine ⟨(N : ℤ) - 126, by omega, by omega, he, ?_, ?_⟩
    · rw [hw, word_add ⟨N, by omega⟩]; congr 1; simp only; omega
    · rw [hw, sub_word ⟨N, by omega⟩]; congr 1; simp only; omega
  induction a using EReal.rec with
  | bot => simp at ha
  | top =>
    have ht : (⊤ : EReal) * (c : EReal) = ⊤ := EReal.top_mul_coe_of_pos hc
    refine ⟨246, le_rfl, fun x => ?_, ?_, ?_⟩
    · rw [ht]; simp [x.isLt]
    · rw [ht]; simp
    · rw [expo, if_neg h0, hcb, ht, ofBits_two, ofBits_lo, ofBits_hi, Ideal.log_top, Ideal.log_coe, if_neg (by norm_num)]
      have hd : Ideal.div ⊤ ((Real.log 2 : ℝ) : EReal) = ⊤ := by
        rw [Ideal.div, if_neg (by exact_mod_cast hlog2.ne'), ← EReal.coe_inv]
        exact EReal.top_mul_coe_of_pos (inv_pos.mpr hlog2)
      rw [hd]
      show min _ (max _ (⊤ + 1)) = _
      rw [EReal.top_add_of_ne_bot (by decide), max_eq_right le_top, min_eq_left le_top]
      norm_num
  | coe r =>
    have hr : 0 < r := lt_of_le_of_ne (by exact_mod_cast ha) (fun h => h0 (by rw [← h]; rfl))
    have hq : 0 < r * c := mul_pos hr hc
    have hqe : (r : EReal) * (c : EReal) = ((r * c : ℝ) : EReal) := (EReal.coe_mul r c).symm
    set E : ℤ := ⌊Real.log (r * c) / Real.log 2⌋ with hE
    have hpow : ∀ z : ℤ, (2 : ℝ) ^ z ≤ r * c ↔ z ≤ E := fun z => by
      rw [hE, Int.le_floor, le_div_iff₀ hlog2, ← Real.log_zpow, Real.log_le_log_iff (by positivity) hq]
    refine ⟨(max 0 (min 246 (E + 127))).toNat, by omega, fun x => ?_, ?_, ?_⟩
    · rw [hqe, EReal.coe_le_coe_iff, hpow]; have := x.isLt; omega
    · rw [hqe]; exact_mod_cast hq.ne'
    · rw [expo, if_neg h0, hcb, hqe, ofBits_two, ofBits_lo, ofBits_hi, Ideal.log_coe, if_neg (not_le.mpr hq), Ideal.log_coe, if_neg (by norm_num)]
      have hd : Ideal.div ((Real.log (r * c) : ℝ) : EReal) ((Real.log 2 : ℝ) : EReal) = ((Real.log (r * c) / Real.log 2 : ℝ) : EReal) := by
        rw [Ideal.div, if_neg (by exact_mod_cast hlog2.ne'), ← EReal.coe_inv, ← EReal.coe_mul, div_eq_mul_inv]
      rw [hd]
      show min _ (max _ (((E : ℝ) : EReal) + 1)) = _
      have h1 : (((E : ℝ) : EReal) + 1) = (((E + 1 : ℤ) : ℝ) : EReal) := by push_cast; rfl
      have hmax : ∀ x y : ℝ, max (x : EReal) y = ((max x y : ℝ) : EReal) := fun x y => (EReal.coe_strictMono.monotone.map_max).symm
      have hmin : ∀ x y : ℝ, min (x : EReal) y = ((min x y : ℝ) : EReal) := fun x y => (EReal.coe_strictMono.monotone.map_min).symm
      rw [h1, hmax, hmin]
      congr 1
      have h2 : (((max 0 (min 246 (E + 127))).toNat : ℤ) - 126 : ℤ) = min 120 (max (-126) (E + 1)) := by omega
      rw [h2]
      push_cast
      rfl

theorem scale_eq (a : EReal) (ha : 0 ≤ a) : scale a = Ideal.exp2 (expo a) := by
  obtain ⟨e, h1, h2, he, hw, -⟩ := expo_word a ha
  rw [scale, hw, ofBits_field _ (by omega) (by omega), he, exp2_int]
  congr 2; omega

theorem recip_eq (a : EReal) (ha : 0 ≤ a) : recip a = Ideal.exp2 (0 - expo a) := by
  obtain ⟨e, h1, h2, he, -, hw⟩ := expo_word a ha
  have hs : (0 : EReal) - ((e : ℝ) : EReal) = (((-e : ℤ) : ℝ) : EReal) := by rw [zero_sub]; push_cast; rfl
  rw [recip, hw, ofBits_field _ (by omega) (by omega), he, hs, exp2_int]
  congr 2; omega

/-- The largest absolute value of a group is not negative. -/
theorem absmax_nonneg {n : ℕ} (hn : 0 < n) (f : Fin n → EReal) :
    0 ≤ Finset.fold max (Ideal.ofBits .f32 0xFF800000#32) (fun x => FloatOps.absf (F := Ideal) (φ := .f32) (f x)) Finset.univ := by
  rw [Finset.le_fold_max]
  refine .inr ⟨⟨0, hn⟩, Finset.mem_univ _, ?_⟩
  show (0 : EReal) ≤ max (f ⟨0, hn⟩) (-f ⟨0, hn⟩)
  rcases le_total 0 (f ⟨0, hn⟩) with h | h
  · exact le_max_of_le_left h
  · exact le_max_of_le_right (by rw [EReal.le_neg]; simpa using h)

/-! ## A group and what is stored for it -/

/-- The largest absolute value of a group. -/
def absmax (g : Fin 128 → EReal) : EReal :=
  Finset.fold max (Ideal.ofBits .f32 0xFF800000#32) (fun x => FloatOps.absf (F := Ideal) (φ := .f32) (g x)) Finset.univ

theorem absmax_pos (g : Fin 128 → EReal) : 0 ≤ absmax g := absmax_nonneg (by norm_num) g

/-- The power of two a group is divided by. -/
def scaleOf (g : Fin 128 → EReal) : EReal := Ideal.exp2 (expo (absmax g))

/-- The code of the value `x` of a group. -/
def codeOf (g : Fin 128 → EReal) (x : EReal) : EReal :=
  min (Ideal.ofBits .f32 0x43E00000#32) (max (Ideal.ofBits .f32 0xC3E00000#32) (x * Ideal.exp2 (0 - expo (absmax g))))

/-- The group of 128 columns that holds column `n`. -/
def group (f : Fin 3072 → EReal) (n : Fin 3072) : Fin 128 → EReal := fun l => f ⟨↑n / 128 * 128 + ↑l, by omega⟩

/-- The code stored at column `n` of a row `f`. -/
def codeAt (f : Fin 3072 → EReal) (n : Fin 3072) : EReal := codeOf (group f n) (f n)

/-- The scale stored at column `n` of a row `f`. -/
def scaleAt (f : Fin 3072 → EReal) (n : Fin 3072) : EReal := scaleOf (group f n)

/-- The kernel's code, with the reciprocal read from an exponent field. -/
theorem code_word (g : Fin 128 → EReal) (x : EReal) :
    min (Ideal.ofBits .f32 0x43E00000#32) (max (Ideal.ofBits .f32 0xC3E00000#32) (x * recip (absmax g))) = codeOf g x := by
  rw [codeOf, recip_eq _ (absmax_pos g)]

/-- The kernel's scale, read from an exponent field. -/
theorem scale_word (g : Fin 128 → EReal) : scale (absmax g) = scaleOf g := scale_eq _ (absmax_pos g)

end Cert.Quantiser

end
-- ==== Proof.XValue.lean ====
module

public import proofs.«01_k».proof.Proof.Gen.XIdeal.Frame
public import proofs.«01_k».proof.Proof.Quantiser
public import Idealize.ShloMosaic.Lib.Pipeline.ValueKit
public import Idealize.ShloMosaic.Lib.Pointwise

/-! # The quantisation of the input: its three result arrays as functions of its argument -/

@[expose] public section

set_option maxRecDepth 16384

noncomputable section

namespace Cert.XIdeal.Value

open Idealize.ShloMosaic Idealize.ShloMosaic.TcCoe Idealize.SL.Sem
open Idealize.ShloMosaic.Pipeline (Dat)
open Cert.XIdeal Cert.XIdeal.Gen Cert.Quantiser

/-! ## One group: 128 columns of the input -/

section
variable (v : FVec Ideal S16x128 .f32) (r : Fin 16) (l : Fin 128)

theorem code_at : k0_pay5 (F := Ideal) (k0_pay4 v) (ix2 r l) = codeOf (fun l => v (ix2 r l)) (v (ix2 r l)) := by
  pointwise [k0_pay5, k0_pay4, k0_pay2]
  have h := code_word (fun l => v (ix2 r l)) (v (ix2 r l))
  simp only [recip, word, field, absmax] at h
  convert h

theorem scale_at : k0_pay3 (F := Ideal) v (ix2 r 0) = scaleOf (fun l => v (ix2 r l)) := by
  pointwise [k0_pay3, k0_pay2]
  have h := scale_word (fun l => v (ix2 r l))
  simp only [scale, word, field, absmax] at h
  convert h

theorem scales_at : k0_pay6 (F := Ideal) (k0_pay3 v) (ix2 r l) = scaleOf (fun l => v (ix2 r l)) := by
  pointwise [k0_pay6]
  exact scale_at v r

theorem wide_at : k0_pay7 (F := Ideal) (k0_pay3 v) (k0_pay4 v) (ix2 r l)
    = codeOf (fun l => v (ix2 r l)) (v (ix2 r l)) * scaleOf (fun l => v (ix2 r l)) := by
  pointwise [k0_pay7]
  exact congrArg₂ (· * ·) (code_at v r l) (scale_at v r)

/-- `v` holds, in its row `r`, the group of column `n` of the row `f`, and column `n` itself at `l`. -/
structure Holds (f : Fin 3072 → EReal) (n : Fin 3072) : Prop where
  group : (fun l => v (ix2 r l)) = group f n
  column : v (ix2 r l) = f n

variable {v r l}

theorem Holds.codes {f : Fin 3072 → EReal} {n : Fin 3072} (h : Holds v r l f n) : k0_pay5 (F := Ideal) (k0_pay4 v) (ix2 r l) = codeAt f n := by
  rw [code_at, h.group, h.column, codeAt]

theorem Holds.scales {f : Fin 3072 → EReal} {n : Fin 3072} (h : Holds v r l f n) : k0_pay6 (F := Ideal) (k0_pay3 v) (ix2 r l) = scaleAt f n := by
  rw [scales_at, h.group, scaleAt]

theorem Holds.wide {f : Fin 3072 → EReal} {n : Fin 3072} (h : Holds v r l f n) :
    k0_pay7 (F := Ideal) (k0_pay3 v) (k0_pay4 v) (ix2 r l) = codeAt f n * scaleAt f n := by
  rw [wide_at, h.group, h.column, codeAt, scaleAt]

end

variable (x : Vec Ideal S16x3072 .f32) (r : Fin 16) (n : Fin 3072)

/-! ## The 24 groups side by side -/

theorem codes_row : out0_1 x (ix2 r n) = codeAt (fun n => x (ix2 r n)) n := by
  unfold out0_1
  canon_tiles y h
  all_goals
    idx_vars y
    obtain rfl : r = y0 := Fin.ext h0
    refine Holds.codes (l := y1) (f := fun n => x (ix2 r n)) ⟨funext fun l => ?_, ?_⟩ <;> pointwise [group] <;>
      exact congrArg x ((ix2_inj _ _ _ _).2 ⟨rfl, Fin.ext (by dsimp only; omega)⟩)

theorem scales_row : out0_2 x (ix2 r n) = scaleAt (fun n => x (ix2 r n)) n := by
  unfold out0_2
  canon_tiles y h
  all_goals
    idx_vars y
    obtain rfl : r = y0 := Fin.ext h0
    refine Holds.scales (l := y1) (f := fun n => x (ix2 r n)) ⟨funext fun l => ?_, ?_⟩ <;> pointwise [group] <;>
      exact congrArg x ((ix2_inj _ _ _ _).2 ⟨rfl, Fin.ext (by dsimp only; omega)⟩)

theorem wide_row : out0_3 x (ix2 r n) = codeAt (fun n => x (ix2 r n)) n * scaleAt (fun n => x (ix2 r n)) n := by
  unfold out0_3
  canon_tiles y h
  all_goals
    idx_vars y
    obtain rfl : r = y0 := Fin.ext h0
    refine Holds.wide (l := y1) (f := fun n => x (ix2 r n)) ⟨funext fun l => ?_, ?_⟩ <;> pointwise [group] <;>
      exact congrArg x ((ix2_inj _ _ _ _).2 ⟨rfl, Fin.ext (by dsimp only; omega)⟩)

/-! ## The arrays after the run -/

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The rows of the argument of the program. -/
abbrev value (c : Dev nD) (r : Fin 16) (n : Fin 3072) : EReal :=
  (show Vec Ideal S16x3072 .f32 from m ((c : Thread nD τ).loc main_arg0)) (ix2 r n)

/-- The one block of the argument is the whole array. -/
theorem blocks (c : Dev nD) : iblk m c 0 t0_0 = m ((c : Thread nD τ).loc main_arg0) := by
  funext j
  blk_ext [iblk, V, idx t0_0]

/-- The array of codes after the run. -/
theorem final_codes (c : Dev nD) : (dats m 0 c).arrAt 1 (cfgs 0).N
    = (fun j => codeAt (value m c (j 0)) (j 1) : Vec Ideal S16x3072 .fp8e4m3) := by
  refine (dats m 0 c).arrAt_eq_of_after_last 1 t0_0 (by decide +kernel) _ fun j => ?_
  blk_simp
  rw [after0_1, blocks]
  idx_vars j
  exact codes_row _ j0 j1

/-- The array of scales after the run. -/
theorem final_scales (c : Dev nD) : (dats m 0 c).arrAt 2 (cfgs 0).N
    = (fun j => scaleAt (value m c (j 0)) (j 1) : Vec Ideal S16x3072 .f32) := by
  refine (dats m 0 c).arrAt_eq_of_after_last 2 t0_0 (by decide +kernel) _ fun j => ?_
  blk_simp
  rw [after0_2, blocks]
  idx_vars j
  exact scales_row _ j0 j1

/-- The array of codes times scales after the run. -/
theorem final_wide (c : Dev nD) : (dats m 0 c).arrAt 3 (cfgs 0).N
    = (fun j => codeAt (value m c (j 0)) (j 1) * scaleAt (value m c (j 0)) (j 1) : Vec Ideal S16x3072 .bf16) := by
  refine (dats m 0 c).arrAt_eq_of_after_last 3 t0_0 (by decide +kernel) _ fun j => ?_
  blk_simp
  rw [after0_3, blocks]
  idx_vars j
  exact wide_row _ j0 j1

end Cert.XIdeal.Value
-- ==== Proof.XRefValue.lean ====
module

public import proofs.«01_k».proof.Proof.Gen.XRefIdeal.Frame
public import proofs.«01_k».proof.Proof.Quantiser
public import Idealize.ShloMosaic.Lib.Pipeline.ValueKit
public import Idealize.ShloMosaic.Lib.Pointwise

/-! # The quantisation of the input, as the reference states it: its three result arrays as functions of its argument -/

@[expose] public section

set_option maxRecDepth 16384

noncomputable section

namespace Cert.XRefIdeal.Value

open Idealize.ShloMosaic Idealize.ShloMosaic.TcCoe Idealize.SL.Sem
open Idealize.ShloMosaic.Pipeline (Dat)
open Cert.XRefIdeal Cert.XRefIdeal.Gen Cert.Quantiser

section
variable (M N E : FVec Ideal S16x24 .f32) (v : FVec Ideal S16x24x128 .f32) (r : Fin 16) (g : Fin 24)

theorem absmax_at : multiReduction .maximumf [2] S16x24 (absf v) 0xFF800000#32 reduces_S16x24x128_S16x24 (.inl rfl) rfl (ix2 r g)
    = absmax (fun l => v (ix3 r g l)) := by
  pointwise
  unfold absmax
  rfl

theorem quotient_at : floor (divf (log M) (log N)) (ix2 r g)
    = Ideal.liftRound Int.floor (Ideal.div (Ideal.log (M (ix2 r g))) (Ideal.log (N (ix2 r g)))) := by
  pointwise

theorem zero_at : select (cmpf .oeq M (broadcast S16x24 (Scalar.ofBits .f32 0x00000000#32)))
    (broadcast S16x24 (Scalar.ofBits .f32 0x00000000#32)) E (ix2 r g) = if M (ix2 r g) = 0 then 0 else E (ix2 r g) := by
  pointwise

theorem clip_at : minimumf (broadcast S16x24 (Scalar.ofBits .f32 0x42F00000#32)) (maximumf (broadcast S16x24 (Scalar.ofBits .f32 0xC2FC0000#32))
    (addf M (broadcast S16x24 (Scalar.ofBits .f32 0x3F800000#32)))) (ix2 r g)
    = min (Ideal.ofBits .f32 0x42F00000#32) (max (Ideal.ofBits .f32 0xC2FC0000#32) (M (ix2 r g) + 1)) := by
  pointwise

theorem scaled_at : mulf M (broadcast S16x24 (Scalar.ofBits .f32 0x3B124925#32)) (ix2 r g)
    = M (ix2 r g) * Ideal.ofBits .f32 0x3B124925#32 := by
  pointwise

theorem two_at : (broadcast S16x24 (Scalar.ofBits .f32 0x40000000#32) : FVec Ideal S16x24 .f32) (ix2 r g) = Ideal.ofBits .f32 0x40000000#32 := by
  pointwise

theorem minus_at : subf (broadcast S16x24 (Scalar.ofBits .f32 0x00000000#32)) M (ix2 r g) = (0 - M (ix2 r g) : EReal) := by
  pointwise

end

/-! ## The quantised arrays over a row of the argument -/

section
variable (x : Vec Ideal S16x3072 .f32)

/-- A row of the argument. -/
abbrev row (r : Fin 16) : Fin 3072 → EReal := fun n => x (ix2 r n)

/-- The values in groups of 128 columns. -/
theorem value_at (r : Fin 16) (g : Fin 24) (l : Fin 128) : k0_pay2 x (ix3 r g l) = x (ix2 r ⟨↑g * 128 + ↑l, by omega⟩) := by
  pointwise [k0_pay2]

/-- The exponent of a group's scale. -/
theorem expo_at (r : Fin 16) (g : Fin 24) :
    k0_pay3 x (ix2 r g) = expo (absmax (group (row x r) ⟨↑g * 128, by omega⟩)) := by
  have hg : (fun l => k0_pay2 x (ix3 r g l)) = group (row x r) ⟨↑g * 128, by omega⟩ := by
    funext l
    rw [value_at, group]
    exact congrArg x ((ix2_inj _ _ _ _).2 ⟨rfl, Fin.ext (by dsimp only; omega)⟩)
  rw [← hg]
  unfold k0_pay3
  generalize k0_pay2 x = v
  dsimp only
  rw [zero_at, clip_at, quotient_at, scaled_at, two_at, absmax_at, expo]

theorem value_col (r : Fin 16) (n : Fin 3072) : k0_pay2 x (ix3 r ⟨↑n / 128, by omega⟩ ⟨↑n % 128, by omega⟩) = row x r n := by
  rw [value_at]
  exact congrArg x ((ix2_inj _ _ _ _).2 ⟨rfl, Fin.ext (by dsimp only; omega)⟩)

theorem expo_col (r : Fin 16) (n : Fin 3072) :
    k0_pay3 x (ix2 r ⟨↑n / 128, by omega⟩) = expo (absmax (group (row x r) n)) := by
  rw [expo_at]
  congr 2
  funext l
  simp only [group]
  exact congrArg x ((ix2_inj _ _ _ _).2 ⟨rfl, Fin.ext (by dsimp only; omega)⟩)

theorem code_group (r : Fin 16) (n : Fin 3072) :
    k0_pay4 x (ix3 r ⟨↑n / 128, by omega⟩ ⟨↑n % 128, by omega⟩) = codeAt (row x r) n := by
  have hv := value_col x r n
  have he := expo_col x r n
  unfold k0_pay4
  generalize k0_pay2 x = v at *
  generalize k0_pay3 x = E at *
  pointwise
  rw [codeAt, codeOf, ← he, ← hv]
  rfl

theorem scale_group (r : Fin 16) (n : Fin 3072) : k0_pay5 x (ix2 r ⟨↑n / 128, by omega⟩) = scaleAt (row x r) n := by
  have he := expo_col x r n
  unfold k0_pay5
  generalize k0_pay3 x = E at *
  pointwise
  rw [scaleAt, scaleOf, ← he]
  rfl

theorem code_at (r : Fin 16) (n : Fin 3072) : k0_pay6 x (ix2 r n) = codeAt (row x r) n := by
  have h := code_group x r n
  unfold k0_pay6
  generalize k0_pay4 x = C at *
  pointwise
  exact h

theorem scale_at (r : Fin 16) (n : Fin 3072) : k0_pay7 x (ix2 r n) = scaleAt (row x r) n := by
  have h := scale_group x r n
  unfold k0_pay7
  generalize k0_pay5 x = S at *
  pointwise
  exact h

theorem wide_at (r : Fin 16) (n : Fin 3072) :
    k0_pay1 (k0_pay5 x) (k0_pay8 x) (ix2 r n) = codeAt (row x r) n * scaleAt (row x r) n := by
  have hc := code_group x r n
  have hs := scale_group x r n
  unfold k0_pay1 k0_pay8
  generalize k0_pay4 x = C at *
  generalize k0_pay5 x = S at *
  pointwise
  exact congrArg₂ (· * ·) hc hs

end

/-! ## The arrays after the run -/

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The rows of the argument of the program. -/
abbrev value (c : Dev nD) (r : Fin 16) (n : Fin 3072) : EReal :=
  (show Vec Ideal S16x3072 .f32 from m ((c : Thread nD τ).loc main_arg0)) (ix2 r n)

/-- The one block of the argument is the whole array. -/
theorem blocks (c : Dev nD) : iblk m c 0 t0_0 = m ((c : Thread nD τ).loc main_arg0) := by
  funext j
  blk_ext [iblk, V, idx t0_0]

/-- The array of codes after the run. -/
theorem final_codes (c : Dev nD) : (dats m 0 c).arrAt 1 (cfgs 0).N
    = (fun j => codeAt (value m c (j 0)) (j 1) : Vec Ideal S16x3072 .fp8e4m3) := by
  refine (dats m 0 c).arrAt_eq_of_after_last 1 t0_0 (by decide +kernel) _ fun j => ?_
  blk_simp
  rw [after0_1]
  frame_out
  rw [blocks]
  idx_vars j
  exact code_at _ j0 j1

/-- The array of scales after the run. -/
theorem final_scales (c : Dev nD) : (dats m 0 c).arrAt 2 (cfgs 0).N
    = (fun j => scaleAt (value m c (j 0)) (j 1) : Vec Ideal S16x3072 .f32) := by
  refine (dats m 0 c).arrAt_eq_of_after_last 2 t0_0 (by decide +kernel) _ fun j => ?_
  blk_simp
  rw [after0_2]
  frame_out
  rw [blocks]
  idx_vars j
  exact scale_at _ j0 j1

/-- The array of codes times scales after the run. -/
theorem final_wide (c : Dev nD) : (dats m 0 c).arrAt 3 (cfgs 0).N
    = (fun j => codeAt (value m c (j 0)) (j 1) * scaleAt (value m c (j 0)) (j 1) : Vec Ideal S16x3072 .bf16) := by
  refine (dats m 0 c).arrAt_eq_of_after_last 3 t0_0 (by decide +kernel) _ fun j => ?_
  blk_simp
  rw [after0_3]
  frame_out
  rw [blocks]
  idx_vars j
  exact wide_at _ j0 j1

end Cert.XRefIdeal.Value
-- ==== Proof.XClaim.lean ====
module

public import proofs.«01_k».proof.Defs
public import proofs.«01_k».proof.Proof.XValue
public import proofs.«01_k».proof.Proof.XRefValue
public import Idealize.ShloMosaic.Lib.Claim

/-! # The quantisation of the input and its reference compute the same three arrays -/

@[expose] public section

set_option maxRecDepth 16384

noncomputable section

namespace Cert.XClaim

open Idealize.ShloMosaic Idealize.ShloMosaic.TcCoe Idealize.SL.Sem

theorem algebraic : Cert.algebraic_XIdeal_XRefIdeal := by
  pair_intro
  · run_from Cert.XIdeal.Gen.run_main m g
  · have hv : ∀ c, XRefIdeal.Value.value m' c = XIdeal.Value.value m c := fun c =>
      funext fun r => funext fun n => congrFun (hagree c) _
    run_from Cert.XRefIdeal.Gen.run_main m' g'
    · exact (XRefIdeal.Value.final_codes m' c).trans (by rw [XIdeal.Value.final_codes, hv])
    · exact (XRefIdeal.Value.final_scales m' c).trans (by rw [XIdeal.Value.final_scales, hv])
    · exact (XRefIdeal.Value.final_wide m' c).trans (by rw [XIdeal.Value.final_wide, hv])

end Cert.XClaim

end
-- ==== Proof.LValue.lean ====
module

public import proofs.«01_k».proof.Proof.Gen.LIdeal.Frame
public import Idealize.ShloMosaic.Lib.Pipeline.ValueKit
public import Idealize.ShloMosaic.Lib.Pointwise

/-! # The plain product on 16 rows: its result array as a function of its arguments -/

@[expose] public section

set_option maxRecDepth 16384

noncomputable section

namespace Cert.LIdeal.Value

open Idealize.ShloMosaic Idealize.ShloMosaic.TcCoe Idealize.SL.Sem
open Idealize.ShloMosaic.Pipeline (Dat)
open Cert.LIdeal Cert.LIdeal.Gen

/-- A row against a column of the scaled weights, times the row's multiplier. -/
def val (X : Vec Ideal S16x3072 .bf16) (WC : Vec Ideal S3072x3072 .fp8e4m3) (WS : Vec Ideal S24x3072 .f32)
    (M : Vec Ideal S16x1 .f32) (r : Fin 16) (n : Fin 3072) : EReal :=
  (∑ k : Fin 3072, X (ix2 r k) * (WC (ix2 k n) * WS (ix2 ⟨↑k / 128, by omega⟩ n))) * M (ix2 r 0)

theorem value_at (x : Vec Ideal S16x3072 .bf16) (w : Vec Ideal S3072x256 .bf16) (u : Vec Ideal S16x1 .f32) (r : Fin 16) (n : Fin 256) :
    k0_pay3 x w u (ix2 r n) = (∑ k : Fin 3072, x (ix2 r k) * w (ix2 k n)) * u (ix2 r 0) := by
  pointwise [k0_pay3]

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, 0] ∧ win0_4.index t = ![0, t.val] :=
  (by decide +kernel : ∀ t : Fin grid0.N, _)

/-- The value over the argument arrays of the program. -/
abbrev value (c : Dev nD) : Fin 16 → Fin 3072 → EReal :=
  val (m ((c : Thread nD τ).loc main_arg0)) (m ((c : Thread nD τ).loc main_arg1)) (m ((c : Thread nD τ).loc main_arg2))
    (m ((c : Thread nD τ).loc main_arg3))

/-- A block of weights is the block of codes times the block of scales, one scale for 128 rows. -/
abbrev Scaled (W : Vec Ideal S3072x256 .bf16) (wc : Vec Ideal S3072x256 .fp8e4m3) (ws : Vec Ideal S24x256 .f32) : Prop :=
  ∀ (k : Fin 3072) (n : Fin 256), W (ix2 k n) = wc (ix2 k n) * ws (ix2 ⟨↑k / 128, by omega⟩ n)

/-- A block of values against the array: column `n` of point `t` is column `256 t + n`. -/
theorem block_value (c : Dev nD) (t : Fin cfg0.N) (W : Vec Ideal S3072x256 .bf16)
    (hW : Scaled W (iblk m c 1 t) (iblk m c 2 t))
    (r : Fin 16) (n : Fin 256) (n' : Fin 3072) (hn : (n' : ℕ) = t.val * 256 + n) :
    k0_pay3 (iblk m c 0 t) W (iblk m c 3 t) (ix2 r n) = value m c r n' := by
  rw [value_at]
  simp only [hW _ _, value, val]
  blk_point [iblk, V, idx t]

/-- Column `n` of point `t` as a column of the array. -/
def col (t : Fin cfg0.N) (n : Fin 256) : Fin 3072 :=
  ⟨t.val * 256 + ↑n, by have h : cfg0.N = 12 := N_0; omega⟩

/-- What a point leaves in its output block. -/
theorem outs (c : Dev nD) (t : Fin cfg0.N) : outsAt0 m c t
    = (fun y => value m c (y 0) (col t (y 1)) : Vec Ideal S16x256 .f32) := by
  unfold outsAt0
  frame_out
  generalize hW : View.readCov (Val := Elt Ideal) (View.whole cc0_scratch0) _ _ = W
  have hw : Scaled W (iblk m c 1 t) (iblk m c 2 t) := by
    intro k n
    rw [← hW, View.readCov_eq_canon']
    clear hW
    canon_tiles y h
    all_goals
      simp at h0 h1
      open_payloads
      pointwise
      refine congrArg₂ (· * ·) ?_ ?_ <;> blk_ext
  clear hW
  funext z
  idx_vars z
  exact block_value m c t W hw _ _ _ rfl

/-- The array after the run. -/
theorem final_out (c : Dev nD) : (dats m 0 c).arrAt 4 (cfgs 0).N
    = (fun j => value m c (j 0) (j 1) : Vec Ideal S16x3072 .f32) := by
  refine (dats m 0 c).arrAt_eq_of_covers 4 _ (by decide +kernel) fun t _ y => ?_
  blk_simp
  rw [after0_4, outs]
  exact congrArg₂ (value m c) (Fin.ext (by blk_simp [idx t])) (Fin.ext (by simp only [col]; blk_simp [idx t]))

end Cert.LIdeal.Value
-- ==== Proof.LRefValue.lean ====
module

public import proofs.«01_k».proof.Proof.Gen.LRefIdeal.Frame
public import Idealize.ShloMosaic.Lib.Pipeline.ValueKit
public import Idealize.ShloMosaic.Lib.Pointwise

/-! # The plain product on 16 rows, as the reference states it: its result array as a function of its arguments -/

@[expose] public section

set_option maxRecDepth 16384

noncomputable section

namespace Cert.LRefIdeal.Value

open Idealize.ShloMosaic Idealize.ShloMosaic.TcCoe Idealize.SL.Sem
open Idealize.ShloMosaic.Pipeline (Dat)
open Cert.LRefIdeal Cert.LRefIdeal.Gen

/-- A row against a column of the scaled weights, times the row's multiplier. -/
def val (X : Vec Ideal S16x3072 .bf16) (WC : Vec Ideal S3072x3072 .fp8e4m3) (WS : Vec Ideal S24x3072 .f32)
    (M : Vec Ideal S16x1 .f32) (r : Fin 16) (n : Fin 3072) : EReal :=
  (∑ k : Fin 3072, X (ix2 r k) * (WC (ix2 k n) * WS (ix2 ⟨↑k / 128, by omega⟩ n))) * M (ix2 r 0)

theorem value_at (x : Vec Ideal S16x3072 .bf16) (wc : Vec Ideal S3072x3072 .fp8e4m3) (ws : Vec Ideal S24x3072 .f32)
    (u : Vec Ideal S16x1 .f32) (r : Fin 16) (n : Fin 3072) : k0_pay1 x wc ws u (ix2 r n) = val x wc ws u r n := by
  pointwise [k0_pay1]
  rfl

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The value over the argument arrays of the program. -/
abbrev value (c : Dev nD) : Fin 16 → Fin 3072 → EReal :=
  val (m ((c : Thread nD τ).loc main_arg0)) (m ((c : Thread nD τ).loc main_arg1)) (m ((c : Thread nD τ).loc main_arg2))
    (m ((c : Thread nD τ).loc main_arg3))

/-- The one block of each argument is the whole array. -/
theorem blocks (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3) := by
  refine ⟨?_, ?_, ?_, ?_⟩ <;> funext j <;> blk_ext [iblk, V, idx t0_0]

/-- The array after the run. -/
theorem final_out (c : Dev nD) : (dats m 0 c).arrAt 4 (cfgs 0).N
    = (fun j => value m c (j 0) (j 1) : Vec Ideal S16x3072 .f32) := by
  refine (dats m 0 c).arrAt_eq_of_after_last 4 t0_0 (by decide +kernel) _ fun j => ?_
  blk_simp
  rw [after0_4]
  frame_out
  obtain ⟨h0, h1, h2, h3⟩ := blocks m c
  rw [h0, h1, h2, h3]
  idx_vars j
  exact value_at _ _ _ _ j0 j1

end Cert.LRefIdeal.Value
-- ==== Proof.LClaim.lean ====
module

public import proofs.«01_k».proof.Defs
public import proofs.«01_k».proof.Proof.LValue
public import proofs.«01_k».proof.Proof.LRefValue
public import Idealize.ShloMosaic.Lib.Claim

/-! # The plain product on 16 rows and its reference compute the same array -/

@[expose] public section

set_option maxRecDepth 16384

noncomputable section

namespace Cert.LClaim

open Idealize.ShloMosaic Idealize.ShloMosaic.TcCoe Idealize.SL.Sem

/-- Of equal arguments the product and the reference have equal values. -/
theorem val_congr {X X' : Vec Ideal LIdeal.S16x3072 .bf16} {WC WC' : Vec Ideal LIdeal.S3072x3072 .fp8e4m3}
    {WS WS' : Vec Ideal LIdeal.S24x3072 .f32} {M M' : Vec Ideal LIdeal.S16x1 .f32}
    (hX : X' = X) (hWC : WC' = WC) (hWS : WS' = WS) (hM : M' = M) :
    LRefIdeal.Value.val X' WC' WS' M' = LIdeal.Value.val X WC WS M := by
  subst hX hWC hWS hM
  rfl

theorem algebraic : Cert.algebraic_LIdeal_LRefIdeal := by
  pair_intro
  · run_from Cert.LIdeal.Gen.run_main m g
  · have hv : ∀ c, LRefIdeal.Value.value m' c = LIdeal.Value.value m c := fun c =>
      val_congr (hagree c).1 (hagree c).2.1 (hagree c).2.2.1 (hagree c).2.2.2
    run_from Cert.LRefIdeal.Gen.run_main m' g'
    · exact (LRefIdeal.Value.final_out m' c).trans (by rw [LIdeal.Value.final_out, hv])

end Cert.LClaim

end
-- ==== Proof.EValue.lean ====
module

public import proofs.«01_k».proof.Proof.Gen.EIdeal.Frame
public import Idealize.ShloMosaic.Lib.Pipeline.ValueKit
public import Idealize.ShloMosaic.Lib.Pointwise

/-! # The plain product on 480 rows: its result array as a function of its arguments -/

@[expose] public section

set_option maxRecDepth 16384

noncomputable section

namespace Cert.EIdeal.Value

open Idealize.ShloMosaic Idealize.ShloMosaic.TcCoe Idealize.SL.Sem
open Idealize.ShloMosaic.Pipeline (Dat)
open Cert.EIdeal Cert.EIdeal.Gen

/-- A row against a column of the scaled weights, times the row's multiplier. -/
def val (X : Vec Ideal S480x3072 .bf16) (WC : Vec Ideal S3072x3072 .fp8e4m3) (WS : Vec Ideal S24x3072 .f32)
    (M : Vec Ideal S480x1 .f32) (r : Fin 480) (n : Fin 3072) : EReal :=
  (∑ k : Fin 3072, X (ix2 r k) * (WC (ix2 k n) * WS (ix2 ⟨↑k / 128, by omega⟩ n))) * M (ix2 r 0)

theorem value_at (x : Vec Ideal S480x3072 .bf16) (w : Vec Ideal S3072x256 .bf16) (u : Vec Ideal S480x1 .f32) (r : Fin 480) (n : Fin 256) :
    k0_pay3 x w u (ix2 r n) = (∑ k : Fin 3072, x (ix2 r k) * w (ix2 k n)) * u (ix2 r 0) := by
  pointwise [k0_pay3]

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, 0] ∧ win0_4.index t = ![0, t.val] :=
  (by decide +kernel : ∀ t : Fin grid0.N, _)

/-- The value over the argument arrays of the program. -/
abbrev value (c : Dev nD) : Fin 480 → Fin 3072 → EReal :=
  val (m ((c : Thread nD τ).loc main_arg0)) (m ((c : Thread nD τ).loc main_arg1)) (m ((c : Thread nD τ).loc main_arg2))
    (m ((c : Thread nD τ).loc main_arg3))

/-- A block of weights is the block of codes times the block of scales, one scale for 128 rows. -/
abbrev Scaled (W : Vec Ideal S3072x256 .bf16) (wc : Vec Ideal S3072x256 .fp8e4m3) (ws : Vec Ideal S24x256 .f32) : Prop :=
  ∀ (k : Fin 3072) (n : Fin 256), W (ix2 k n) = wc (ix2 k n) * ws (ix2 ⟨↑k / 128, by omega⟩ n)

/-- A block of values against the array: column `n` of point `t` is column `256 t + n`. -/
theorem block_value (c : Dev nD) (t : Fin cfg0.N) (W : Vec Ideal S3072x256 .bf16)
    (hW : Scaled W (iblk m c 1 t) (iblk m c 2 t))
    (r : Fin 480) (n : Fin 256) (n' : Fin 3072) (hn : (n' : ℕ) = t.val * 256 + n) :
    k0_pay3 (iblk m c 0 t) W (iblk m c 3 t) (ix2 r n) = value m c r n' := by
  rw [value_at]
  simp only [hW _ _, value, val]
  blk_point [iblk, V, idx t]

/-- Column `n` of point `t` as a column of the array. -/
def col (t : Fin cfg0.N) (n : Fin 256) : Fin 3072 :=
  ⟨t.val * 256 + ↑n, by have h : cfg0.N = 12 := N_0; omega⟩

/-- What a point leaves in its output block. -/
theorem outs (c : Dev nD) (t : Fin cfg0.N) : outsAt0 m c t
    = (fun y => value m c (y 0) (col t (y 1)) : Vec Ideal S480x256 .f32) := by
  unfold outsAt0
  frame_out
  generalize hW : View.readCov (Val := Elt Ideal) (View.whole cc0_scratch0) _ _ = W
  have hw : Scaled W (iblk m c 1 t) (iblk m c 2 t) := by
    intro k n
    rw [← hW, View.readCov_eq_canon']
    clear hW
    canon_tiles y h
    all_goals
      simp at h0 h1
      open_payloads
      pointwise
      refine congrArg₂ (· * ·) ?_ ?_ <;> blk_ext
  clear hW
  funext z
  idx_vars z
  exact block_value m c t W hw _ _ _ rfl

/-- The array after the run. -/
theorem final_out (c : Dev nD) : (dats m 0 c).arrAt 4 (cfgs 0).N
    = (fun j => value m c (j 0) (j 1) : Vec Ideal S480x3072 .f32) := by
  refine (dats m 0 c).arrAt_eq_of_covers 4 _ (by decide +kernel) fun t _ y => ?_
  blk_simp
  rw [after0_4, outs]
  exact congrArg₂ (value m c) (Fin.ext (by blk_simp [idx t])) (Fin.ext (by simp only [col]; blk_simp [idx t]))

end Cert.EIdeal.Value
-- ==== Proof.ERefValue.lean ====
module

public import proofs.«01_k».proof.Proof.Gen.ERefIdeal.Frame
public import Idealize.ShloMosaic.Lib.Pipeline.ValueKit
public import Idealize.ShloMosaic.Lib.Pointwise

/-! # The plain product on 480 rows, as the reference states it: its result array as a function of its arguments -/

@[expose] public section

set_option maxRecDepth 16384

noncomputable section

namespace Cert.ERefIdeal.Value

open Idealize.ShloMosaic Idealize.ShloMosaic.TcCoe Idealize.SL.Sem
open Idealize.ShloMosaic.Pipeline (Dat)
open Cert.ERefIdeal Cert.ERefIdeal.Gen

/-- A row against a column of the scaled weights, times the row's multiplier. -/
def val (X : Vec Ideal S480x3072 .bf16) (WC : Vec Ideal S3072x3072 .fp8e4m3) (WS : Vec Ideal S24x3072 .f32)
    (M : Vec Ideal S480x1 .f32) (r : Fin 480) (n : Fin 3072) : EReal :=
  (∑ k : Fin 3072, X (ix2 r k) * (WC (ix2 k n) * WS (ix2 ⟨↑k / 128, by omega⟩ n))) * M (ix2 r 0)

theorem value_at (x : Vec Ideal S480x3072 .bf16) (wc : Vec Ideal S3072x3072 .fp8e4m3) (ws : Vec Ideal S24x3072 .f32)
    (u : Vec Ideal S480x1 .f32) (r : Fin 480) (n : Fin 3072) : k0_pay1 x wc ws u (ix2 r n) = val x wc ws u r n := by
  pointwise [k0_pay1]
  rfl

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The value over the argument arrays of the program. -/
abbrev value (c : Dev nD) : Fin 480 → Fin 3072 → EReal :=
  val (m ((c : Thread nD τ).loc main_arg0)) (m ((c : Thread nD τ).loc main_arg1)) (m ((c : Thread nD τ).loc main_arg2))
    (m ((c : Thread nD τ).loc main_arg3))

/-- The one block of each argument is the whole array. -/
theorem blocks (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3) := by
  refine ⟨?_, ?_, ?_, ?_⟩ <;> funext j <;> blk_ext [iblk, V, idx t0_0]

/-- The array after the run. -/
theorem final_out (c : Dev nD) : (dats m 0 c).arrAt 4 (cfgs 0).N
    = (fun j => value m c (j 0) (j 1) : Vec Ideal S480x3072 .f32) := by
  refine (dats m 0 c).arrAt_eq_of_after_last 4 t0_0 (by decide +kernel) _ fun j => ?_
  blk_simp
  rw [after0_4]
  frame_out
  obtain ⟨h0, h1, h2, h3⟩ := blocks m c
  rw [h0, h1, h2, h3]
  idx_vars j
  exact value_at _ _ _ _ j0 j1

end Cert.ERefIdeal.Value
-- ==== Proof.EClaim.lean ====
module

public import proofs.«01_k».proof.Defs
public import proofs.«01_k».proof.Proof.EValue
public import proofs.«01_k».proof.Proof.ERefValue
public import Idealize.ShloMosaic.Lib.Claim

/-! # The plain product on 480 rows and its reference compute the same array -/

@[expose] public section

set_option maxRecDepth 16384

noncomputable section

namespace Cert.EClaim

open Idealize.ShloMosaic Idealize.ShloMosaic.TcCoe Idealize.SL.Sem

/-- Of equal arguments the product and the reference have equal values. -/
theorem val_congr {X X' : Vec Ideal EIdeal.S480x3072 .bf16} {WC WC' : Vec Ideal EIdeal.S3072x3072 .fp8e4m3}
    {WS WS' : Vec Ideal EIdeal.S24x3072 .f32} {M M' : Vec Ideal EIdeal.S480x1 .f32}
    (hX : X' = X) (hWC : WC' = WC) (hWS : WS' = WS) (hM : M' = M) :
    ERefIdeal.Value.val X' WC' WS' M' = EIdeal.Value.val X WC WS M := by
  subst hX hWC hWS hM
  rfl

theorem algebraic : Cert.algebraic_EIdeal_ERefIdeal := by
  pair_intro
  · run_from Cert.EIdeal.Gen.run_main m g
  · have hv : ∀ c, ERefIdeal.Value.value m' c = EIdeal.Value.value m c := fun c =>
      val_congr (hagree c).1 (hagree c).2.1 (hagree c).2.2.1 (hagree c).2.2.2
    run_from Cert.ERefIdeal.Gen.run_main m' g'
    · exact (ERefIdeal.Value.final_out m' c).trans (by rw [EIdeal.Value.final_out, hv])

end Cert.EClaim

end
-- ==== Proof.FValue.lean ====
module

public import proofs.«01_k».proof.Proof.Gen.FIdeal.Frame
public import proofs.«01_k».proof.Proof.Quantiser
public import Idealize.ShloMosaic.Lib.Pipeline.ValueKit
public import Idealize.ShloMosaic.Lib.Pointwise

/-! # The first recurrent stage: its three result arrays as functions of its arguments -/

@[expose] public section

set_option maxRecDepth 16384

noncomputable section

namespace Cert.FIdeal.Value

open Idealize.ShloMosaic Idealize.ShloMosaic.TcCoe Idealize.SL.Sem
open Idealize.ShloMosaic.Pipeline (Dat)
open Cert.FIdeal Cert.FIdeal.Gen Cert.Quantiser

/-- The value that is quantised: the gated sum of the linear part and the bias. -/
def val (Z : Vec Ideal S96x3072 .f32) (B : Vec Ideal S1x3072 .f32) (r : Fin 96) (n : Fin 3072) : EReal :=
  (Z (ix2 r n) + B (ix2 0 n)) * Ideal.logistic (Z (ix2 r n) + B (ix2 0 n))

/-! ## One group: 128 columns of the values -/

section
variable (v : FVec Ideal S96x128 .f32) (r : Fin 96) (l : Fin 128)

/-- A row of a group, from the sums that are gated. -/
abbrev gated : Fin 128 → EReal := fun l => k0_pay22 v (ix2 r l)

theorem code_at : k0_pay25 (F := Ideal) v (ix2 r l) = codeOf (gated v r) (gated v r l) := by
  pointwise [k0_pay25, k0_pay23]
  have h := code_word (gated v r) (gated v r l)
  simp only [gated, recip, word, field, absmax] at h
  convert h

theorem scale_at : k0_pay24 (F := Ideal) v (ix2 r 0) = scaleOf (gated v r) := by
  pointwise [k0_pay24, k0_pay23]
  have h := scale_word (gated v r)
  simp only [gated, scale, word, field, absmax] at h
  convert h

theorem scales_at : k0_pay26 (F := Ideal) (k0_pay24 v) (ix2 r l) = scaleOf (gated v r) := by
  pointwise [k0_pay26]
  exact scale_at v r

theorem wide_at : k0_pay27 (F := Ideal) (k0_pay24 v) (k0_pay25 v) (ix2 r l)
    = codeOf (gated v r) (gated v r l) * scaleOf (gated v r) := by
  pointwise [k0_pay27]
  exact congrArg₂ (· * ·) (code_at v r l) (scale_at v r)

theorem gated_at (z : Vec Ideal S96x128 .f32) (b : Vec Ideal S1x128 .f32) : k0_pay22 (F := Ideal) (k0_pay21 z b) (ix2 r l)
    = (z (ix2 r l) + b (ix2 0 l)) * Ideal.logistic (z (ix2 r l) + b (ix2 0 l)) := by
  pointwise [k0_pay22, k0_pay21]

end

section
variable {z : Vec Ideal S96x128 .f32} {b : Vec Ideal S1x128 .f32} {Z : Vec Ideal S96x3072 .f32} {B : Vec Ideal S1x3072 .f32}
  {r : Fin 96} {l : Fin 128} {n : Fin 3072}

/-- Row `r` of `z` and `b` hold the 128 columns of `Z` and `B` about column `n`, which is the `l`-th of them. -/
structure Holds (z : Vec Ideal S96x128 .f32) (b : Vec Ideal S1x128 .f32) (Z : Vec Ideal S96x3072 .f32) (B : Vec Ideal S1x3072 .f32)
    (r : Fin 96) (l : Fin 128) (n : Fin 3072) : Prop where
  column : (n : ℕ) = ↑n / 128 * 128 + ↑l
  left : ∀ l : Fin 128, z (ix2 r l) = Z (ix2 r ⟨↑n / 128 * 128 + ↑l, by omega⟩)
  right : ∀ l : Fin 128, b (ix2 0 l) = B (ix2 0 ⟨↑n / 128 * 128 + ↑l, by omega⟩)

theorem Holds.group (h : Holds z b Z B r l n) : gated (k0_pay21 z b) r = group (val Z B r) n := by
  funext l
  rw [gated, gated_at, h.left, h.right]
  rfl

theorem Holds.value (h : Holds z b Z B r l n) : gated (k0_pay21 z b) r l = val Z B r n := by
  rw [h.group]
  exact congrArg (val Z B r) (Fin.ext h.column.symm)

theorem Holds.codes (h : Holds z b Z B r l n) : k0_pay25 (F := Ideal) (k0_pay21 z b) (ix2 r l) = codeAt (val Z B r) n := by
  rw [code_at, h.value, h.group, codeAt]

theorem Holds.scales (h : Holds z b Z B r l n) :
    k0_pay26 (F := Ideal) (k0_pay24 (k0_pay21 z b)) (ix2 r l) = scaleAt (val Z B r) n := by
  rw [scales_at, h.group, scaleAt]

theorem Holds.wide (h : Holds z b Z B r l n) :
    k0_pay27 (F := Ideal) (k0_pay24 (k0_pay21 z b)) (k0_pay25 (k0_pay21 z b)) (ix2 r l)
      = codeAt (val Z B r) n * scaleAt (val Z B r) n := by
  rw [wide_at, h.value, h.group, codeAt, scaleAt]

end

variable (Z : Vec Ideal S96x3072 .f32) (B : Vec Ideal S1x3072 .f32) (r : Fin 96) (n : Fin 3072)

/-! ## The 24 groups side by side -/

theorem codes_row : out0_2 Z B (ix2 r n) = codeAt (val Z B r) n := by
  unfold out0_2
  canon_tiles y h
  all_goals
    idx_vars y
    obtain rfl : r = y0 := Fin.ext h0
    refine Holds.codes (l := y1) ⟨by omega, fun l => ?_, fun l => ?_⟩ <;> pointwise
    · exact congrArg Z ((ix2_inj _ _ _ _).2 ⟨rfl, Fin.ext (by dsimp only; omega)⟩)
    · exact congrArg B ((ix2_inj _ _ _ _).2 ⟨rfl, Fin.ext (by dsimp only; omega)⟩)

theorem scales_row : out0_3 Z B (ix2 r n) = scaleAt (val Z B r) n := by
  unfold out0_3
  canon_tiles y h
  all_goals
    idx_vars y
    obtain rfl : r = y0 := Fin.ext h0
    refine Holds.scales (l := y1) ⟨by omega, fun l => ?_, fun l => ?_⟩ <;> pointwise
    · exact congrArg Z ((ix2_inj _ _ _ _).2 ⟨rfl, Fin.ext (by dsimp only; omega)⟩)
    · exact congrArg B ((ix2_inj _ _ _ _).2 ⟨rfl, Fin.ext (by dsimp only; omega)⟩)

theorem wide_row : out0_4 Z B (ix2 r n) = codeAt (val Z B r) n * scaleAt (val Z B r) n := by
  unfold out0_4
  canon_tiles y h
  all_goals
    idx_vars y
    obtain rfl : r = y0 := Fin.ext h0
    refine Holds.wide (l := y1) ⟨by omega, fun l => ?_, fun l => ?_⟩ <;> pointwise
    · exact congrArg Z ((ix2_inj _ _ _ _).2 ⟨rfl, Fin.ext (by dsimp only; omega)⟩)
    · exact congrArg B ((ix2_inj _ _ _ _).2 ⟨rfl, Fin.ext (by dsimp only; omega)⟩)

/-! ## The arrays after the run -/

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The value over the argument arrays of the program. -/
abbrev value (c : Dev nD) : Fin 96 → Fin 3072 → EReal :=
  val (m ((c : Thread nD τ).loc main_arg0)) (m ((c : Thread nD τ).loc main_arg1))

/-- The one block of each argument is the whole array. -/
theorem blocks (c : Dev nD) : iblk m c 0 t0_0 = m ((c : Thread nD τ).loc main_arg0)
    ∧ iblk m c 1 t0_0 = m ((c : Thread nD τ).loc main_arg1) := by
  refine ⟨?_, ?_⟩ <;> funext j <;> blk_ext [iblk, V, idx t0_0]

/-- The array of codes after the run. -/
theorem final_codes (c : Dev nD) : (dats m 0 c).arrAt 2 (cfgs 0).N
    = (fun j => codeAt (value m c (j 0)) (j 1) : Vec Ideal S96x3072 .fp8e4m3) := by
  refine (dats m 0 c).arrAt_eq_of_after_last 2 t0_0 (by decide +kernel) _ fun j => ?_
  blk_simp
  rw [after0_2]
  obtain ⟨h0, h1⟩ := blocks m c
  rw [h0, h1]
  idx_vars j
  exact codes_row _ _ j0 j1

/-- The array of scales after the run. -/
theorem final_scales (c : Dev nD) : (dats m 0 c).arrAt 3 (cfgs 0).N
    = (fun j => scaleAt (value m c (j 0)) (j 1) : Vec Ideal S96x3072 .f32) := by
  refine (dats m 0 c).arrAt_eq_of_after_last 3 t0_0 (by decide +kernel) _ fun j => ?_
  blk_simp
  rw [after0_3]
  obtain ⟨h0, h1⟩ := blocks m c
  rw [h0, h1]
  idx_vars j
  exact scales_row _ _ j0 j1

/-- The array of codes times scales after the run. -/
theorem final_wide (c : Dev nD) : (dats m 0 c).arrAt 4 (cfgs 0).N
    = (fun j => codeAt (value m c (j 0)) (j 1) * scaleAt (value m c (j 0)) (j 1) : Vec Ideal S96x3072 .bf16) := by
  refine (dats m 0 c).arrAt_eq_of_after_last 4 t0_0 (by decide +kernel) _ fun j => ?_
  blk_simp
  rw [after0_4]
  obtain ⟨h0, h1⟩ := blocks m c
  rw [h0, h1]
  idx_vars j
  exact wide_row _ _ j0 j1

end Cert.FIdeal.Value
-- ==== Proof.FRefValue.lean ====
module

public import proofs.«01_k».proof.Proof.Gen.FRefIdeal.Frame
public import proofs.«01_k».proof.Proof.Quantiser
public import Idealize.ShloMosaic.Lib.Pipeline.ValueKit
public import Idealize.ShloMosaic.Lib.Pointwise

/-! # The first recurrent stage, as the reference states it: its three result arrays as functions of its arguments -/

@[expose] public section

set_option maxRecDepth 16384

noncomputable section

namespace Cert.FRefIdeal.Value

open Idealize.ShloMosaic Idealize.ShloMosaic.TcCoe Idealize.SL.Sem
open Idealize.ShloMosaic.Pipeline (Dat)
open Cert.FRefIdeal Cert.FRefIdeal.Gen Cert.Quantiser

/-- The value that is quantised: the gated sum of the linear part and the bias. -/
def val (Z : Vec Ideal S96x3072 .f32) (B : Vec Ideal S1x3072 .f32) (r : Fin 96) (n : Fin 3072) : EReal :=
  (Z (ix2 r n) + B (ix2 0 n)) * Ideal.logistic (Z (ix2 r n) + B (ix2 0 n))

section
variable (M N E : FVec Ideal S96x24 .f32) (v : FVec Ideal S96x24x128 .f32) (r : Fin 96) (g : Fin 24)

theorem absmax_at : multiReduction .maximumf [2] S96x24 (absf v) 0xFF800000#32 reduces_S96x24x128_S96x24 (.inl rfl) rfl (ix2 r g)
    = absmax (fun l => v (ix3 r g l)) := by
  pointwise
  unfold absmax
  rfl

theorem quotient_at : floor (divf (log M) (log N)) (ix2 r g)
    = Ideal.liftRound Int.floor (Ideal.div (Ideal.log (M (ix2 r g))) (Ideal.log (N (ix2 r g)))) := by
  pointwise

theorem zero_at : select (cmpf .oeq M (broadcast S96x24 (Scalar.ofBits .f32 0x00000000#32)))
    (broadcast S96x24 (Scalar.ofBits .f32 0x00000000#32)) E (ix2 r g) = if M (ix2 r g) = 0 then 0 else E (ix2 r g) := by
  pointwise

theorem clip_at : minimumf (broadcast S96x24 (Scalar.ofBits .f32 0x42F00000#32)) (maximumf (broadcast S96x24 (Scalar.ofBits .f32 0xC2FC0000#32))
    (addf M (broadcast S96x24 (Scalar.ofBits .f32 0x3F800000#32)))) (ix2 r g)
    = min (Ideal.ofBits .f32 0x42F00000#32) (max (Ideal.ofBits .f32 0xC2FC0000#32) (M (ix2 r g) + 1)) := by
  pointwise

theorem scaled_at : mulf M (broadcast S96x24 (Scalar.ofBits .f32 0x3B124925#32)) (ix2 r g)
    = M (ix2 r g) * Ideal.ofBits .f32 0x3B124925#32 := by
  pointwise

theorem two_at : (broadcast S96x24 (Scalar.ofBits .f32 0x40000000#32) : FVec Ideal S96x24 .f32) (ix2 r g) = Ideal.ofBits .f32 0x40000000#32 := by
  pointwise

theorem minus_at : subf (broadcast S96x24 (Scalar.ofBits .f32 0x00000000#32)) M (ix2 r g) = (0 - M (ix2 r g) : EReal) := by
  pointwise

end

/-! ## The quantised arrays over the values -/

section
variable (z : Vec Ideal S96x3072 .f32) (b : Vec Ideal S1x3072 .f32)

/-- The values in groups of 128 columns. -/
theorem value_at (r : Fin 96) (g : Fin 24) (l : Fin 128) : k0_pay3 z b (ix3 r g l) = val z b r ⟨↑g * 128 + ↑l, by omega⟩ := by
  pointwise [k0_pay3]
  rfl

/-- The exponent of a group's scale. -/
theorem expo_at (r : Fin 96) (g : Fin 24) :
    k0_pay4 z b (ix2 r g) = expo (absmax (group (val z b r) ⟨↑g * 128, by omega⟩)) := by
  have hg : (fun l => k0_pay3 z b (ix3 r g l)) = group (val z b r) ⟨↑g * 128, by omega⟩ := by
    funext l
    rw [value_at, group]
    exact congrArg (val z b r) (Fin.ext (by dsimp only; omega))
  rw [← hg]
  unfold k0_pay4
  generalize k0_pay3 z b = v
  dsimp only
  rw [zero_at, clip_at, quotient_at, scaled_at, two_at, absmax_at, expo]

theorem value_col (r : Fin 96) (n : Fin 3072) : k0_pay3 z b (ix3 r ⟨↑n / 128, by omega⟩ ⟨↑n % 128, by omega⟩) = val z b r n := by
  rw [value_at]
  exact congrArg (val z b r) (Fin.ext (by dsimp only; omega))

theorem expo_col (r : Fin 96) (n : Fin 3072) :
    k0_pay4 z b (ix2 r ⟨↑n / 128, by omega⟩) = expo (absmax (group (val z b r) n)) := by
  rw [expo_at]
  congr 2
  funext l
  simp only [group]
  exact congrArg (val z b r) (Fin.ext (by dsimp only; omega))

theorem code_group (r : Fin 96) (n : Fin 3072) :
    k0_pay5 z b (ix3 r ⟨↑n / 128, by omega⟩ ⟨↑n % 128, by omega⟩) = codeAt (val z b r) n := by
  have hv := value_col z b r n
  have he := expo_col z b r n
  unfold k0_pay5
  generalize k0_pay3 z b = v at *
  generalize k0_pay4 z b = E at *
  pointwise
  rw [codeAt, codeOf, ← he, ← hv]
  rfl

theorem scale_group (r : Fin 96) (n : Fin 3072) : k0_pay6 z b (ix2 r ⟨↑n / 128, by omega⟩) = scaleAt (val z b r) n := by
  have he := expo_col z b r n
  unfold k0_pay6
  generalize k0_pay4 z b = E at *
  pointwise
  rw [scaleAt, scaleOf, ← he]
  rfl

theorem code_at (r : Fin 96) (n : Fin 3072) : k0_pay7 z b (ix2 r n) = codeAt (val z b r) n := by
  have h := code_group z b r n
  unfold k0_pay7
  generalize k0_pay5 z b = C at *
  pointwise
  exact h

theorem scale_at (r : Fin 96) (n : Fin 3072) : k0_pay1 (k0_pay8 z b) (ix2 r n) = scaleAt (val z b r) n := by
  have h := scale_group z b r n
  unfold k0_pay1 k0_pay8
  generalize k0_pay6 z b = S at *
  pointwise
  exact h

theorem wide_at (r : Fin 96) (n : Fin 3072) :
    k0_pay2 (k0_pay5 z b) (k0_pay6 z b) (ix2 r n) = codeAt (val z b r) n * scaleAt (val z b r) n := by
  have hc := code_group z b r n
  have hs := scale_group z b r n
  unfold k0_pay2
  generalize k0_pay5 z b = C at *
  generalize k0_pay6 z b = S at *
  pointwise
  exact congrArg₂ (· * ·) hc hs

end

/-! ## The arrays after the run -/

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The value over the argument arrays of the program. -/
abbrev value (c : Dev nD) : Fin 96 → Fin 3072 → EReal :=
  val (m ((c : Thread nD τ).loc main_arg0)) (m ((c : Thread nD τ).loc main_arg1))

/-- The one block of each argument is the whole array. -/
theorem blocks (c : Dev nD) : iblk m c 0 t0_0 = m ((c : Thread nD τ).loc main_arg0)
    ∧ iblk m c 1 t0_0 = m ((c : Thread nD τ).loc main_arg1) := by
  refine ⟨?_, ?_⟩ <;> funext j <;> blk_ext [iblk, V, idx t0_0]

/-- The array of codes after the run. -/
theorem final_codes (c : Dev nD) : (dats m 0 c).arrAt 2 (cfgs 0).N
    = (fun j => codeAt (value m c (j 0)) (j 1) : Vec Ideal S96x3072 .fp8e4m3) := by
  refine (dats m 0 c).arrAt_eq_of_after_last 2 t0_0 (by decide +kernel) _ fun j => ?_
  blk_simp
  rw [after0_2]
  frame_out
  obtain ⟨h0, h1⟩ := blocks m c
  rw [h0, h1]
  idx_vars j
  exact code_at _ _ j0 j1

/-- The array of scales after the run. -/
theorem final_scales (c : Dev nD) : (dats m 0 c).arrAt 3 (cfgs 0).N
    = (fun j => scaleAt (value m c (j 0)) (j 1) : Vec Ideal S96x3072 .f32) := by
  refine (dats m 0 c).arrAt_eq_of_after_last 3 t0_0 (by decide +kernel) _ fun j => ?_
  blk_simp
  rw [after0_3]
  frame_out
  obtain ⟨h0, h1⟩ := blocks m c
  rw [h0, h1]
  idx_vars j
  exact scale_at _ _ j0 j1

/-- The array of codes times scales after the run. -/
theorem final_wide (c : Dev nD) : (dats m 0 c).arrAt 4 (cfgs 0).N
    = (fun j => codeAt (value m c (j 0)) (j 1) * scaleAt (value m c (j 0)) (j 1) : Vec Ideal S96x3072 .bf16) := by
  refine (dats m 0 c).arrAt_eq_of_after_last 4 t0_0 (by decide +kernel) _ fun j => ?_
  blk_simp
  rw [after0_4]
  frame_out
  obtain ⟨h0, h1⟩ := blocks m c
  rw [h0, h1]
  idx_vars j
  exact wide_at _ _ j0 j1

end Cert.FRefIdeal.Value
-- ==== Proof.FClaim.lean ====
module

public import proofs.«01_k».proof.Defs
public import proofs.«01_k».proof.Proof.FValue
public import proofs.«01_k».proof.Proof.FRefValue
public import Idealize.ShloMosaic.Lib.Claim

/-! # The first recurrent stage and its reference compute the same three arrays -/

@[expose] public section

set_option maxRecDepth 16384

noncomputable section

namespace Cert.FClaim

open Idealize.ShloMosaic Idealize.ShloMosaic.TcCoe Idealize.SL.Sem

/-- Of equal arguments the stage and the reference quantise equal values. -/
theorem val_congr {Z Z' : Vec Ideal FIdeal.S96x3072 .f32} {B B' : Vec Ideal FIdeal.S1x3072 .f32} (hZ : Z' = Z) (hB : B' = B) :
    FRefIdeal.Value.val Z' B' = FIdeal.Value.val Z B := by
  subst hZ hB
  rfl

theorem algebraic : Cert.algebraic_FIdeal_FRefIdeal := by
  pair_intro
  · run_from Cert.FIdeal.Gen.run_main m g
  · have hv : ∀ c, FRefIdeal.Value.value m' c = FIdeal.Value.value m c := fun c =>
      val_congr (hagree c).1 (hagree c).2
    run_from Cert.FRefIdeal.Gen.run_main m' g'
    · exact (FRefIdeal.Value.final_codes m' c).trans (by rw [FIdeal.Value.final_codes, hv])
    · exact (FRefIdeal.Value.final_scales m' c).trans (by rw [FIdeal.Value.final_scales, hv])
    · exact (FRefIdeal.Value.final_wide m' c).trans (by rw [FIdeal.Value.final_wide, hv])

end Cert.FClaim

end
-- ==== Proof.SBody.lean ====
module

public import proofs.«01_k».proof.Proof.Gen.SIdeal.Skeleton
public import proofs.«01_k».proof.Proof.Quantiser
public import Idealize.ShloMosaic.Lib.Pointwise

/-! # The recurrent stage at one grid point: what its two groups of columns store -/

@[expose] public section

set_option maxRecDepth 16384

noncomputable section

namespace Cert.SIdeal.Body

open Idealize.ShloMosaic Idealize.ShloMosaic.TcCoe
open Cert.SIdeal Cert.SIdeal.Gen Cert.Quantiser

variable (x : Vec Ideal S96x3072 .bf16) (w : Vec Ideal S3072x256 .bf16) (a : Vec Ideal S96x256 .f32) (b : Vec Ideal S1x256 .f32)
  (v : FVec Ideal S96x256 .f32) (r : Fin 96) (l : Fin 128)

/-- The first group of a row of the block. -/
abbrev left : Fin 128 → EReal := fun l => v (ix2 r ⟨↑l, by omega⟩)

/-- The second group of a row of the block. -/
abbrev right : Fin 128 → EReal := fun l => v (ix2 r ⟨128 + ↑l, by omega⟩)

/-! ## The first group -/

theorem code_left :
    k0_pay38 (k0_pay32 x w a b) (k0_pay33 x w a b) (k0_pay34 x w a b) k0_pay35 23#32 (ix2 r l)
      = codeOf (left (k0_pay31 x w a b) r) (left (k0_pay31 x w a b) r l) := by
  pointwise [k0_pay38, k0_pay36, k0_pay35, k0_pay34, k0_pay33, k0_pay32]
  generalize k0_pay31 x w a b = v
  have h := code_word (left v r) (left v r l)
  simp only [left, recip, word, field, absmax] at h
  convert h

theorem scale_left :
    k0_pay37 (k0_pay33 x w a b) (k0_pay34 x w a b) k0_pay35 23#32 (ix2 r 0) = scaleOf (left (k0_pay31 x w a b) r) := by
  pointwise [k0_pay37, k0_pay36, k0_pay35, k0_pay34, k0_pay33, k0_pay32]
  generalize k0_pay31 x w a b = v
  have h := scale_word (left v r)
  simp only [left, scale, word, field, absmax] at h
  convert h

theorem scales_left :
    k0_pay39 (k0_pay33 x w a b) (k0_pay34 x w a b) k0_pay35 23#32 (ix2 r l) = scaleOf (left (k0_pay31 x w a b) r) := by
  pointwise [k0_pay39]
  exact scale_left x w a b r

theorem wide_left :
    k0_pay40 (k0_pay32 x w a b) (k0_pay33 x w a b) (k0_pay34 x w a b) k0_pay35 23#32 (ix2 r l)
      = codeOf (left (k0_pay31 x w a b) r) (left (k0_pay31 x w a b) r l) * scaleOf (left (k0_pay31 x w a b) r) := by
  pointwise [k0_pay40]
  exact congrArg₂ (· * ·) (code_left x w a b r l) (scale_left x w a b r)

/-! ## The second group -/

theorem code_right : k0_pay44 (F := Ideal) v (ix2 r l) = codeOf (right v r) (right v r l) := by
  pointwise [k0_pay44, k0_pay42, k0_pay41]
  have h := code_word (right v r) (right v r l)
  simp only [right, recip, word, field, absmax] at h
  convert h

theorem scale_right : k0_pay43 (F := Ideal) v (ix2 r 0) = scaleOf (right v r) := by
  pointwise [k0_pay43, k0_pay42, k0_pay41]
  have h := scale_word (right v r)
  simp only [right, scale, word, field, absmax] at h
  convert h

theorem scales_right : k0_pay1 (F := Ideal) (k0_pay43 v) (ix2 r l) = scaleOf (right v r) := by
  pointwise [k0_pay1]
  exact scale_right v r

theorem wide_right :
    k0_pay2 (F := Ideal) (k0_pay43 v) (k0_pay44 v) (ix2 r l) = codeOf (right v r) (right v r l) * scaleOf (right v r) := by
  pointwise [k0_pay2]
  exact congrArg₂ (· * ·) (code_right v r l) (scale_right v r)

/-! ## The values that are quantised -/

theorem value_at (n : Fin 256) :
    k0_pay31 x w a b (ix2 r n) = (∑ k : Fin 3072, x (ix2 r k) * w (ix2 k n) + a (ix2 r n) + b (ix2 0 n))
      * Ideal.logistic (∑ k : Fin 3072, x (ix2 r k) * w (ix2 k n) + a (ix2 r n) + b (ix2 0 n)) := by
  pointwise [k0_pay31]

end Cert.SIdeal.Body

end
-- ==== Proof.SValue.lean ====
module

public import proofs.«01_k».proof.Proof.Gen.SIdeal.Frame
public import proofs.«01_k».proof.Proof.SBody
public import Idealize.ShloMosaic.Lib.Pipeline.ValueKit

/-! # The recurrent stage: its three result arrays as functions of its arguments -/

@[expose] public section

set_option maxRecDepth 16384

noncomputable section

namespace Cert.SIdeal.Value

open Idealize.ShloMosaic Idealize.ShloMosaic.TcCoe Idealize.SL.Sem
open Idealize.ShloMosaic.Pipeline (Dat)
open Cert.SIdeal Cert.SIdeal.Gen Cert.Quantiser

/-- The linear part of the stage: a row against a column of the scaled weights, the addend and the bias. -/
def lin (X : Vec Ideal S96x3072 .bf16) (WC : Vec Ideal S3072x3072 .fp8e4m3) (WS : Vec Ideal S24x3072 .f32)
    (A : Vec Ideal S96x3072 .f32) (B : Vec Ideal S1x3072 .f32) (r : Fin 96) (n : Fin 3072) : EReal :=
  ∑ k : Fin 3072, X (ix2 r k) * (WC (ix2 k n) * WS (ix2 ⟨↑k / 128, by omega⟩ n)) + A (ix2 r n) + B (ix2 0 n)

/-- The value that is quantised: the gated linear part. -/
def val (X : Vec Ideal S96x3072 .bf16) (WC : Vec Ideal S3072x3072 .fp8e4m3) (WS : Vec Ideal S24x3072 .f32)
    (A : Vec Ideal S96x3072 .f32) (B : Vec Ideal S1x3072 .f32) (r : Fin 96) (n : Fin 3072) : EReal :=
  lin X WC WS A B r n * Ideal.logistic (lin X WC WS A B r n)

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] ∧ win0_7.index t = ![0, t.val] :=
  (by decide +kernel : ∀ t : Fin grid0.N, _)

/-- The value over the argument arrays of the program. -/
abbrev value (c : Dev nD) : Fin 96 → Fin 3072 → EReal :=
  val (m ((c : Thread nD τ).loc main_arg0)) (m ((c : Thread nD τ).loc main_arg1)) (m ((c : Thread nD τ).loc main_arg2))
    (m ((c : Thread nD τ).loc main_arg3)) (m ((c : Thread nD τ).loc main_arg4))

/-- A block of weights is the block of codes times the block of scales, one scale for 128 rows. -/
abbrev Scaled (W : Vec Ideal S3072x256 .bf16) (wc : Vec Ideal S3072x256 .fp8e4m3) (ws : Vec Ideal S24x256 .f32) : Prop :=
  ∀ (k : Fin 3072) (n : Fin 256), W (ix2 k n) = wc (ix2 k n) * ws (ix2 ⟨↑k / 128, by omega⟩ n)

/-- A block of values against the array: column `n` of point `t` is column `256 t + n`. -/
theorem block_value (c : Dev nD) (t : Fin cfg0.N) (W : Vec Ideal S3072x256 .bf16)
    (hW : Scaled W (iblk m c 1 t) (iblk m c 2 t))
    (r : Fin 96) (n : Fin 256) (n' : Fin 3072) (hn : (n' : ℕ) = t.val * 256 + n) :
    k0_pay31 (iblk m c 0 t) W (iblk m c 3 t) (iblk m c 4 t) (ix2 r n) = value m c r n' := by
  rw [Body.value_at]
  simp only [hW _ _, value, val, lin]
  blk_point [iblk, V, idx t]

/-- Column `n` of point `t` as a column of the array. -/
def col (t : Fin cfg0.N) (n : Fin 256) : Fin 3072 :=
  ⟨t.val * 256 + ↑n, by have h : cfg0.N = 12 := N_0; omega⟩

/-- What a point leaves in its three output blocks. -/
theorem outs (c : Dev nD) (t : Fin cfg0.N) : outsAt0 m c t
    = ((fun y => codeAt (value m c (y 0)) (col t (y 1)) : Vec Ideal S96x256 .fp8e4m3),
      (fun y => scaleAt (value m c (y 0)) (col t (y 1)) : Vec Ideal S96x256 .f32),
      (fun y => codeAt (value m c (y 0)) (col t (y 1)) * scaleAt (value m c (y 0)) (col t (y 1)) : Vec Ideal S96x256 .bf16)) := by
  unfold outsAt0
  frame_out
  generalize hW : View.readCov (Val := Elt Ideal) (View.whole cc0_scratch0) _ _ = W
  have hw : Scaled W (iblk m c 1 t) (iblk m c 2 t) := by
    intro k n
    rw [← hW, View.readCov_eq_canon']
    clear hW
    canon_tiles y h
    all_goals
      simp at h0 h1
      open_payloads
      pointwise
      refine congrArg₂ (· * ·) ?_ ?_ <;> blk_ext
  clear hW
  have hl : ∀ (r : Fin 96) (l : Fin 128), Body.left (k0_pay31 (iblk m c 0 t) W (iblk m c 3 t) (iblk m c 4 t)) r
      = group (value m c r) (col t ⟨↑l, by omega⟩) := by
    intro r l
    funext l'
    exact block_value m c t W hw r _ _ (by simp only [col]; omega)
  have hr : ∀ (r : Fin 96) (l : Fin 128), Body.right (k0_pay31 (iblk m c 0 t) W (iblk m c 3 t) (iblk m c 4 t)) r
      = group (value m c r) (col t ⟨128 + ↑l, by omega⟩) := by
    intro r l
    funext l'
    exact block_value m c t W hw r _ _ (by simp only [col]; omega)
  have hl' : ∀ (r : Fin 96) (l : Fin 128), Body.left (k0_pay31 (iblk m c 0 t) W (iblk m c 3 t) (iblk m c 4 t)) r l
      = value m c r (col t ⟨↑l, by omega⟩) := fun r l => block_value m c t W hw r _ _ rfl
  have hr' : ∀ (r : Fin 96) (l : Fin 128), Body.right (k0_pay31 (iblk m c 0 t) W (iblk m c 3 t) (iblk m c 4 t)) r l
      = value m c r (col t ⟨128 + ↑l, by omega⟩) := fun r l => block_value m c t W hw r _ _ rfl
  refine Prod.ext ?_ (Prod.ext ?_ ?_)
  · funext z
    idx_vars z
    canon_tiles y h
    case piece0 =>
      idx_vars y
      obtain rfl : z0 = y0 := Fin.ext h0
      rw [show z1 = ⟨128 + ↑y1, by omega⟩ from Fin.ext h1]
      exact (Body.code_right _ _ _).trans (congrArg₂ codeOf (hr _ _) (hr' _ _))
    case piece1 =>
      idx_vars y
      obtain rfl : z0 = y0 := Fin.ext h0
      rw [show z1 = ⟨↑y1, by omega⟩ from Fin.ext h1]
      exact (Body.code_left _ _ _ _ _ _).trans (congrArg₂ codeOf (hl _ _) (hl' _ _))
  · funext z
    idx_vars z
    canon_tiles y h
    case piece0 =>
      idx_vars y
      obtain rfl : z0 = y0 := Fin.ext h0
      rw [show z1 = ⟨128 + ↑y1, by omega⟩ from Fin.ext h1]
      exact (Body.scales_right _ _ _).trans (congrArg scaleOf (hr _ _))
    case piece1 =>
      idx_vars y
      obtain rfl : z0 = y0 := Fin.ext h0
      rw [show z1 = ⟨↑y1, by omega⟩ from Fin.ext h1]
      exact (Body.scales_left _ _ _ _ _ _).trans (congrArg scaleOf (hl _ _))
  · funext z
    idx_vars z
    canon_tiles y h
    case piece0 =>
      idx_vars y
      obtain rfl : z0 = y0 := Fin.ext h0
      rw [show z1 = ⟨128 + ↑y1, by omega⟩ from Fin.ext h1]
      exact (Body.wide_right _ _ _).trans (congrArg₂ (· * ·) (congrArg₂ codeOf (hr _ _) (hr' _ _)) (congrArg scaleOf (hr _ _)))
    case piece1 =>
      idx_vars y
      obtain rfl : z0 = y0 := Fin.ext h0
      rw [show z1 = ⟨↑y1, by omega⟩ from Fin.ext h1]
      exact (Body.wide_left _ _ _ _ _ _).trans (congrArg₂ (· * ·) (congrArg₂ codeOf (hl _ _) (hl' _ _)) (congrArg scaleOf (hl _ _)))

/-- The array of codes after the run. -/
theorem final_codes (c : Dev nD) : (dats m 0 c).arrAt 5 (cfgs 0).N
    = (fun j => codeAt (value m c (j 0)) (j 1) : Vec Ideal S96x3072 .fp8e4m3) := by
  refine (dats m 0 c).arrAt_eq_of_covers 5 _ (by decide +kernel) fun t _ y => ?_
  blk_simp
  rw [after0_5, outs]
  exact congrArg₂ (fun r n => codeAt (value m c r) n) (Fin.ext (by blk_simp [idx t])) (Fin.ext (by simp only [col]; blk_simp [idx t]))

/-- The array of scales after the run. -/
theorem final_scales (c : Dev nD) : (dats m 0 c).arrAt 6 (cfgs 0).N
    = (fun j => scaleAt (value m c (j 0)) (j 1) : Vec Ideal S96x3072 .f32) := by
  refine (dats m 0 c).arrAt_eq_of_covers 6 _ (by decide +kernel) fun t _ y => ?_
  blk_simp
  rw [after0_6, outs]
  exact congrArg₂ (fun r n => scaleAt (value m c r) n) (Fin.ext (by blk_simp [idx t])) (Fin.ext (by simp only [col]; blk_simp [idx t]))

/-- The array of codes times scales after the run. -/
theorem final_wide (c : Dev nD) : (dats m 0 c).arrAt 7 (cfgs 0).N
    = (fun j => codeAt (value m c (j 0)) (j 1) * scaleAt (value m c (j 0)) (j 1) : Vec Ideal S96x3072 .bf16) := by
  refine (dats m 0 c).arrAt_eq_of_covers 7 _ (by decide +kernel) fun t _ y => ?_
  blk_simp
  rw [after0_7, outs]
  exact congrArg₂ (fun r n => codeAt (value m c r) n * scaleAt (value m c r) n) (Fin.ext (by blk_simp [idx t])) (Fin.ext (by simp only [col]; blk_simp [idx t]))

end Cert.SIdeal.Value
-- ==== Proof.SRefValue.lean ====
module

public import proofs.«01_k».proof.Proof.Gen.SRefIdeal.Frame
public import proofs.«01_k».proof.Proof.Quantiser
public import Idealize.ShloMosaic.Lib.Pipeline.ValueKit
public import Idealize.ShloMosaic.Lib.Pointwise

/-! # The recurrent stage, as the reference states it: its three result arrays as functions of its arguments -/

@[expose] public section

set_option maxRecDepth 16384

noncomputable section

namespace Cert.SRefIdeal.Value

open Idealize.ShloMosaic Idealize.ShloMosaic.TcCoe Idealize.SL.Sem
open Idealize.ShloMosaic.Pipeline (Dat)
open Cert.SRefIdeal Cert.SRefIdeal.Gen Cert.Quantiser

/-- The linear part of the stage: a row against a column of the scaled weights, the addend and the bias. -/
def lin (X : Vec Ideal S96x3072 .bf16) (WC : Vec Ideal S3072x3072 .fp8e4m3) (WS : Vec Ideal S24x3072 .f32)
    (A : Vec Ideal S96x3072 .f32) (B : Vec Ideal S1x3072 .f32) (r : Fin 96) (n : Fin 3072) : EReal :=
  ∑ k : Fin 3072, X (ix2 r k) * (WC (ix2 k n) * WS (ix2 ⟨↑k / 128, by omega⟩ n)) + A (ix2 r n) + B (ix2 0 n)

/-- The value that is quantised: the gated linear part. -/
def val (X : Vec Ideal S96x3072 .bf16) (WC : Vec Ideal S3072x3072 .fp8e4m3) (WS : Vec Ideal S24x3072 .f32)
    (A : Vec Ideal S96x3072 .f32) (B : Vec Ideal S1x3072 .f32) (r : Fin 96) (n : Fin 3072) : EReal :=
  lin X WC WS A B r n * Ideal.logistic (lin X WC WS A B r n)

section
variable (M N E : FVec Ideal S96x24 .f32) (v : FVec Ideal S96x24x128 .f32) (r : Fin 96) (g : Fin 24)

theorem absmax_at : multiReduction .maximumf [2] S96x24 (absf v) 0xFF800000#32 reduces_S96x24x128_S96x24 (.inl rfl) rfl (ix2 r g)
    = absmax (fun l => v (ix3 r g l)) := by
  pointwise
  unfold absmax
  rfl

theorem quotient_at : floor (divf (log M) (log N)) (ix2 r g)
    = Ideal.liftRound Int.floor (Ideal.div (Ideal.log (M (ix2 r g))) (Ideal.log (N (ix2 r g)))) := by
  pointwise

theorem zero_at : select (cmpf .oeq M (broadcast S96x24 (Scalar.ofBits .f32 0x00000000#32)))
    (broadcast S96x24 (Scalar.ofBits .f32 0x00000000#32)) E (ix2 r g) = if M (ix2 r g) = 0 then 0 else E (ix2 r g) := by
  pointwise

theorem clip_at : minimumf (broadcast S96x24 (Scalar.ofBits .f32 0x42F00000#32)) (maximumf (broadcast S96x24 (Scalar.ofBits .f32 0xC2FC0000#32))
    (addf M (broadcast S96x24 (Scalar.ofBits .f32 0x3F800000#32)))) (ix2 r g)
    = min (Ideal.ofBits .f32 0x42F00000#32) (max (Ideal.ofBits .f32 0xC2FC0000#32) (M (ix2 r g) + 1)) := by
  pointwise

theorem scaled_at : mulf M (broadcast S96x24 (Scalar.ofBits .f32 0x3B124925#32)) (ix2 r g)
    = M (ix2 r g) * Ideal.ofBits .f32 0x3B124925#32 := by
  pointwise

theorem two_at : (broadcast S96x24 (Scalar.ofBits .f32 0x40000000#32) : FVec Ideal S96x24 .f32) (ix2 r g) = Ideal.ofBits .f32 0x40000000#32 := by
  pointwise

theorem minus_at : subf (broadcast S96x24 (Scalar.ofBits .f32 0x00000000#32)) M (ix2 r g) = (0 - M (ix2 r g) : EReal) := by
  pointwise

/-- A code from a value and the negated exponent of its group. -/
theorem code_of (n : Fin 3072) : k0_pay3 v E (ix2 r n)
    = min (Ideal.ofBits .f32 0x43E00000#32) (max (Ideal.ofBits .f32 0xC3E00000#32)
        (v (ix3 r ⟨↑n / 128, by omega⟩ ⟨↑n % 128, by omega⟩) * Ideal.exp2 (E (ix2 r ⟨↑n / 128, by omega⟩)))) := by
  pointwise [k0_pay3, k0_pay1]
  rfl

/-- A scale from the exponent of its group. -/
theorem scale_of (n : Fin 3072) : k0_pay4 E (ix2 r n) = Ideal.exp2 (E (ix2 r ⟨↑n / 128, by omega⟩)) := by
  pointwise [k0_pay4, k0_pay2]
  rfl

theorem wide_of (n : Fin 3072) : k0_pay5 v E M (ix2 r n) = (k0_pay3 v M (ix2 r n) * k0_pay4 E (ix2 r n) : EReal) := by
  pointwise [k0_pay5, k0_pay3, k0_pay4, k0_pay1, k0_pay2]

end

section
variable (x : Vec Ideal S96x3072 .bf16) (wc : Vec Ideal S3072x3072 .fp8e4m3) (ws : Vec Ideal S24x3072 .f32)
  (b : Vec Ideal S1x3072 .f32) (a : Vec Ideal S96x3072 .f32)

/-- The values in groups of 128 columns. -/
theorem value_at (r : Fin 96) (g : Fin 24) (l : Fin 128) :
    k0_pay6 x wc ws a b (ix3 r g l) = val x wc ws a b r ⟨↑g * 128 + ↑l, by omega⟩ := by
  pointwise [k0_pay6]
  rfl

/-- The exponent of a group's scale. -/
theorem expo_at (r : Fin 96) (g : Fin 24) :
    k0_pay7 x wc ws a b (ix2 r g) = expo (absmax (group (val x wc ws a b r) ⟨↑g * 128, by omega⟩)) := by
  have hg : (fun l => k0_pay6 x wc ws a b (ix3 r g l)) = group (val x wc ws a b r) ⟨↑g * 128, by omega⟩ := by
    funext l
    rw [value_at, group]
    congr 1
    exact Fin.ext (by dsimp only; omega)
  rw [← hg]
  unfold k0_pay7
  generalize k0_pay6 x wc ws a b = v
  dsimp only
  rw [zero_at, clip_at, quotient_at, scaled_at, two_at, absmax_at, expo]

theorem negated_at (r : Fin 96) (g : Fin 24) : k0_pay8 x wc ws a b (ix2 r g) = (0 - k0_pay7 x wc ws a b (ix2 r g) : EReal) := by
  unfold k0_pay8
  exact minus_at _ _ _

theorem value_col (r : Fin 96) (n : Fin 3072) :
    k0_pay6 x wc ws a b (ix3 r ⟨↑n / 128, by omega⟩ ⟨↑n % 128, by omega⟩) = val x wc ws a b r n := by
  rw [value_at]
  congr 1
  exact Fin.ext (by dsimp only; omega)

theorem expo_col (r : Fin 96) (n : Fin 3072) :
    k0_pay7 x wc ws a b (ix2 r ⟨↑n / 128, by omega⟩) = expo (absmax (group (val x wc ws a b r) n)) := by
  rw [expo_at]
  congr 2
  funext l
  simp only [group]
  congr 1
  exact Fin.ext (by dsimp only; omega)

theorem code_at (r : Fin 96) (n : Fin 3072) :
    k0_pay3 (k0_pay6 x wc ws a b) (k0_pay8 x wc ws a b) (ix2 r n) = codeAt (val x wc ws a b r) n := by
  rw [code_of, negated_at, value_col, expo_col, codeAt, codeOf]

theorem scale_at (r : Fin 96) (n : Fin 3072) :
    k0_pay4 (k0_pay7 x wc ws a b) (ix2 r n) = scaleAt (val x wc ws a b r) n := by
  rw [scale_of, expo_col, scaleAt, scaleOf]

theorem wide_at (r : Fin 96) (n : Fin 3072) :
    k0_pay5 (k0_pay6 x wc ws a b) (k0_pay7 x wc ws a b) (k0_pay8 x wc ws a b) (ix2 r n)
      = codeAt (val x wc ws a b r) n * scaleAt (val x wc ws a b r) n := by
  rw [wide_of, code_at, scale_at]

end

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The value over the argument arrays of the program. -/
abbrev value (c : Dev nD) : Fin 96 → Fin 3072 → EReal :=
  val (m ((c : Thread nD τ).loc main_arg0)) (m ((c : Thread nD τ).loc main_arg1)) (m ((c : Thread nD τ).loc main_arg2))
    (m ((c : Thread nD τ).loc main_arg3)) (m ((c : Thread nD τ).loc main_arg4))

/-- The one block of each argument is the whole array. -/
theorem blocks (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4) := by
  refine ⟨?_, ?_, ?_, ?_, ?_⟩ <;> funext j <;> blk_ext [iblk, V, idx t0_0]

theorem final_codes (c : Dev nD) : (dats m 0 c).arrAt 5 (cfgs 0).N
    = (fun j => codeAt (value m c (j 0)) (j 1) : Vec Ideal S96x3072 .fp8e4m3) := by
  refine (dats m 0 c).arrAt_eq_of_after_last 5 t0_0 (by decide +kernel) _ fun j => ?_
  blk_simp
  rw [after0_5]
  frame_out
  unfold k0_pay9 k0_pay11
  frame_out
  obtain ⟨h0, h1, h2, h3, h4⟩ := blocks m c
  rw [h0, h1, h2, h3, h4]
  idx_vars j
  exact code_at _ _ _ _ _ j0 j1

theorem final_scales (c : Dev nD) : (dats m 0 c).arrAt 6 (cfgs 0).N
    = (fun j => scaleAt (value m c (j 0)) (j 1) : Vec Ideal S96x3072 .f32) := by
  refine (dats m 0 c).arrAt_eq_of_after_last 6 t0_0 (by decide +kernel) _ fun j => ?_
  blk_simp
  rw [after0_6]
  frame_out
  unfold k0_pay10
  frame_out
  obtain ⟨h0, h1, h2, h3, h4⟩ := blocks m c
  rw [h0, h1, h2, h3, h4]
  idx_vars j
  exact scale_at _ _ _ _ _ j0 j1

theorem final_wide (c : Dev nD) : (dats m 0 c).arrAt 7 (cfgs 0).N
    = (fun j => codeAt (value m c (j 0)) (j 1) * scaleAt (value m c (j 0)) (j 1) : Vec Ideal S96x3072 .bf16) := by
  refine (dats m 0 c).arrAt_eq_of_after_last 7 t0_0 (by decide +kernel) _ fun j => ?_
  blk_simp
  rw [after0_7]
  frame_out
  unfold k0_pay9 k0_pay10 k0_pay11
  frame_out
  obtain ⟨h0, h1, h2, h3, h4⟩ := blocks m c
  rw [h0, h1, h2, h3, h4]
  idx_vars j
  exact wide_at _ _ _ _ _ j0 j1

end Cert.SRefIdeal.Value
-- ==== Proof.SClaim.lean ====
module

public import proofs.«01_k».proof.Defs
public import proofs.«01_k».proof.Proof.SValue
public import proofs.«01_k».proof.Proof.SRefValue
public import Idealize.ShloMosaic.Lib.Claim

/-! # The recurrent stage and its reference compute the same three arrays -/

@[expose] public section

set_option maxRecDepth 16384

noncomputable section

namespace Cert.SClaim

open Idealize.ShloMosaic Idealize.ShloMosaic.TcCoe Idealize.SL.Sem

/-- Of equal arguments the stage and the reference quantise equal values. -/
theorem val_congr {X X' : Vec Ideal SIdeal.S96x3072 .bf16} {WC WC' : Vec Ideal SIdeal.S3072x3072 .fp8e4m3}
    {WS WS' : Vec Ideal SIdeal.S24x3072 .f32} {A A' : Vec Ideal SIdeal.S96x3072 .f32} {B B' : Vec Ideal SIdeal.S1x3072 .f32}
    (hX : X' = X) (hWC : WC' = WC) (hWS : WS' = WS) (hA : A' = A) (hB : B' = B) :
    SRefIdeal.Value.val X' WC' WS' A' B' = SIdeal.Value.val X WC WS A B := by
  subst hX hWC hWS hA hB
  rfl

theorem algebraic : Cert.algebraic_SIdeal_SRefIdeal := by
  pair_intro
  · run_from Cert.SIdeal.Gen.run_main m g
  · have hv : ∀ c, SRefIdeal.Value.value m' c = SIdeal.Value.value m c := fun c =>
      val_congr (hagree c).1 (hagree c).2.1 (hagree c).2.2.1 (hagree c).2.2.2.1 (hagree c).2.2.2.2
    run_from Cert.SRefIdeal.Gen.run_main m' g'
    · exact (SRefIdeal.Value.final_codes m' c).trans (by rw [SIdeal.Value.final_codes, hv])
    · exact (SRefIdeal.Value.final_scales m' c).trans (by rw [SIdeal.Value.final_scales, hv])
    · exact (SRefIdeal.Value.final_wide m' c).trans (by rw [SIdeal.Value.final_wide, hv])

end Cert.SClaim

end
-- ==== Proof.H1Body.lean ====
module

public import proofs.«01_k».proof.Proof.Gen.H1Ideal.Skeleton
public import proofs.«01_k».proof.Proof.Quantiser
public import Idealize.ShloMosaic.Lib.Pointwise

/-! # The first hidden stage at one grid point: what its two groups of columns store -/

@[expose] public section

set_option maxRecDepth 16384

noncomputable section

namespace Cert.H1Ideal.Body

open Idealize.ShloMosaic Idealize.ShloMosaic.TcCoe
open Cert.H1Ideal Cert.H1Ideal.Gen Cert.Quantiser

variable (x : Vec Ideal S480x3072 .bf16) (w : Vec Ideal S3072x256 .bf16) (a : Vec Ideal S480x256 .f32) (b : Vec Ideal S1x256 .f32)
  (v : FVec Ideal S480x256 .f32) (r : Fin 480) (l : Fin 128)

/-- The first group of a row of the block. -/
abbrev left : Fin 128 → EReal := fun l => v (ix2 r ⟨↑l, by omega⟩)

/-- The second group of a row of the block. -/
abbrev right : Fin 128 → EReal := fun l => v (ix2 r ⟨128 + ↑l, by omega⟩)

/-! ## The first group -/

theorem code_left :
    k0_pay38 (k0_pay33 x w a b) (k0_pay34 x w a b) (k0_pay35 x w a b) (iota .tc S1x246 32 [1] iota_S1x246_d1_w32) (ix2 r l)
      = codeOf (left (k0_pay32 x w a b) r) (left (k0_pay32 x w a b) r l) := by
  pointwise [k0_pay38, k0_pay36, k0_pay35, k0_pay34, k0_pay33]
  generalize k0_pay32 x w a b = v
  have h := code_word (left v r) (left v r l)
  simp only [left, recip, word, field, absmax] at h
  convert h

theorem scale_left :
    k0_pay37 (k0_pay34 x w a b) (k0_pay35 x w a b) (iota .tc S1x246 32 [1] iota_S1x246_d1_w32) (ix2 r 0) = scaleOf (left (k0_pay32 x w a b) r) := by
  pointwise [k0_pay37, k0_pay36, k0_pay35, k0_pay34, k0_pay33]
  generalize k0_pay32 x w a b = v
  have h := scale_word (left v r)
  simp only [left, scale, word, field, absmax] at h
  convert h

theorem scales_left :
    k0_pay39 (k0_pay34 x w a b) (k0_pay35 x w a b) (iota .tc S1x246 32 [1] iota_S1x246_d1_w32) (ix2 r l) = scaleOf (left (k0_pay32 x w a b) r) := by
  pointwise [k0_pay39]
  exact scale_left x w a b r

theorem wide_left :
    k0_pay41 (k0_pay40 (k0_pay33 x w a b) (k0_pay34 x w a b) (k0_pay35 x w a b) (iota .tc S1x246 32 [1] iota_S1x246_d1_w32)) (ix2 r l)
      = codeOf (left (k0_pay32 x w a b) r) (left (k0_pay32 x w a b) r l) * scaleOf (left (k0_pay32 x w a b) r) := by
  pointwise [k0_pay41, k0_pay40]
  exact congrArg₂ (· * ·) (code_left x w a b r l) (scale_left x w a b r)

/-! ## The second group -/

theorem code_right : k0_pay1 (F := Ideal) (k0_pay45 v) (Scalar.ofBits .f32 0x43E00000#32) k0_pay46 (ix2 r l) = codeOf (right v r) (right v r l) := by
  pointwise [k0_pay1, k0_pay46, k0_pay45, k0_pay43, k0_pay42]
  have h := code_word (right v r) (right v r l)
  simp only [right, recip, word, field, absmax] at h
  convert h

theorem scale_right : k0_pay44 (F := Ideal) v (ix2 r 0) = scaleOf (right v r) := by
  pointwise [k0_pay44, k0_pay43, k0_pay42]
  have h := scale_word (right v r)
  simp only [right, scale, word, field, absmax] at h
  convert h

theorem scales_right : k0_pay2 (F := Ideal) (k0_pay44 v) (ix2 r l) = scaleOf (right v r) := by
  pointwise [k0_pay2]
  exact scale_right v r

theorem wide_right :
    k0_pay3 (F := Ideal) (k0_pay44 v) (k0_pay45 v) (Scalar.ofBits .f32 0x43E00000#32) k0_pay46 (ix2 r l)
      = codeOf (right v r) (right v r l) * scaleOf (right v r) := by
  pointwise [k0_pay3]
  exact congrArg₂ (· * ·) (code_right v r l) (scale_right v r)

/-! ## The values that are quantised -/

theorem value_at (n : Fin 256) :
    k0_pay32 x w a b (ix2 r n) = (∑ k : Fin 3072, x (ix2 r k) * w (ix2 k n) + a (ix2 r n) + b (ix2 0 n))
      * Ideal.logistic (∑ k : Fin 3072, x (ix2 r k) * w (ix2 k n) + a (ix2 r n) + b (ix2 0 n)) := by
  pointwise [k0_pay32]

end Cert.H1Ideal.Body

end
-- ==== Proof.H1Value.lean ====
module

public import proofs.«01_k».proof.Proof.Gen.H1Ideal.Frame
public import proofs.«01_k».proof.Proof.H1Body
public import Idealize.ShloMosaic.Lib.Pipeline.ValueKit

/-! # The first hidden stage: its four result arrays as functions of its arguments -/

@[expose] public section

set_option maxRecDepth 16384

noncomputable section

namespace Cert.H1Ideal.Value

open Idealize.ShloMosaic Idealize.ShloMosaic.TcCoe Idealize.SL.Sem
open Idealize.ShloMosaic.Pipeline (Dat)
open Cert.H1Ideal Cert.H1Ideal.Gen Cert.Quantiser

/-- The linear part of the stage: a row against a column of the scaled weights, the addend and the bias. -/
def lin (X : Vec Ideal S480x3072 .bf16) (WC : Vec Ideal S3072x3072 .fp8e4m3) (WS : Vec Ideal S24x3072 .f32)
    (A : Vec Ideal S480x3072 .f32) (B : Vec Ideal S1x3072 .f32) (r : Fin 480) (n : Fin 3072) : EReal :=
  ∑ k : Fin 3072, X (ix2 r k) * (WC (ix2 k n) * WS (ix2 ⟨↑k / 128, by omega⟩ n)) + A (ix2 r n) + B (ix2 0 n)

/-- The value that is quantised: the gated linear part. -/
def val (X : Vec Ideal S480x3072 .bf16) (WC : Vec Ideal S3072x3072 .fp8e4m3) (WS : Vec Ideal S24x3072 .f32)
    (A : Vec Ideal S480x3072 .f32) (B : Vec Ideal S1x3072 .f32) (r : Fin 480) (n : Fin 3072) : EReal :=
  lin X WC WS A B r n * Ideal.logistic (lin X WC WS A B r n)

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] ∧ win0_7.index t = ![0, t.val] ∧ win0_8.index t = ![0, t.val] :=
  (by decide +kernel : ∀ t : Fin grid0.N, _)

/-- The value over the argument arrays of the program. -/
abbrev value (c : Dev nD) : Fin 480 → Fin 3072 → EReal :=
  val (m ((c : Thread nD τ).loc main_arg0)) (m ((c : Thread nD τ).loc main_arg1)) (m ((c : Thread nD τ).loc main_arg2))
    (m ((c : Thread nD τ).loc main_arg3)) (m ((c : Thread nD τ).loc main_arg4))

/-- A block of weights is the block of codes times the block of scales, one scale for 128 rows. -/
abbrev Scaled (W : Vec Ideal S3072x256 .bf16) (wc : Vec Ideal S3072x256 .fp8e4m3) (ws : Vec Ideal S24x256 .f32) : Prop :=
  ∀ (k : Fin 3072) (n : Fin 256), W (ix2 k n) = wc (ix2 k n) * ws (ix2 ⟨↑k / 128, by omega⟩ n)

/-- A block of values against the array: column `n` of point `t` is column `256 t + n`. -/
theorem block_value (c : Dev nD) (t : Fin cfg0.N) (W : Vec Ideal S3072x256 .bf16)
    (hW : Scaled W (iblk m c 1 t) (iblk m c 2 t))
    (r : Fin 480) (n : Fin 256) (n' : Fin 3072) (hn : (n' : ℕ) = t.val * 256 + n) :
    k0_pay32 (iblk m c 0 t) W (iblk m c 3 t) (iblk m c 4 t) (ix2 r n) = value m c r n' := by
  rw [Body.value_at]
  simp only [hW _ _, value, val, lin]
  blk_point [iblk, V, idx t]

/-- Column `n` of point `t` as a column of the array. -/
def col (t : Fin cfg0.N) (n : Fin 256) : Fin 3072 :=
  ⟨t.val * 256 + ↑n, by have h : cfg0.N = 12 := N_0; omega⟩

/-- What a point leaves in its four output blocks. -/
theorem outs (c : Dev nD) (t : Fin cfg0.N) : outsAt0 m c t
    = ((fun y => value m c (y 0) (col t (y 1)) : Vec Ideal S480x256 .f32),
      (fun y => codeAt (value m c (y 0)) (col t (y 1)) : Vec Ideal S480x256 .fp8e4m3),
      (fun y => scaleAt (value m c (y 0)) (col t (y 1)) : Vec Ideal S480x256 .f32),
      (fun y => codeAt (value m c (y 0)) (col t (y 1)) * scaleAt (value m c (y 0)) (col t (y 1)) : Vec Ideal S480x256 .bf16)) := by
  unfold outsAt0
  frame_out
  generalize hW : View.readCov (Val := Elt Ideal) (View.whole cc0_scratch0) _ _ = W
  have hw : Scaled W (iblk m c 1 t) (iblk m c 2 t) := by
    intro k n
    rw [← hW, View.readCov_eq_canon']
    clear hW
    canon_tiles y h
    all_goals
      simp at h0 h1
      open_payloads
      pointwise
      refine congrArg₂ (· * ·) ?_ ?_ <;> blk_ext
  clear hW
  have hl : ∀ (r : Fin 480) (l : Fin 128), Body.left (k0_pay32 (iblk m c 0 t) W (iblk m c 3 t) (iblk m c 4 t)) r
      = group (value m c r) (col t ⟨↑l, by omega⟩) := by
    intro r l
    funext l'
    exact block_value m c t W hw r _ _ (by simp only [col]; omega)
  have hr : ∀ (r : Fin 480) (l : Fin 128), Body.right (k0_pay32 (iblk m c 0 t) W (iblk m c 3 t) (iblk m c 4 t)) r
      = group (value m c r) (col t ⟨128 + ↑l, by omega⟩) := by
    intro r l
    funext l'
    exact block_value m c t W hw r _ _ (by simp only [col]; omega)
  have hl' : ∀ (r : Fin 480) (l : Fin 128), Body.left (k0_pay32 (iblk m c 0 t) W (iblk m c 3 t) (iblk m c 4 t)) r l
      = value m c r (col t ⟨↑l, by omega⟩) := fun r l => block_value m c t W hw r _ _ rfl
  have hr' : ∀ (r : Fin 480) (l : Fin 128), Body.right (k0_pay32 (iblk m c 0 t) W (iblk m c 3 t) (iblk m c 4 t)) r l
      = value m c r (col t ⟨128 + ↑l, by omega⟩) := fun r l => block_value m c t W hw r _ _ rfl
  refine Prod.ext ?_ (Prod.ext ?_ (Prod.ext ?_ ?_))
  · funext z
    idx_vars z
    exact block_value m c t W hw _ _ _ rfl
  · funext z
    idx_vars z
    canon_tiles y h
    case piece0 =>
      idx_vars y
      obtain rfl : z0 = y0 := Fin.ext h0
      rw [show z1 = ⟨128 + ↑y1, by omega⟩ from Fin.ext h1]
      exact (Body.code_right _ _ _).trans (congrArg₂ codeOf (hr _ _) (hr' _ _))
    case piece1 =>
      idx_vars y
      obtain rfl : z0 = y0 := Fin.ext h0
      rw [show z1 = ⟨↑y1, by omega⟩ from Fin.ext h1]
      exact (Body.code_left _ _ _ _ _ _).trans (congrArg₂ codeOf (hl _ _) (hl' _ _))
  · funext z
    idx_vars z
    canon_tiles y h
    case piece0 =>
      idx_vars y
      obtain rfl : z0 = y0 := Fin.ext h0
      rw [show z1 = ⟨128 + ↑y1, by omega⟩ from Fin.ext h1]
      exact (Body.scales_right _ _ _).trans (congrArg scaleOf (hr _ _))
    case piece1 =>
      idx_vars y
      obtain rfl : z0 = y0 := Fin.ext h0
      rw [show z1 = ⟨↑y1, by omega⟩ from Fin.ext h1]
      exact (Body.scales_left _ _ _ _ _ _).trans (congrArg scaleOf (hl _ _))
  · funext z
    idx_vars z
    canon_tiles y h
    case piece0 =>
      idx_vars y
      obtain rfl : z0 = y0 := Fin.ext h0
      rw [show z1 = ⟨128 + ↑y1, by omega⟩ from Fin.ext h1]
      exact (Body.wide_right _ _ _).trans (congrArg₂ (· * ·) (congrArg₂ codeOf (hr _ _) (hr' _ _)) (congrArg scaleOf (hr _ _)))
    case piece1 =>
      idx_vars y
      obtain rfl : z0 = y0 := Fin.ext h0
      rw [show z1 = ⟨↑y1, by omega⟩ from Fin.ext h1]
      exact (Body.wide_left _ _ _ _ _ _).trans (congrArg₂ (· * ·) (congrArg₂ codeOf (hl _ _) (hl' _ _)) (congrArg scaleOf (hl _ _)))

/-- The array of values after the run. -/
theorem final_value (c : Dev nD) : (dats m 0 c).arrAt 5 (cfgs 0).N
    = (fun j => value m c (j 0) (j 1) : Vec Ideal S480x3072 .f32) := by
  refine (dats m 0 c).arrAt_eq_of_covers 5 _ (by decide +kernel) fun t _ y => ?_
  blk_simp
  rw [after0_5, outs]
  exact congrArg₂ (fun r n => value m c r n) (Fin.ext (by blk_simp [idx t])) (Fin.ext (by simp only [col]; blk_simp [idx t]))

/-- The array of codes after the run. -/
theorem final_codes (c : Dev nD) : (dats m 0 c).arrAt 6 (cfgs 0).N
    = (fun j => codeAt (value m c (j 0)) (j 1) : Vec Ideal S480x3072 .fp8e4m3) := by
  refine (dats m 0 c).arrAt_eq_of_covers 6 _ (by decide +kernel) fun t _ y => ?_
  blk_simp
  rw [after0_6, outs]
  exact congrArg₂ (fun r n => codeAt (value m c r) n) (Fin.ext (by blk_simp [idx t])) (Fin.ext (by simp only [col]; blk_simp [idx t]))

/-- The array of scales after the run. -/
theorem final_scales (c : Dev nD) : (dats m 0 c).arrAt 7 (cfgs 0).N
    = (fun j => scaleAt (value m c (j 0)) (j 1) : Vec Ideal S480x3072 .f32) := by
  refine (dats m 0 c).arrAt_eq_of_covers 7 _ (by decide +kernel) fun t _ y => ?_
  blk_simp
  rw [after0_7, outs]
  exact congrArg₂ (fun r n => scaleAt (value m c r) n) (Fin.ext (by blk_simp [idx t])) (Fin.ext (by simp only [col]; blk_simp [idx t]))

/-- The array of codes times scales after the run. -/
theorem final_wide (c : Dev nD) : (dats m 0 c).arrAt 8 (cfgs 0).N
    = (fun j => codeAt (value m c (j 0)) (j 1) * scaleAt (value m c (j 0)) (j 1) : Vec Ideal S480x3072 .bf16) := by
  refine (dats m 0 c).arrAt_eq_of_covers 8 _ (by decide +kernel) fun t _ y => ?_
  blk_simp
  rw [after0_8, outs]
  exact congrArg₂ (fun r n => codeAt (value m c r) n * scaleAt (value m c r) n) (Fin.ext (by blk_simp [idx t])) (Fin.ext (by simp only [col]; blk_simp [idx t]))

end Cert.H1Ideal.Value
-- ==== Proof.H1RefValue.lean ====
module

public import proofs.«01_k».proof.Proof.Gen.H1RefIdeal.Frame
public import proofs.«01_k».proof.Proof.Quantiser
public import Idealize.ShloMosaic.Lib.Pipeline.ValueKit
public import Idealize.ShloMosaic.Lib.Pointwise

/-! # The first hidden stage, as the reference states it: its three result arrays as functions of its arguments -/

@[expose] public section

set_option maxRecDepth 16384

noncomputable section

namespace Cert.H1RefIdeal.Value

open Idealize.ShloMosaic Idealize.ShloMosaic.TcCoe Idealize.SL.Sem
open Idealize.ShloMosaic.Pipeline (Dat)
open Cert.H1RefIdeal Cert.H1RefIdeal.Gen Cert.Quantiser

/-- The linear part of the stage: a row against a column of the scaled weights, the addend and the bias. -/
def lin (X : Vec Ideal S480x3072 .bf16) (WC : Vec Ideal S3072x3072 .fp8e4m3) (WS : Vec Ideal S24x3072 .f32)
    (A : Vec Ideal S480x3072 .f32) (B : Vec Ideal S1x3072 .f32) (r : Fin 480) (n : Fin 3072) : EReal :=
  A (ix2 r n) + ∑ k : Fin 3072, X (ix2 r k) * (WC (ix2 k n) * WS (ix2 ⟨↑k / 128, by omega⟩ n)) + B (ix2 0 n)

/-- The value that is quantised: the gated linear part. -/
def val (X : Vec Ideal S480x3072 .bf16) (WC : Vec Ideal S3072x3072 .fp8e4m3) (WS : Vec Ideal S24x3072 .f32)
    (A : Vec Ideal S480x3072 .f32) (B : Vec Ideal S1x3072 .f32) (r : Fin 480) (n : Fin 3072) : EReal :=
  lin X WC WS A B r n * Ideal.logistic (lin X WC WS A B r n)

section
variable (M N E : FVec Ideal S480x24 .f32) (v : FVec Ideal S480x24x128 .f32) (r : Fin 480) (g : Fin 24)

theorem absmax_at : multiReduction .maximumf [2] S480x24 (absf v) 0xFF800000#32 reduces_S480x24x128_S480x24 (.inl rfl) rfl (ix2 r g)
    = absmax (fun l => v (ix3 r g l)) := by
  pointwise
  unfold absmax
  rfl

theorem quotient_at : floor (divf (log M) (log N)) (ix2 r g)
    = Ideal.liftRound Int.floor (Ideal.div (Ideal.log (M (ix2 r g))) (Ideal.log (N (ix2 r g)))) := by
  pointwise

theorem zero_at : select (cmpf .oeq M (broadcast S480x24 (Scalar.ofBits .f32 0x00000000#32)))
    (broadcast S480x24 (Scalar.ofBits .f32 0x00000000#32)) E (ix2 r g) = if M (ix2 r g) = 0 then 0 else E (ix2 r g) := by
  pointwise

theorem clip_at : minimumf (broadcast S480x24 (Scalar.ofBits .f32 0x42F00000#32)) (maximumf (broadcast S480x24 (Scalar.ofBits .f32 0xC2FC0000#32))
    (addf M (broadcast S480x24 (Scalar.ofBits .f32 0x3F800000#32)))) (ix2 r g)
    = min (Ideal.ofBits .f32 0x42F00000#32) (max (Ideal.ofBits .f32 0xC2FC0000#32) (M (ix2 r g) + 1)) := by
  pointwise

theorem scaled_at : mulf M (broadcast S480x24 (Scalar.ofBits .f32 0x3B124925#32)) (ix2 r g)
    = M (ix2 r g) * Ideal.ofBits .f32 0x3B124925#32 := by
  pointwise

theorem two_at : (broadcast S480x24 (Scalar.ofBits .f32 0x40000000#32) : FVec Ideal S480x24 .f32) (ix2 r g) = Ideal.ofBits .f32 0x40000000#32 := by
  pointwise

end

section
variable (v : FVec Ideal S480x24x128 .f32) (C : IVec S480x24 1) (M N : FVec Ideal S480x24 .f32) (r : Fin 480)

/-- A code from a value and the exponent of its group. -/
theorem code_of (n : Fin 3072) : k0_pay4 v C M N (ix2 r n)
    = min (Ideal.ofBits .f32 0x43E00000#32) (max (Ideal.ofBits .f32 0xC3E00000#32)
        (v (ix3 r ⟨↑n / 128, by omega⟩ ⟨↑n % 128, by omega⟩) * Ideal.exp2 (0 - k0_pay1 C M N (ix2 r ⟨↑n / 128, by omega⟩)))) := by
  unfold k0_pay4 k0_pay2
  generalize k0_pay1 C M N = E
  pointwise
  rfl

/-- A scale from the exponent of its group. -/
theorem scale_of (n : Fin 3072) : k0_pay5 C M N (ix2 r n) = Ideal.exp2 (k0_pay1 C M N (ix2 r ⟨↑n / 128, by omega⟩)) := by
  unfold k0_pay5 k0_pay3
  generalize k0_pay1 C M N = E
  pointwise
  rfl

theorem wide_of (n : Fin 3072) : k0_pay6 v C M N (ix2 r n) = (k0_pay4 v C M N (ix2 r n) * k0_pay5 C M N (ix2 r n) : EReal) := by
  unfold k0_pay6 k0_pay4 k0_pay5 k0_pay3 k0_pay2
  generalize k0_pay1 C M N = E
  pointwise

end

section
variable (x : Vec Ideal S480x3072 .bf16) (wc : Vec Ideal S3072x3072 .fp8e4m3) (ws : Vec Ideal S24x3072 .f32)
  (a : Vec Ideal S480x3072 .f32) (b : Vec Ideal S1x3072 .f32)

/-- The values. -/
theorem value_at (r : Fin 480) (n : Fin 3072) : k0_pay7 a x wc ws b (ix2 r n) = val x wc ws a b r n := by
  pointwise [k0_pay7]
  rfl

/-- The values in groups of 128 columns. -/
theorem grouped_at (r : Fin 480) (g : Fin 24) (l : Fin 128) :
    k0_pay8 a x wc ws b (ix3 r g l) = val x wc ws a b r ⟨↑g * 128 + ↑l, by omega⟩ := by
  rw [← value_at]
  unfold k0_pay8
  generalize k0_pay7 a x wc ws b = v
  pointwise

/-- The exponent of a group's scale. -/
theorem expo_at (r : Fin 480) (g : Fin 24) :
    k0_pay1 (k0_pay10 a x wc ws b) (k0_pay11 a x wc ws b) k0_pay12 (ix2 r g) = expo (absmax (group (val x wc ws a b r) ⟨↑g * 128, by omega⟩)) := by
  have hg : (fun l => k0_pay8 a x wc ws b (ix3 r g l)) = group (val x wc ws a b r) ⟨↑g * 128, by omega⟩ := by
    funext l
    rw [grouped_at, group]
    congr 1
    exact Fin.ext (by dsimp only; omega)
  rw [← hg]
  unfold k0_pay1 k0_pay10 k0_pay11 k0_pay12 k0_pay9
  generalize k0_pay8 a x wc ws b = v
  dsimp only
  rw [zero_at, clip_at, quotient_at, scaled_at, two_at, absmax_at, expo]

theorem value_col (r : Fin 480) (n : Fin 3072) :
    k0_pay8 a x wc ws b (ix3 r ⟨↑n / 128, by omega⟩ ⟨↑n % 128, by omega⟩) = val x wc ws a b r n := by
  rw [grouped_at]
  congr 1
  exact Fin.ext (by dsimp only; omega)

theorem expo_col (r : Fin 480) (n : Fin 3072) :
    k0_pay1 (k0_pay10 a x wc ws b) (k0_pay11 a x wc ws b) k0_pay12 (ix2 r ⟨↑n / 128, by omega⟩) = expo (absmax (group (val x wc ws a b r) n)) := by
  rw [expo_at]
  congr 2
  funext l
  simp only [group]
  congr 1
  exact Fin.ext (by dsimp only; omega)

theorem code_at (r : Fin 480) (n : Fin 3072) :
    k0_pay4 (k0_pay8 a x wc ws b) (k0_pay10 a x wc ws b) (k0_pay11 a x wc ws b) k0_pay12 (ix2 r n)
      = codeAt (val x wc ws a b r) n := by
  rw [code_of, value_col, expo_col, codeAt, codeOf]

theorem scale_at (r : Fin 480) (n : Fin 3072) :
    k0_pay5 (k0_pay10 a x wc ws b) (k0_pay11 a x wc ws b) k0_pay12 (ix2 r n) = scaleAt (val x wc ws a b r) n := by
  rw [scale_of, expo_col, scaleAt, scaleOf]

theorem wide_at (r : Fin 480) (n : Fin 3072) :
    k0_pay6 (k0_pay8 a x wc ws b) (k0_pay10 a x wc ws b) (k0_pay11 a x wc ws b) k0_pay12 (ix2 r n)
      = codeAt (val x wc ws a b r) n * scaleAt (val x wc ws a b r) n := by
  rw [wide_of, code_at, scale_at]

end

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The value over the argument arrays of the program. -/
abbrev value (c : Dev nD) : Fin 480 → Fin 3072 → EReal :=
  val (m ((c : Thread nD τ).loc main_arg0)) (m ((c : Thread nD τ).loc main_arg1)) (m ((c : Thread nD τ).loc main_arg2))
    (m ((c : Thread nD τ).loc main_arg3)) (m ((c : Thread nD τ).loc main_arg4))

/-- The one block of each argument is the whole array. -/
theorem blocks (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4) := by
  refine ⟨?_, ?_, ?_, ?_, ?_⟩ <;> funext j <;> blk_ext [iblk, V, idx t0_0]

/-- The array of values after the run. -/
theorem final_value (c : Dev nD) : (dats m 0 c).arrAt 5 (cfgs 0).N
    = (fun j => value m c (j 0) (j 1) : Vec Ideal S480x3072 .f32) := by
  refine (dats m 0 c).arrAt_eq_of_after_last 5 t0_0 (by decide +kernel) _ fun j => ?_
  blk_simp
  rw [after0_5]
  frame_out
  obtain ⟨h0, h1, h2, h3, h4⟩ := blocks m c
  rw [h0, h1, h2, h3, h4]
  idx_vars j
  exact value_at _ _ _ _ _ _ _

/-- The array of codes after the run. -/
theorem final_codes (c : Dev nD) : (dats m 0 c).arrAt 6 (cfgs 0).N
    = (fun j => codeAt (value m c (j 0)) (j 1) : Vec Ideal S480x3072 .fp8e4m3) := by
  refine (dats m 0 c).arrAt_eq_of_after_last 6 t0_0 (by decide +kernel) _ fun j => ?_
  blk_simp
  rw [after0_6]
  frame_out
  unfold k0_pay13 k0_pay14 k0_pay15 k0_pay16
  frame_out
  obtain ⟨h0, h1, h2, h3, h4⟩ := blocks m c
  rw [h0, h1, h2, h3, h4]
  idx_vars j
  exact code_at _ _ _ _ _ _ _

/-- The array of scales after the run. -/
theorem final_scales (c : Dev nD) : (dats m 0 c).arrAt 7 (cfgs 0).N
    = (fun j => scaleAt (value m c (j 0)) (j 1) : Vec Ideal S480x3072 .f32) := by
  refine (dats m 0 c).arrAt_eq_of_after_last 7 t0_0 (by decide +kernel) _ fun j => ?_
  blk_simp
  rw [after0_7]
  frame_out
  unfold k0_pay14 k0_pay15 k0_pay16
  frame_out
  obtain ⟨h0, h1, h2, h3, h4⟩ := blocks m c
  rw [h0, h1, h2, h3, h4]
  idx_vars j
  exact scale_at _ _ _ _ _ _ _

/-- The array of codes times scales after the run. -/
theorem final_wide (c : Dev nD) : (dats m 0 c).arrAt 8 (cfgs 0).N
    = (fun j => codeAt (value m c (j 0)) (j 1) * scaleAt (value m c (j 0)) (j 1) : Vec Ideal S480x3072 .bf16) := by
  refine (dats m 0 c).arrAt_eq_of_after_last 8 t0_0 (by decide +kernel) _ fun j => ?_
  blk_simp
  rw [after0_8]
  frame_out
  unfold k0_pay13 k0_pay14 k0_pay15 k0_pay16
  frame_out
  obtain ⟨h0, h1, h2, h3, h4⟩ := blocks m c
  rw [h0, h1, h2, h3, h4]
  idx_vars j
  exact wide_at _ _ _ _ _ _ _

end Cert.H1RefIdeal.Value

end
-- ==== Proof.H1Claim.lean ====
module

public import proofs.«01_k».proof.Defs
public import proofs.«01_k».proof.Proof.H1Value
public import proofs.«01_k».proof.Proof.H1RefValue
public import Idealize.ShloMosaic.Lib.Claim

/-! # The first hidden stage and its reference compute the same four arrays -/

@[expose] public section

set_option maxRecDepth 16384

noncomputable section

namespace Cert.H1Claim

open Idealize.ShloMosaic Idealize.ShloMosaic.TcCoe Idealize.SL.Sem

/-- Of equal arguments the stage and the reference quantise equal values. -/
theorem val_congr {X X' : Vec Ideal H1Ideal.S480x3072 .bf16} {WC WC' : Vec Ideal H1Ideal.S3072x3072 .fp8e4m3}
    {WS WS' : Vec Ideal H1Ideal.S24x3072 .f32} {A A' : Vec Ideal H1Ideal.S480x3072 .f32} {B B' : Vec Ideal H1Ideal.S1x3072 .f32}
    (hX : X' = X) (hWC : WC' = WC) (hWS : WS' = WS) (hA : A' = A) (hB : B' = B) :
    H1RefIdeal.Value.val X' WC' WS' A' B' = H1Ideal.Value.val X WC WS A B := by
  subst hX hWC hWS hA hB
  funext r n
  have h : H1RefIdeal.Value.lin X' WC' WS' A' B' r n = H1Ideal.Value.lin X' WC' WS' A' B' r n := by
    unfold H1RefIdeal.Value.lin H1Ideal.Value.lin
    exact congrArg (· + _) (add_comm _ _)
  unfold H1RefIdeal.Value.val H1Ideal.Value.val
  rw [h]

set_option maxHeartbeats 2000000 in
theorem algebraic : Cert.algebraic_H1Ideal_H1RefIdeal := by
  pair_intro
  · run_from Cert.H1Ideal.Gen.run_main m g
  · have hv : ∀ c, H1RefIdeal.Value.value m' c = H1Ideal.Value.value m c := fun c =>
      val_congr (hagree c).1 (hagree c).2.1 (hagree c).2.2.1 (hagree c).2.2.2.1 (hagree c).2.2.2.2
    run_from Cert.H1RefIdeal.Gen.run_main m' g'
    · exact (H1RefIdeal.Value.final_value m' c).trans (by rw [H1Ideal.Value.final_value, hv])
    · exact (H1RefIdeal.Value.final_codes m' c).trans (by rw [H1Ideal.Value.final_codes, hv])
    · exact (H1RefIdeal.Value.final_scales m' c).trans (by rw [H1Ideal.Value.final_scales, hv])
    · exact (H1RefIdeal.Value.final_wide m' c).trans (by rw [H1Ideal.Value.final_wide, hv])

end Cert.H1Claim

end
-- ==== Proof.H2Body.lean ====
module

public import proofs.«01_k».proof.Proof.Gen.H2Ideal.Skeleton
public import proofs.«01_k».proof.Proof.Quantiser
public import Idealize.ShloMosaic.Lib.Pointwise

/-! # The second hidden stage at one grid point: what its two groups of columns store -/

@[expose] public section

set_option maxRecDepth 16384

noncomputable section

namespace Cert.H2Ideal.Body

open Idealize.ShloMosaic Idealize.ShloMosaic.TcCoe
open Cert.H2Ideal Cert.H2Ideal.Gen Cert.Quantiser

variable (x : Vec Ideal S480x3072 .bf16) (w : Vec Ideal S3072x256 .bf16) (a : Vec Ideal S480x256 .f32) (b : Vec Ideal S1x256 .f32)
  (v : FVec Ideal S480x256 .f32) (r : Fin 480) (l : Fin 128)

/-- The first group of a row of the block. -/
abbrev left : Fin 128 → EReal := fun l => v (ix2 r ⟨↑l, by omega⟩)

/-- The second group of a row of the block. -/
abbrev right : Fin 128 → EReal := fun l => v (ix2 r ⟨128 + ↑l, by omega⟩)

/-! ## The first group -/

theorem code_left :
    k0_pay38 (k0_pay32 x w a b) (k0_pay33 x w a b) (k0_pay34 x w a b) k0_pay35 23#32 (ix2 r l)
      = codeOf (left (k0_pay31 x w a b) r) (left (k0_pay31 x w a b) r l) := by
  pointwise [k0_pay38, k0_pay36, k0_pay35, k0_pay34, k0_pay33, k0_pay32]
  generalize k0_pay31 x w a b = v
  have h := code_word (left v r) (left v r l)
  simp only [left, recip, word, field, absmax] at h
  convert h

theorem scale_left :
    k0_pay37 (k0_pay33 x w a b) (k0_pay34 x w a b) k0_pay35 23#32 (ix2 r 0) = scaleOf (left (k0_pay31 x w a b) r) := by
  pointwise [k0_pay37, k0_pay36, k0_pay35, k0_pay34, k0_pay33, k0_pay32]
  generalize k0_pay31 x w a b = v
  have h := scale_word (left v r)
  simp only [left, scale, word, field, absmax] at h
  convert h

theorem scales_left :
    k0_pay39 (k0_pay33 x w a b) (k0_pay34 x w a b) k0_pay35 23#32 (ix2 r l) = scaleOf (left (k0_pay31 x w a b) r) := by
  pointwise [k0_pay39]
  exact scale_left x w a b r

theorem wide_left :
    k0_pay40 (k0_pay32 x w a b) (k0_pay33 x w a b) (k0_pay34 x w a b) k0_pay35 23#32 (ix2 r l)
      = codeOf (left (k0_pay31 x w a b) r) (left (k0_pay31 x w a b) r l) * scaleOf (left (k0_pay31 x w a b) r) := by
  pointwise [k0_pay40]
  exact congrArg₂ (· * ·) (code_left x w a b r l) (scale_left x w a b r)

/-! ## The second group -/

theorem code_right : k0_pay44 (F := Ideal) v (ix2 r l) = codeOf (right v r) (right v r l) := by
  pointwise [k0_pay44, k0_pay42, k0_pay41]
  have h := code_word (right v r) (right v r l)
  simp only [right, recip, word, field, absmax] at h
  convert h

theorem scale_right : k0_pay43 (F := Ideal) v (ix2 r 0) = scaleOf (right v r) := by
  pointwise [k0_pay43, k0_pay42, k0_pay41]
  have h := scale_word (right v r)
  simp only [right, scale, word, field, absmax] at h
  convert h

theorem scales_right : k0_pay1 (F := Ideal) (k0_pay43 v) (ix2 r l) = scaleOf (right v r) := by
  pointwise [k0_pay1]
  exact scale_right v r

theorem wide_right :
    k0_pay2 (F := Ideal) (k0_pay43 v) (k0_pay44 v) (ix2 r l) = codeOf (right v r) (right v r l) * scaleOf (right v r) := by
  pointwise [k0_pay2]
  exact congrArg₂ (· * ·) (code_right v r l) (scale_right v r)

/-! ## The values that are quantised -/

theorem value_at (n : Fin 256) :
    k0_pay31 x w a b (ix2 r n) = a (ix2 r n) + (∑ k : Fin 3072, x (ix2 r k) * w (ix2 k n) + b (ix2 0 n))
      * Ideal.logistic (∑ k : Fin 3072, x (ix2 r k) * w (ix2 k n) + b (ix2 0 n)) := by
  pointwise [k0_pay31]

end Cert.H2Ideal.Body

end
-- ==== Proof.H2Value.lean ====
module

public import proofs.«01_k».proof.Proof.Gen.H2Ideal.Frame
public import proofs.«01_k».proof.Proof.H2Body
public import Idealize.ShloMosaic.Lib.Pipeline.ValueKit

/-! # The second hidden stage: its three result arrays as functions of its arguments -/

@[expose] public section

set_option maxRecDepth 16384

noncomputable section

namespace Cert.H2Ideal.Value

open Idealize.ShloMosaic Idealize.ShloMosaic.TcCoe Idealize.SL.Sem
open Idealize.ShloMosaic.Pipeline (Dat)
open Cert.H2Ideal Cert.H2Ideal.Gen Cert.Quantiser

/-- The linear part of the stage: a row against a column of the scaled weights, and the bias. -/
def lin (X : Vec Ideal S480x3072 .bf16) (WC : Vec Ideal S3072x3072 .fp8e4m3) (WS : Vec Ideal S24x3072 .f32)
    (B : Vec Ideal S1x3072 .f32) (r : Fin 480) (n : Fin 3072) : EReal :=
  ∑ k : Fin 3072, X (ix2 r k) * (WC (ix2 k n) * WS (ix2 ⟨↑k / 128, by omega⟩ n)) + B (ix2 0 n)

/-- The value that is quantised: the addend and the gated linear part. -/
def val (X : Vec Ideal S480x3072 .bf16) (WC : Vec Ideal S3072x3072 .fp8e4m3) (WS : Vec Ideal S24x3072 .f32)
    (A : Vec Ideal S480x3072 .f32) (B : Vec Ideal S1x3072 .f32) (r : Fin 480) (n : Fin 3072) : EReal :=
  A (ix2 r n) + lin X WC WS B r n * Ideal.logistic (lin X WC WS B r n)

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] ∧ win0_7.index t = ![0, t.val] :=
  (by decide +kernel : ∀ t : Fin grid0.N, _)

/-- The value over the argument arrays of the program. -/
abbrev value (c : Dev nD) : Fin 480 → Fin 3072 → EReal :=
  val (m ((c : Thread nD τ).loc main_arg0)) (m ((c : Thread nD τ).loc main_arg1)) (m ((c : Thread nD τ).loc main_arg2))
    (m ((c : Thread nD τ).loc main_arg3)) (m ((c : Thread nD τ).loc main_arg4))

/-- A block of weights is the block of codes times the block of scales, one scale for 128 rows. -/
abbrev Scaled (W : Vec Ideal S3072x256 .bf16) (wc : Vec Ideal S3072x256 .fp8e4m3) (ws : Vec Ideal S24x256 .f32) : Prop :=
  ∀ (k : Fin 3072) (n : Fin 256), W (ix2 k n) = wc (ix2 k n) * ws (ix2 ⟨↑k / 128, by omega⟩ n)

/-- A block of values against the array: column `n` of point `t` is column `256 t + n`. -/
theorem block_value (c : Dev nD) (t : Fin cfg0.N) (W : Vec Ideal S3072x256 .bf16)
    (hW : Scaled W (iblk m c 1 t) (iblk m c 2 t))
    (r : Fin 480) (n : Fin 256) (n' : Fin 3072) (hn : (n' : ℕ) = t.val * 256 + n) :
    k0_pay31 (iblk m c 0 t) W (iblk m c 3 t) (iblk m c 4 t) (ix2 r n) = value m c r n' := by
  rw [Body.value_at]
  simp only [hW _ _, value, val, lin]
  blk_point [iblk, V, idx t]

/-- Column `n` of point `t` as a column of the array. -/
def col (t : Fin cfg0.N) (n : Fin 256) : Fin 3072 :=
  ⟨t.val * 256 + ↑n, by have h : cfg0.N = 12 := N_0; omega⟩

/-- What a point leaves in its three output blocks. -/
theorem outs (c : Dev nD) (t : Fin cfg0.N) : outsAt0 m c t
    = ((fun y => codeAt (value m c (y 0)) (col t (y 1)) : Vec Ideal S480x256 .fp8e4m3),
      (fun y => scaleAt (value m c (y 0)) (col t (y 1)) : Vec Ideal S480x256 .f32),
      (fun y => codeAt (value m c (y 0)) (col t (y 1)) * scaleAt (value m c (y 0)) (col t (y 1)) : Vec Ideal S480x256 .bf16)) := by
  unfold outsAt0
  frame_out
  generalize hW : View.readCov (Val := Elt Ideal) (View.whole cc0_scratch0) _ _ = W
  have hw : Scaled W (iblk m c 1 t) (iblk m c 2 t) := by
    intro k n
    rw [← hW, View.readCov_eq_canon']
    clear hW
    canon_tiles y h
    all_goals
      simp at h0 h1
      open_payloads
      pointwise
      refine congrArg₂ (· * ·) ?_ ?_ <;> blk_ext
  clear hW
  have hl : ∀ (r : Fin 480) (l : Fin 128), Body.left (k0_pay31 (iblk m c 0 t) W (iblk m c 3 t) (iblk m c 4 t)) r
      = group (value m c r) (col t ⟨↑l, by omega⟩) := by
    intro r l
    funext l'
    exact block_value m c t W hw r _ _ (by simp only [col]; omega)
  have hr : ∀ (r : Fin 480) (l : Fin 128), Body.right (k0_pay31 (iblk m c 0 t) W (iblk m c 3 t) (iblk m c 4 t)) r
      = group (value m c r) (col t ⟨128 + ↑l, by omega⟩) := by
    intro r l
    funext l'
    exact block_value m c t W hw r _ _ (by simp only [col]; omega)
  have hl' : ∀ (r : Fin 480) (l : Fin 128), Body.left (k0_pay31 (iblk m c 0 t) W (iblk m c 3 t) (iblk m c 4 t)) r l
      = value m c r (col t ⟨↑l, by omega⟩) := fun r l => block_value m c t W hw r _ _ rfl
  have hr' : ∀ (r : Fin 480) (l : Fin 128), Body.right (k0_pay31 (iblk m c 0 t) W (iblk m c 3 t) (iblk m c 4 t)) r l
      = value m c r (col t ⟨128 + ↑l, by omega⟩) := fun r l => block_value m c t W hw r _ _ rfl
  refine Prod.ext ?_ (Prod.ext ?_ ?_)
  · funext z
    idx_vars z
    canon_tiles y h
    case piece0 =>
      idx_vars y
      obtain rfl : z0 = y0 := Fin.ext h0
      rw [show z1 = ⟨128 + ↑y1, by omega⟩ from Fin.ext h1]
      exact (Body.code_right _ _ _).trans (congrArg₂ codeOf (hr _ _) (hr' _ _))
    case piece1 =>
      idx_vars y
      obtain rfl : z0 = y0 := Fin.ext h0
      rw [show z1 = ⟨↑y1, by omega⟩ from Fin.ext h1]
      exact (Body.code_left _ _ _ _ _ _).trans (congrArg₂ codeOf (hl _ _) (hl' _ _))
  · funext z
    idx_vars z
    canon_tiles y h
    case piece0 =>
      idx_vars y
      obtain rfl : z0 = y0 := Fin.ext h0
      rw [show z1 = ⟨128 + ↑y1, by omega⟩ from Fin.ext h1]
      exact (Body.scales_right _ _ _).trans (congrArg scaleOf (hr _ _))
    case piece1 =>
      idx_vars y
      obtain rfl : z0 = y0 := Fin.ext h0
      rw [show z1 = ⟨↑y1, by omega⟩ from Fin.ext h1]
      exact (Body.scales_left _ _ _ _ _ _).trans (congrArg scaleOf (hl _ _))
  · funext z
    idx_vars z
    canon_tiles y h
    case piece0 =>
      idx_vars y
      obtain rfl : z0 = y0 := Fin.ext h0
      rw [show z1 = ⟨128 + ↑y1, by omega⟩ from Fin.ext h1]
      exact (Body.wide_right _ _ _).trans (congrArg₂ (· * ·) (congrArg₂ codeOf (hr _ _) (hr' _ _)) (congrArg scaleOf (hr _ _)))
    case piece1 =>
      idx_vars y
      obtain rfl : z0 = y0 := Fin.ext h0
      rw [show z1 = ⟨↑y1, by omega⟩ from Fin.ext h1]
      exact (Body.wide_left _ _ _ _ _ _).trans (congrArg₂ (· * ·) (congrArg₂ codeOf (hl _ _) (hl' _ _)) (congrArg scaleOf (hl _ _)))

/-- The array of codes after the run. -/
theorem final_codes (c : Dev nD) : (dats m 0 c).arrAt 5 (cfgs 0).N
    = (fun j => codeAt (value m c (j 0)) (j 1) : Vec Ideal S480x3072 .fp8e4m3) := by
  refine (dats m 0 c).arrAt_eq_of_covers 5 _ (by decide +kernel) fun t _ y => ?_
  blk_simp
  rw [after0_5, outs]
  exact congrArg₂ (fun r n => codeAt (value m c r) n) (Fin.ext (by blk_simp [idx t])) (Fin.ext (by simp only [col]; blk_simp [idx t]))

/-- The array of scales after the run. -/
theorem final_scales (c : Dev nD) : (dats m 0 c).arrAt 6 (cfgs 0).N
    = (fun j => scaleAt (value m c (j 0)) (j 1) : Vec Ideal S480x3072 .f32) := by
  refine (dats m 0 c).arrAt_eq_of_covers 6 _ (by decide +kernel) fun t _ y => ?_
  blk_simp
  rw [after0_6, outs]
  exact congrArg₂ (fun r n => scaleAt (value m c r) n) (Fin.ext (by blk_simp [idx t])) (Fin.ext (by simp only [col]; blk_simp [idx t]))

/-- The array of codes times scales after the run. -/
theorem final_wide (c : Dev nD) : (dats m 0 c).arrAt 7 (cfgs 0).N
    = (fun j => codeAt (value m c (j 0)) (j 1) * scaleAt (value m c (j 0)) (j 1) : Vec Ideal S480x3072 .bf16) := by
  refine (dats m 0 c).arrAt_eq_of_covers 7 _ (by decide +kernel) fun t _ y => ?_
  blk_simp
  rw [after0_7, outs]
  exact congrArg₂ (fun r n => codeAt (value m c r) n * scaleAt (value m c r) n) (Fin.ext (by blk_simp [idx t])) (Fin.ext (by simp only [col]; blk_simp [idx t]))

end Cert.H2Ideal.Value
-- ==== Proof.H2RefValue.lean ====
module

public import proofs.«01_k».proof.Proof.Gen.H2RefIdeal.Frame
public import proofs.«01_k».proof.Proof.Quantiser
public import Idealize.ShloMosaic.Lib.Pipeline.ValueKit
public import Idealize.ShloMosaic.Lib.Pointwise

/-! # The second hidden stage, as the reference states it: its three result arrays as functions of its arguments -/

@[expose] public section

set_option maxRecDepth 16384

noncomputable section

namespace Cert.H2RefIdeal.Value

open Idealize.ShloMosaic Idealize.ShloMosaic.TcCoe Idealize.SL.Sem
open Idealize.ShloMosaic.Pipeline (Dat)
open Cert.H2RefIdeal Cert.H2RefIdeal.Gen Cert.Quantiser

/-- The linear part of the stage: a row against a column of the scaled weights, and the bias. -/
def lin (X : Vec Ideal S480x3072 .bf16) (WC : Vec Ideal S3072x3072 .fp8e4m3) (WS : Vec Ideal S24x3072 .f32)
    (B : Vec Ideal S1x3072 .f32) (r : Fin 480) (n : Fin 3072) : EReal :=
  ∑ k : Fin 3072, X (ix2 r k) * (WC (ix2 k n) * WS (ix2 ⟨↑k / 128, by omega⟩ n)) + B (ix2 0 n)

/-- The value that is quantised: the addend and the gated linear part. -/
def val (X : Vec Ideal S480x3072 .bf16) (WC : Vec Ideal S3072x3072 .fp8e4m3) (WS : Vec Ideal S24x3072 .f32)
    (A : Vec Ideal S480x3072 .f32) (B : Vec Ideal S1x3072 .f32) (r : Fin 480) (n : Fin 3072) : EReal :=
  A (ix2 r n) + lin X WC WS B r n * Ideal.logistic (lin X WC WS B r n)

section
variable (M N E : FVec Ideal S480x24 .f32) (v : FVec Ideal S480x24x128 .f32) (r : Fin 480) (g : Fin 24)

theorem absmax_at : multiReduction .maximumf [2] S480x24 (absf v) 0xFF800000#32 reduces_S480x24x128_S480x24 (.inl rfl) rfl (ix2 r g)
    = absmax (fun l => v (ix3 r g l)) := by
  pointwise
  unfold absmax
  rfl

theorem quotient_at : floor (divf (log M) (log N)) (ix2 r g)
    = Ideal.liftRound Int.floor (Ideal.div (Ideal.log (M (ix2 r g))) (Ideal.log (N (ix2 r g)))) := by
  pointwise

theorem zero_at : select (cmpf .oeq M (broadcast S480x24 (Scalar.ofBits .f32 0x00000000#32)))
    (broadcast S480x24 (Scalar.ofBits .f32 0x00000000#32)) E (ix2 r g) = if M (ix2 r g) = 0 then 0 else E (ix2 r g) := by
  pointwise

theorem clip_at : minimumf (broadcast S480x24 (Scalar.ofBits .f32 0x42F00000#32)) (maximumf (broadcast S480x24 (Scalar.ofBits .f32 0xC2FC0000#32))
    (addf M (broadcast S480x24 (Scalar.ofBits .f32 0x3F800000#32)))) (ix2 r g)
    = min (Ideal.ofBits .f32 0x42F00000#32) (max (Ideal.ofBits .f32 0xC2FC0000#32) (M (ix2 r g) + 1)) := by
  pointwise

theorem scaled_at : mulf M (broadcast S480x24 (Scalar.ofBits .f32 0x3B124925#32)) (ix2 r g)
    = M (ix2 r g) * Ideal.ofBits .f32 0x3B124925#32 := by
  pointwise

theorem two_at : (broadcast S480x24 (Scalar.ofBits .f32 0x40000000#32) : FVec Ideal S480x24 .f32) (ix2 r g) = Ideal.ofBits .f32 0x40000000#32 := by
  pointwise

theorem minus_at : subf (broadcast S480x24 (Scalar.ofBits .f32 0x00000000#32)) M (ix2 r g) = (0 - M (ix2 r g) : EReal) := by
  pointwise

/-- A code from a value and the negated exponent of its group. -/
theorem code_of (n : Fin 3072) : k0_pay3 v E (ix2 r n)
    = min (Ideal.ofBits .f32 0x43E00000#32) (max (Ideal.ofBits .f32 0xC3E00000#32)
        (v (ix3 r ⟨↑n / 128, by omega⟩ ⟨↑n % 128, by omega⟩) * Ideal.exp2 (E (ix2 r ⟨↑n / 128, by omega⟩)))) := by
  pointwise [k0_pay3, k0_pay1]
  rfl

/-- A scale from the exponent of its group. -/
theorem scale_of (n : Fin 3072) : k0_pay4 E (ix2 r n) = Ideal.exp2 (E (ix2 r ⟨↑n / 128, by omega⟩)) := by
  pointwise [k0_pay4, k0_pay2]
  rfl

theorem wide_of (n : Fin 3072) : k0_pay5 v E M (ix2 r n) = (k0_pay3 v M (ix2 r n) * k0_pay4 E (ix2 r n) : EReal) := by
  pointwise [k0_pay5, k0_pay3, k0_pay4, k0_pay1, k0_pay2]

end

section
variable (x : Vec Ideal S480x3072 .bf16) (wc : Vec Ideal S3072x3072 .fp8e4m3) (ws : Vec Ideal S24x3072 .f32)
  (b : Vec Ideal S1x3072 .f32) (a : Vec Ideal S480x3072 .f32)

/-- The values in groups of 128 columns. -/
theorem value_at (r : Fin 480) (g : Fin 24) (l : Fin 128) :
    k0_pay6 x wc ws b a (ix3 r g l) = val x wc ws a b r ⟨↑g * 128 + ↑l, by omega⟩ := by
  pointwise [k0_pay6]
  rfl

/-- The exponent of a group's scale. -/
theorem expo_at (r : Fin 480) (g : Fin 24) :
    k0_pay7 x wc ws b a (ix2 r g) = expo (absmax (group (val x wc ws a b r) ⟨↑g * 128, by omega⟩)) := by
  have hg : (fun l => k0_pay6 x wc ws b a (ix3 r g l)) = group (val x wc ws a b r) ⟨↑g * 128, by omega⟩ := by
    funext l
    rw [value_at, group]
    congr 1
    exact Fin.ext (by dsimp only; omega)
  rw [← hg]
  unfold k0_pay7
  generalize k0_pay6 x wc ws b a = v
  dsimp only
  rw [zero_at, clip_at, quotient_at, scaled_at, two_at, absmax_at, expo]

theorem negated_at (r : Fin 480) (g : Fin 24) : k0_pay8 x wc ws b a (ix2 r g) = (0 - k0_pay7 x wc ws b a (ix2 r g) : EReal) := by
  unfold k0_pay8
  exact minus_at _ _ _

theorem value_col (r : Fin 480) (n : Fin 3072) :
    k0_pay6 x wc ws b a (ix3 r ⟨↑n / 128, by omega⟩ ⟨↑n % 128, by omega⟩) = val x wc ws a b r n := by
  rw [value_at]
  congr 1
  exact Fin.ext (by dsimp only; omega)

theorem expo_col (r : Fin 480) (n : Fin 3072) :
    k0_pay7 x wc ws b a (ix2 r ⟨↑n / 128, by omega⟩) = expo (absmax (group (val x wc ws a b r) n)) := by
  rw [expo_at]
  congr 2
  funext l
  simp only [group]
  congr 1
  exact Fin.ext (by dsimp only; omega)

theorem code_at (r : Fin 480) (n : Fin 3072) :
    k0_pay3 (k0_pay6 x wc ws b a) (k0_pay8 x wc ws b a) (ix2 r n) = codeAt (val x wc ws a b r) n := by
  rw [code_of, negated_at, value_col, expo_col, codeAt, codeOf]

theorem scale_at (r : Fin 480) (n : Fin 3072) :
    k0_pay4 (k0_pay7 x wc ws b a) (ix2 r n) = scaleAt (val x wc ws a b r) n := by
  rw [scale_of, expo_col, scaleAt, scaleOf]

theorem wide_at (r : Fin 480) (n : Fin 3072) :
    k0_pay5 (k0_pay6 x wc ws b a) (k0_pay7 x wc ws b a) (k0_pay8 x wc ws b a) (ix2 r n)
      = codeAt (val x wc ws a b r) n * scaleAt (val x wc ws a b r) n := by
  rw [wide_of, code_at, scale_at]

end

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The value over the argument arrays of the program. -/
abbrev value (c : Dev nD) : Fin 480 → Fin 3072 → EReal :=
  val (m ((c : Thread nD τ).loc main_arg0)) (m ((c : Thread nD τ).loc main_arg1)) (m ((c : Thread nD τ).loc main_arg2))
    (m ((c : Thread nD τ).loc main_arg3)) (m ((c : Thread nD τ).loc main_arg4))

/-- The one block of each argument is the whole array. -/
theorem blocks (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4) := by
  refine ⟨?_, ?_, ?_, ?_, ?_⟩ <;> funext j <;> blk_ext [iblk, V, idx t0_0]

theorem final_codes (c : Dev nD) : (dats m 0 c).arrAt 5 (cfgs 0).N
    = (fun j => codeAt (value m c (j 0)) (j 1) : Vec Ideal S480x3072 .fp8e4m3) := by
  refine (dats m 0 c).arrAt_eq_of_after_last 5 t0_0 (by decide +kernel) _ fun j => ?_
  blk_simp
  rw [after0_5]
  frame_out
  unfold k0_pay9 k0_pay11
  frame_out
  obtain ⟨h0, h1, h2, h3, h4⟩ := blocks m c
  rw [h0, h1, h2, h3, h4]
  idx_vars j
  exact code_at _ _ _ _ _ j0 j1

theorem final_scales (c : Dev nD) : (dats m 0 c).arrAt 6 (cfgs 0).N
    = (fun j => scaleAt (value m c (j 0)) (j 1) : Vec Ideal S480x3072 .f32) := by
  refine (dats m 0 c).arrAt_eq_of_after_last 6 t0_0 (by decide +kernel) _ fun j => ?_
  blk_simp
  rw [after0_6]
  frame_out
  unfold k0_pay10
  frame_out
  obtain ⟨h0, h1, h2, h3, h4⟩ := blocks m c
  rw [h0, h1, h2, h3, h4]
  idx_vars j
  exact scale_at _ _ _ _ _ j0 j1

theorem final_wide (c : Dev nD) : (dats m 0 c).arrAt 7 (cfgs 0).N
    = (fun j => codeAt (value m c (j 0)) (j 1) * scaleAt (value m c (j 0)) (j 1) : Vec Ideal S480x3072 .bf16) := by
  refine (dats m 0 c).arrAt_eq_of_after_last 7 t0_0 (by decide +kernel) _ fun j => ?_
  blk_simp
  rw [after0_7]
  frame_out
  unfold k0_pay9 k0_pay10 k0_pay11
  frame_out
  obtain ⟨h0, h1, h2, h3, h4⟩ := blocks m c
  rw [h0, h1, h2, h3, h4]
  idx_vars j
  exact wide_at _ _ _ _ _ j0 j1

end Cert.H2RefIdeal.Value
-- ==== Proof.H2Claim.lean ====
module

public import proofs.«01_k».proof.Defs
public import proofs.«01_k».proof.Proof.H2Value
public import proofs.«01_k».proof.Proof.H2RefValue
public import Idealize.ShloMosaic.Lib.Claim

/-! # The second hidden stage and its reference compute the same three arrays -/

@[expose] public section

set_option maxRecDepth 16384

noncomputable section

namespace Cert.H2Claim

open Idealize.ShloMosaic Idealize.ShloMosaic.TcCoe Idealize.SL.Sem

/-- Of equal arguments the stage and the reference quantise equal values. -/
theorem val_congr {X X' : Vec Ideal H2Ideal.S480x3072 .bf16} {WC WC' : Vec Ideal H2Ideal.S3072x3072 .fp8e4m3}
    {WS WS' : Vec Ideal H2Ideal.S24x3072 .f32} {A A' : Vec Ideal H2Ideal.S480x3072 .f32} {B B' : Vec Ideal H2Ideal.S1x3072 .f32}
    (hX : X' = X) (hWC : WC' = WC) (hWS : WS' = WS) (hA : A' = A) (hB : B' = B) :
    H2RefIdeal.Value.val X' WC' WS' A' B' = H2Ideal.Value.val X WC WS A B := by
  subst hX hWC hWS hA hB
  rfl

theorem algebraic : Cert.algebraic_H2Ideal_H2RefIdeal := by
  pair_intro
  · run_from Cert.H2Ideal.Gen.run_main m g
  · have hv : ∀ c, H2RefIdeal.Value.value m' c = H2Ideal.Value.value m c := fun c =>
      val_congr (hagree c).1 (hagree c).2.1 (hagree c).2.2.1 (hagree c).2.2.2.1 (hagree c).2.2.2.2
    run_from Cert.H2RefIdeal.Gen.run_main m' g'
    · exact (H2RefIdeal.Value.final_codes m' c).trans (by rw [H2Ideal.Value.final_codes, hv])
    · exact (H2RefIdeal.Value.final_scales m' c).trans (by rw [H2Ideal.Value.final_scales, hv])
    · exact (H2RefIdeal.Value.final_wide m' c).trans (by rw [H2Ideal.Value.final_wide, hv])

end Cert.H2Claim

end
-- ==== Proof.HeadIdealRuns.lean ====
/- The three kinds of grid point of `head` (the first, the inner ones, the last) and the buffers its body works on. -/
module

public import proofs.«01_k».proof.Proof.Gen.NIdeal.Frame
public import proofs.«01_k».proof.Proof.Gen.NIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.NIdeal.Body

open Cert.NIdeal Cert.NIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 251 = 0 :=
  (fun t => by
    have ht : t.val < 251 := Nat.lt_of_lt_of_eq t.isLt N_0
    have e0 : (grid0.coords t 0).val = t.val / 1 % 251 := Pipeline.Grid.coords_val t 0 (by decide) rfl
    simp only [cond0_0, e0]
    word_cmp
   : ∀ t : Fin grid0.N, cond0_0 (grid0.coords t) ↔ t.val % 251 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 251 = 250 :=
  (fun t => by
    have ht : t.val < 251 := Nat.lt_of_lt_of_eq t.isLt N_0
    have e0 : (grid0.coords t 0).val = t.val / 1 % 251 := Pipeline.Grid.coords_val t 0 (by decide) rfl
    simp only [cond0_1, k0_cond2, e0]
    word_cmp
   : ∀ t : Fin grid0.N, cond0_1 (grid0.coords t) ↔ t.val % 251 = 250)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 4, through which its contents are stated (`View.read_writes_of_cover`: the
    choice does not matter). -/
abbrev VO0_4 : View sig .tc .vmem S96x5x512 .bf16 := (Memref.whole cc0_stg4_0 : Memref sig .tc .vmem S96x5x512 .bf16).view
/-- One staging buffer of output window 5, through which its contents are stated (`View.read_writes_of_cover`: the
    choice does not matter). -/
abbrev VO0_5 : View sig .tc .vmem S480x1 .f32 := (Memref.whole cc0_stg5_0 : Memref sig .tc .vmem S480x1 .f32).view
/-- One staging buffer of output window 6, through which its contents are stated (`View.read_writes_of_cover`: the
    choice does not matter). -/
abbrev VO0_6 : View sig .tc .vmem S480x1 .f32 := (Memref.whole cc0_stg6_0 : Memref sig .tc .vmem S480x1 .f32).view
/-- Each window's current staging memref at point `t`, spelled as the pipeline passes it (`bodyAt0`), and its wholeness. -/
abbrev ms0_0 (t : Fin cfg0.N) : Memref sig .tc .vmem S480x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S24x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S480x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x5x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S480x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S480x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S3072x512 .bf16 := Memref.whole cc0_scratch0
abbrev scM0_1 : Memref sig .tc .vmem S4x488x128 .f32 := Memref.whole cc0_scratch1
abbrev scM0_2 : Memref sig .tc .vmem S480x128 .f32 := Memref.whole cc0_scratch2
abbrev scM0_3 : Memref sig .tc .vmem S480x128 .f32 := Memref.whole cc0_scratch3
abbrev scM0_4 : Memref sig .tc .vmem S480x128 .f32 := Memref.whole cc0_scratch4
/-- The scratch `arg10` the kernel carries between points, as a view: what it holds is stated through it. -/
abbrev VS0_2 : View sig .tc .vmem S480x128 .f32 := scM0_2.view
/-- The scratch `arg11` the kernel carries between points, as a view: what it holds is stated through it. -/
abbrev VS0_3 : View sig .tc .vmem S480x128 .f32 := scM0_3.view
/-- The scratch `arg12` the kernel carries between points, as a view: what it holds is stated through it. -/
abbrev VS0_4 : View sig .tc .vmem S480x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.NIdeal.Body

end
-- ==== Proof.HeadIdealRunA.lean ====
/- The run of the body of `head` at the first point. -/
module

public import proofs.«01_k».proof.Proof.HeadIdealRuns

@[expose] public section

-- membership in a rectangle of production extents (`View.cover_of_tiled`): the elaborator's structural look
-- recurses once per coordinate of the long axes
set_option maxRecDepth 16384

noncomputable section

namespace Cert.NIdeal.Body

open Cert.NIdeal Cert.NIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 7648000 in
/-- What the body of `head` leaves in its buffers at the first point, as the pieces it stores (the last first), with the proof that the body
    runs without fault from whole buffers, the input blocks at any contents `x·`, and leaves the input blocks as they were. -/
noncomputable def kernelRun0_A (c : Dev nD) (i : grid0.Coords) (arg1 : Memref sig .tc .vmem S480x3072 .bf16) (harg1 : arg1.IsWhole) (arg2 : Memref sig .tc .vmem S3072x512 .fp8e4m3) (harg2 : arg2.IsWhole) (arg3 : Memref sig .tc .vmem S24x512 .f32) (harg3 : arg3.IsWhole) (arg4 : Memref sig .tc .vmem S480x1 .i32) (harg4 : arg4.IsWhole) (arg5 : Memref sig .tc .vmem S96x5x512 .bf16) (harg5 : arg5.IsWhole) (arg6 : Memref sig .tc .vmem S480x1 .f32) (harg6 : arg6.IsWhole) (arg7 : Memref sig .tc .vmem S480x1 .f32) (harg7 : arg7.IsWhole) (arg8 : Memref sig .tc .vmem S3072x512 .bf16) (harg8 : arg8.IsWhole) (arg9 : Memref sig .tc .vmem S4x488x128 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (hc0 : cond0_0 i) (hc1 : ¬cond0_1 i)
    (x0 : Vec F S480x3072 .bf16) (x1 : Vec F S3072x512 .fp8e4m3) (x2 : Vec F S24x512 .f32) (x3 : Vec F S480x1 .i32) :
    Σ' (L4 : List (View.Piece (Elt F) S96x5x512 .bf16)), Σ' (L5 : List (View.Piece (Elt F) S480x1 .f32)), Σ' (L6 : List (View.Piece (Elt F) S480x1 .f32)), Σ' (LS2 : List (View.Piece (Elt F) S480x128 .f32)), Σ' (LS3 : List (View.Piece (Elt F) S480x128 .f32)), Σ' (LS4 : List (View.Piece (Elt F) S480x128 .f32)), Σ' (LT0 : List (View.Piece (Elt F) S3072x512 .bf16)), { LT1 : List (View.Piece (Elt F) S4x488x128 .f32) //
      ∀ (xi5 : Vec F S480x1 .f32) (xi6 : Vec F S480x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12) K } := by
  refine ⟨?_, [], [], ?_, ?_, ?_, ?_, ?_, fun xi5 xi6 E K => ?run⟩
  case run =>
    simp only [cc0_head_eq_skeleton]; unfold cc0_head_skel
    simp only [k0_part94_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]; · iexists _; iexact HS2
    isplitl [HS3]; · iexists _; iexact HS3
    iexists _; iexact HS4

end Cert.NIdeal.Body

end
-- ==== Proof.HeadBody.lean ====
module

public import proofs.«01_k».proof.Proof.HeadIdealRunA
public import Idealize.ShloMosaic.Lib.Pipeline.ValueKit
public import Idealize.ShloMosaic.Lib.Pipeline.ReadBack
public import Idealize.ShloMosaic.Lib.Pointwise

/-! # The vocabulary head at one grid point: the block of logits it stores -/

@[expose] public section

set_option maxRecDepth 16384

noncomputable section

namespace Cert.NIdeal.Value

open Idealize.ShloMosaic Idealize.ShloMosaic.TcCoe Idealize.SL.Sem
open Cert.NIdeal Cert.NIdeal.Gen Cert.NIdeal.Body

/-! ## The product of a row and a column -/

section Product

variable (x0 : Vec Ideal S480x3072 .bf16) (x1 : Vec Ideal S3072x512 .fp8e4m3) (x2 : Vec Ideal S24x512 .f32)

/-- A row of the activations against a column of the scaled weights of the block; zero outside the block. -/
def prod (r n : ℕ) : EReal :=
  if h : r < 480 ∧ n < 512 then
    ∑ k : Fin 3072, x0 (ix2 ⟨r, h.1⟩ k) * (x1 (ix2 k ⟨n, h.2⟩) * x2 (ix2 ⟨↑k / 128, by omega⟩ ⟨n, h.2⟩))
  else 0

/-- The products laid out as four groups of 128 columns. -/
def slab : S4x488x128.Idx → Elt Ideal .f32 := fun z => prod x0 x1 x2 (z 1) (128 * (z 0).val + (z 2).val)

/-- The products laid out as the block of logits: row `5 b + s` is step `s` of batch row `b`. -/
def block : S96x5x512.Idx → Elt Ideal .bf16 := fun y => prod x0 x1 x2 (5 * (y 0).val + (y 1).val) (y 2)

/-- A block of weights is the block of codes times the block of scales, one scale for 128 rows. -/
abbrev Scaled (W : Vec Ideal S3072x512 .bf16) (wc : Vec Ideal S3072x512 .fp8e4m3) (ws : Vec Ideal S24x512 .f32) : Prop :=
  ∀ (k : Fin 3072) (n : Fin 512), W (ix2 k n) = wc (ix2 k n) * ws (ix2 ⟨↑k / 128, by omega⟩ n)

theorem dot_at (W : Vec Ideal S3072x512 .bf16) (r : Fin 480) (n : Fin 512) :
    k0_pay37 x0 W (ix2 r n) = ∑ k : Fin 3072, x0 (ix2 r k) * W (ix2 k n) := by
  pointwise [k0_pay37]

theorem dot_prod (W : Vec Ideal S3072x512 .bf16) (hW : Scaled W x1 x2) (r : Fin 480) (n : Fin 512) :
    k0_pay37 x0 W (ix2 r n) = prod x0 x1 x2 r n := by
  rw [dot_at, prod, dif_pos ⟨r.isLt, n.isLt⟩]
  exact Finset.sum_congr rfl fun k _ => by rw [hW k n]

/-- The store of group `a` of columns holds the products of those columns. -/
theorem group_ok (w : Vec Ideal S1x480x128 .f32) (a : ℕ) (ha : a < 4)
    (hw : ∀ (r : Fin 480) (l : Fin 128), w (ix3 0 r l) = prod x0 x1 x2 r (128 * a + l))
    (inb : ∀ b, (![a, 0, 0] : Fin 3 → ℕ) b + S1x480x128.size b ≤ S4x488x128.size b) (x : S1x480x128.Idx) :
    w x = slab x0 x1 x2 ((Rect.unit (s := S4x488x128) ![a, 0, 0] S1x480x128.size inb).emb x) := by
  have e := ValueKit.rect_emb_unit_val (s := S4x488x128) _ _ inb x
  have e0 : (((Rect.unit (s := S4x488x128) ![a, 0, 0] S1x480x128.size inb).emb x) 0).val = a + (x 0).val := e 0
  have e1 : (((Rect.unit (s := S4x488x128) ![a, 0, 0] S1x480x128.size inb).emb x) 1).val = 0 + (x 1).val := e 1
  have e2 : (((Rect.unit (s := S4x488x128) ![a, 0, 0] S1x480x128.size inb).emb x) 2).val = 0 + (x 2).val := e 2
  have h0 : (x 0).val < 1 := (x 0).isLt
  have hx : x = ix3 0 (x 1) (x 2) := by
    funext b; fin_cases b
    · exact Fin.ext (by simp)
    · rfl
    · rfl
  refine (congrArg w hx).trans ((hw (x 1) (x 2)).trans (congrArg₂ (prod x0 x1 x2) ?_ ?_))
  · rw [e1]; omega
  · rw [e0, e2]; omega

/-- Narrowing a group of five rows keeps its values. -/
theorem narrow_at (v : Vec Ideal S1x5x128 .f32) (x : S1x5x128.Idx) : k0_pay2 v x = v x := by
  idx_vars x
  pointwise [k0_pay2]
  rw [Subsingleton.elim x0 0]

/-- Rows `5 r` to `5 r + 4` of group `a` lie in the groups. -/
theorem load_inb {a q r : ℕ} (ha : a < 4) (hr : r < 96) (hq : q = 5 * r) (b : Fin 3) :
    (![a, q, 0] : Fin 3 → ℕ) b + S1x5x128.size b ≤ S4x488x128.size b := by
  fin_cases b <;> simp <;> omega

/-- The columns of group `a` of batch row `r` lie in the block of logits. -/
theorem store_inb {a r l : ℕ} (ha : a < 4) (hr : r < 96) (hl : l = 128 * a) (b : Fin 3) :
    (![r, 0, l] : Fin 3 → ℕ) b + S1x5x128.size b ≤ S96x5x512.size b := by
  fin_cases b <;> simp <;> omega

/-- What a store into the block of logits holds, when it is the narrowed rows of the groups. -/
theorem piece_ok (L : List (View.Piece (Elt Ideal) S4x488x128 .f32)) (hL : View.PiecesOf (slab x0 x1 x2) L)
    (hc : ∀ y : S4x488x128.Idx, (y 1).val < 480 → ∃ p ∈ L, y ∈ p.1.set) (v : View sig .tc .vmem S4x488x128 .f32)
    {a q r l : ℕ} (ha : a < 4) (hr : r < 96) (hq : q = 5 * r) (hl : l = 128 * a) (x : S1x5x128.Idx) :
    k0_pay2 (F := Ideal) (v.readCov L (Rect.unit (s := S4x488x128) ![a, q, 0] S1x5x128.size (load_inb ha hr hq)).toLoadRect) x
      = block x0 x1 x2 ((Rect.unit (s := S96x5x512) ![r, 0, l] S1x5x128.size (store_inb ha hr hl)).emb x) := by
  have inb := load_inb ha hr hq
  have inb' := store_inb ha hr hl
  rw [narrow_at, View.readCov_eq_canon']
  have h0 : (x 0).val < 1 := (x 0).isLt
  have h1 : (x 1).val < 5 := (x 1).isLt
  have e := ValueKit.rect_emb_unit_val (s := S4x488x128) _ _ inb x
  have f := ValueKit.rect_emb_unit_val (s := S96x5x512) _ _ inb' x
  have e0 : (((Rect.unit (s := S4x488x128) ![a, q, 0] S1x5x128.size inb).emb x) 0).val = a + (x 0).val := e 0
  have e1 : (((Rect.unit (s := S4x488x128) ![a, q, 0] S1x5x128.size inb).emb x) 1).val = q + (x 1).val := e 1
  have e2 : (((Rect.unit (s := S4x488x128) ![a, q, 0] S1x5x128.size inb).emb x) 2).val = 0 + (x 2).val := e 2
  have f0 : (((Rect.unit (s := S96x5x512) ![r, 0, l] S1x5x128.size inb').emb x) 0).val = r + (x 0).val := f 0
  have f1 : (((Rect.unit (s := S96x5x512) ![r, 0, l] S1x5x128.size inb').emb x) 1).val = 0 + (x 1).val := f 1
  have f2 : (((Rect.unit (s := S96x5x512) ![r, 0, l] S1x5x128.size inb').emb x) 2).val = l + (x 2).val := f 2
  refine (View.canon_apply_of_pieces _ L hL.mem _ (hc _ ?_)).trans ?_
  · refine lt_of_eq_of_lt e1 ?_
    omega
  · refine congrArg₂ (prod x0 x1 x2) (e1.trans ?_) ((congrArg₂ (fun i j => 128 * i + j) e0 e2).trans ?_)
    · rw [f0, f1]; omega
    · rw [f2]; dsimp only; omega

/-- A list of such stores, one more. -/
theorem step (L : List (View.Piece (Elt Ideal) S4x488x128 .f32)) (hL : View.PiecesOf (slab x0 x1 x2) L)
    (hc : ∀ y : S4x488x128.Idx, (y 1).val < 480 → ∃ p ∈ L, y ∈ p.1.set) (v : View sig .tc .vmem S4x488x128 .f32)
    {a q r l : ℕ} (ha : a < 4) (hr : r < 96) (hq : q = 5 * r) (hl : l = 128 * a)
    (L' : List (View.Piece (Elt Ideal) S96x5x512 .bf16)) (h : View.PiecesOf (block x0 x1 x2) L') :
    View.PiecesOf (block x0 x1 x2)
      (⟨Rect.unit (s := S96x5x512) ![r, 0, l] S1x5x128.size (store_inb ha hr hl),
        k0_pay2 (F := Ideal) (v.readCov L (Rect.unit (s := S4x488x128) ![a, q, 0] S1x5x128.size (load_inb ha hr hq)).toLoadRect)⟩ :: L') :=
  ⟨fun x => piece_ok x0 x1 x2 L hL hc v ha hr hq hl x, h⟩

end Product

/-! ## The pieces the body stores -/

section Pieces

variable (c : Dev nD) (i : grid0.Coords) (arg1 : Memref sig .tc .vmem S480x3072 .bf16) (harg1 : arg1.IsWhole) (arg2 : Memref sig .tc .vmem S3072x512 .fp8e4m3) (harg2 : arg2.IsWhole) (arg3 : Memref sig .tc .vmem S24x512 .f32) (harg3 : arg3.IsWhole) (arg4 : Memref sig .tc .vmem S480x1 .i32) (harg4 : arg4.IsWhole) (arg5 : Memref sig .tc .vmem S96x5x512 .bf16) (harg5 : arg5.IsWhole) (arg6 : Memref sig .tc .vmem S480x1 .f32) (harg6 : arg6.IsWhole) (arg7 : Memref sig .tc .vmem S480x1 .f32) (harg7 : arg7.IsWhole) (arg8 : Memref sig .tc .vmem S3072x512 .bf16) (harg8 : arg8.IsWhole) (arg9 : Memref sig .tc .vmem S4x488x128 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole)
  (x0 : Vec Ideal S480x3072 .bf16) (x1 : Vec Ideal S3072x512 .fp8e4m3) (x2 : Vec Ideal S24x512 .f32) (x3 : Vec Ideal S480x1 .i32)

theorem wide_A : Scaled (kernelRun0_A.sl.v220 c arg2 harg2 arg3 harg3 arg8 x1 x2) x1 x2 := by
  intro k n
  unfold kernelRun0_A.sl.v220
  rw [View.readCov_eq_canon']
  unfold kernelRun0_A.sl.HS0_24 kernelRun0_A.sl.r kernelRun0_A.sl.r_1 kernelRun0_A.sl.r_2 kernelRun0_A.sl.r_3 kernelRun0_A.sl.r_4
  canon_tiles y h
  all_goals
    simp at h0 h1
    open_payloads
    pointwise [k0_pay11, k0_pay12, k0_pay19, k0_pay20, k0_pay24, k0_pay25, k0_pay26, k0_pay30, k0_pay31]
    refine congrArg₂ (· * ·) ?_ ?_ <;> pointwise <;> rw [Memref.IsWhole.read_unread] <;> blk_ext

theorem slab_A : View.PiecesOf (slab x0 x1 x2) (kernelRun0_A.sl.HS1_4 c arg1 harg1 arg2 harg2 arg3 harg3 arg8 x0 x1 x2) := by
  unfold kernelRun0_A.sl.HS1_4 kernelRun0_A.sl.r_5
  have hW := wide_A c arg2 harg2 arg3 harg3 arg8 x1 x2
  generalize kernelRun0_A.sl.v220 c arg2 harg2 arg3 harg3 arg8 x1 x2 = W at hW ⊢
  have hX : View.readAt (Elt Ideal) arg1.view (Rect.unit ![0, 0] S480x3072.size inb_S480x3072_S480x3072_0_0).toLoadRect (harg1.unread x0) = x0 := by
    funext z
    rw [View.readAt_apply, Memref.IsWhole.read_unread]
    refine congrArg x0 (funext fun a => Fin.ext ((ValueKit.rect_emb_unit_val (s := S480x3072) _ _ _ z a).trans ?_))
    fin_cases a <;> exact Nat.zero_add _
  rw [hX]
  have hd := dot_prod x0 x1 x2 W hW
  refine ⟨group_ok x0 x1 x2 _ 3 (by decide) (fun r l => ?_) inb_S4x488x128_S1x480x128_3_0_0, group_ok x0 x1 x2 _ 2 (by decide) (fun r l => ?_) inb_S4x488x128_S1x480x128_2_0_0,
    group_ok x0 x1 x2 _ 1 (by decide) (fun r l => ?_) inb_S4x488x128_S1x480x128_1_0_0, group_ok x0 x1 x2 _ 0 (by decide) (fun r l => ?_) inb_S4x488x128_S1x480x128_0_0_0, trivial⟩
  · refine Eq.trans ?_ (hd r ⟨384 + l, by omega⟩)
    pointwise [k0_pay51, k0_pay50]
  · refine Eq.trans ?_ (hd r ⟨256 + l, by omega⟩)
    pointwise [k0_pay47, k0_pay46]
  · refine Eq.trans ?_ (hd r ⟨128 + l, by omega⟩)
    pointwise [k0_pay43, k0_pay42]
  · refine Eq.trans ?_ ((hd r ⟨l, by omega⟩).trans (by simp))
    pointwise [k0_pay39, k0_pay38]

theorem slab_cover_A (y : S4x488x128.Idx) (hy : (y 1).val < 480) :
    ∃ p ∈ kernelRun0_A.sl.HS1_4 c arg1 harg1 arg2 harg2 arg3 harg3 arg8 x0 x1 x2, y ∈ p.1.set := by
  unfold kernelRun0_A.sl.HS1_4
  have h0 : (y 0).val < 4 := (y 0).isLt
  have h2 : (y 2).val < 128 := (y 2).isLt
  have key (a : ℕ) (inb : ∀ b, (![a, 0, 0] : Fin 3 → ℕ) b + S1x480x128.size b ≤ S4x488x128.size b) (ha : (y 0).val = a) :
      y ∈ (Rect.unit (s := S4x488x128) ![a, 0, 0] S1x480x128.size inb).set := by
    refine Rect.mem_set_unit.2 fun b => ?_
    fin_cases b
    · exact ⟨by simp; omega, by simp; omega⟩
    · exact ⟨by simp, by simp; omega⟩
    · exact ⟨by simp, by simp; omega⟩
  have hcase : (y 0).val = 3 ∨ (y 0).val = 2 ∨ (y 0).val = 1 ∨ (y 0).val = 0 := by omega
  rcases hcase with h | h | h | h
  · exact ⟨_, .head _, key 3 inb_S4x488x128_S1x480x128_3_0_0 h⟩
  · exact ⟨_, .tail _ (.head _), key 2 inb_S4x488x128_S1x480x128_2_0_0 h⟩
  · exact ⟨_, .tail _ (.tail _ (.head _)), key 1 inb_S4x488x128_S1x480x128_1_0_0 h⟩
  · exact ⟨_, .tail _ (.tail _ (.tail _ (.head _))), key 0 inb_S4x488x128_S1x480x128_0_0_0 h⟩

set_option maxHeartbeats 4000000 in
theorem pieces_A (hc0 : cond0_0 i) (hc1 : ¬cond0_1 i) :
    View.PiecesOf (block x0 x1 x2) (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3).1 := by
  have hL := slab_A c arg1 harg1 arg2 harg2 arg3 harg3 arg8 x0 x1 x2
  have hc := slab_cover_A c arg1 harg1 arg2 harg2 arg3 harg3 arg8 x0 x1 x2
  unfold kernelRun0_A
  dsimp only
  repeat refine step x0 x1 x2 _ hL hc arg9.view (by decide) (by decide) (by rfl) (by rfl) _ ?_
  exact trivial

end Pieces

end Cert.NIdeal.Value
-- ==== Proof.HeadIdealRunB.lean ====
/- The run of the body of `head` at an inner point. -/
module

public import proofs.«01_k».proof.Proof.HeadIdealRunA

@[expose] public section

-- membership in a rectangle of production extents (`View.cover_of_tiled`): the elaborator's structural look
-- recurses once per coordinate of the long axes
set_option maxRecDepth 16384

noncomputable section

namespace Cert.NIdeal.Body

open Cert.NIdeal Cert.NIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 7612000 in
/-- What the body of `head` leaves in its buffers at an inner point, as the pieces it stores (the last first), with the proof that the body
    runs without fault from whole buffers, the input blocks at any contents `x·`, and leaves the input blocks as they were. -/
noncomputable def kernelRun0_B (c : Dev nD) (i : grid0.Coords) (arg1 : Memref sig .tc .vmem S480x3072 .bf16) (harg1 : arg1.IsWhole) (arg2 : Memref sig .tc .vmem S3072x512 .fp8e4m3) (harg2 : arg2.IsWhole) (arg3 : Memref sig .tc .vmem S24x512 .f32) (harg3 : arg3.IsWhole) (arg4 : Memref sig .tc .vmem S480x1 .i32) (harg4 : arg4.IsWhole) (arg5 : Memref sig .tc .vmem S96x5x512 .bf16) (harg5 : arg5.IsWhole) (arg6 : Memref sig .tc .vmem S480x1 .f32) (harg6 : arg6.IsWhole) (arg7 : Memref sig .tc .vmem S480x1 .f32) (harg7 : arg7.IsWhole) (arg8 : Memref sig .tc .vmem S3072x512 .bf16) (harg8 : arg8.IsWhole) (arg9 : Memref sig .tc .vmem S4x488x128 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (hc0 : ¬cond0_0 i) (hc1 : ¬cond0_1 i)
    (x0 : Vec F S480x3072 .bf16) (x1 : Vec F S3072x512 .fp8e4m3) (x2 : Vec F S24x512 .f32) (x3 : Vec F S480x1 .i32) (xs2 : Vec F S480x128 .f32) (xs3 : Vec F S480x128 .f32) (xs4 : Vec F S480x128 .f32) :
    Σ' (L4 : List (View.Piece (Elt F) S96x5x512 .bf16)), Σ' (L5 : List (View.Piece (Elt F) S480x1 .f32)), Σ' (L6 : List (View.Piece (Elt F) S480x1 .f32)), Σ' (LS2 : List (View.Piece (Elt F) S480x128 .f32)), Σ' (LS3 : List (View.Piece (Elt F) S480x128 .f32)), Σ' (LS4 : List (View.Piece (Elt F) S480x128 .f32)), Σ' (LT0 : List (View.Piece (Elt F) S3072x512 .bf16)), { LT1 : List (View.Piece (Elt F) S4x488x128 .f32) //
      ∀ (xi5 : Vec F S480x1 .f32) (xi6 : Vec F S480x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d) ∗ owns (c : Thread nD τ) arg10 fullShare xs2 ∗ owns (c : Thread nD τ) arg11 fullShare xs3 ∗ owns (c : Thread nD τ) arg12 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12) K } := by
  refine ⟨?_, [], [], ?_, ?_, ?_, ?_, ?_, fun xi5 xi6 E K => ?run⟩
  case run =>
    simp only [cc0_head_eq_skeleton]; unfold cc0_head_skel
    simp only [k0_part94_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg10.eq_unread hfs2; obtain rfl := harg11.eq_unread hfs3; obtain rfl := harg12.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]; · iexists _; iexact HS2
    isplitl [HS3]; · iexists _; iexact HS3
    iexists _; iexact HS4

end Cert.NIdeal.Body

end
-- ==== Proof.HeadIdealRunC.lean ====
/- The run of the body of `head` at the last point. -/
module

public import proofs.«01_k».proof.Proof.HeadIdealRunB

@[expose] public section

-- membership in a rectangle of production extents (`View.cover_of_tiled`): the elaborator's structural look
-- recurses once per coordinate of the long axes
set_option maxRecDepth 16384

noncomputable section

namespace Cert.NIdeal.Body

open Cert.NIdeal Cert.NIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 7656000 in
/-- What the body of `head` leaves in its buffers at the last point, as the pieces it stores (the last first), with the proof that the body
    runs without fault from whole buffers, the input blocks at any contents `x·`, and leaves the input blocks as they were. -/
noncomputable def kernelRun0_C (c : Dev nD) (i : grid0.Coords) (arg1 : Memref sig .tc .vmem S480x3072 .bf16) (harg1 : arg1.IsWhole) (arg2 : Memref sig .tc .vmem S3072x512 .fp8e4m3) (harg2 : arg2.IsWhole) (arg3 : Memref sig .tc .vmem S24x512 .f32) (harg3 : arg3.IsWhole) (arg4 : Memref sig .tc .vmem S480x1 .i32) (harg4 : arg4.IsWhole) (arg5 : Memref sig .tc .vmem S96x5x512 .bf16) (harg5 : arg5.IsWhole) (arg6 : Memref sig .tc .vmem S480x1 .f32) (harg6 : arg6.IsWhole) (arg7 : Memref sig .tc .vmem S480x1 .f32) (harg7 : arg7.IsWhole) (arg8 : Memref sig .tc .vmem S3072x512 .bf16) (harg8 : arg8.IsWhole) (arg9 : Memref sig .tc .vmem S4x488x128 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (hc0 : ¬cond0_0 i) (hc1 : cond0_1 i)
    (x0 : Vec F S480x3072 .bf16) (x1 : Vec F S3072x512 .fp8e4m3) (x2 : Vec F S24x512 .f32) (x3 : Vec F S480x1 .i32) (xs2 : Vec F S480x128 .f32) (xs3 : Vec F S480x128 .f32) (xs4 : Vec F S480x128 .f32) :
    Σ' (L4 : List (View.Piece (Elt F) S96x5x512 .bf16)), Σ' (L5 : List (View.Piece (Elt F) S480x1 .f32)), Σ' (L6 : List (View.Piece (Elt F) S480x1 .f32)), Σ' (LS2 : List (View.Piece (Elt F) S480x128 .f32)), Σ' (LS3 : List (View.Piece (Elt F) S480x128 .f32)), Σ' (LS4 : List (View.Piece (Elt F) S480x128 .f32)), Σ' (LT0 : List (View.Piece (Elt F) S3072x512 .bf16)), { LT1 : List (View.Piece (Elt F) S4x488x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs2 ∗ owns (c : Thread nD τ) arg11 fullShare xs3 ∗ owns (c : Thread nD τ) arg12 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun E K => ?run⟩
  case run =>
    simp only [cc0_head_eq_skeleton]; unfold cc0_head_skel
    simp only [k0_part94_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg10.eq_unread hfs2; obtain rfl := harg11.eq_unread hfs3; obtain rfl := harg12.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iexists _; iexact HS4

end Cert.NIdeal.Body

end
-- ==== Proof.HeadBodies.lean ====
module

public import proofs.«01_k».proof.Proof.HeadBody
public import proofs.«01_k».proof.Proof.HeadIdealRunB
public import proofs.«01_k».proof.Proof.HeadIdealRunC
public import Idealize.ShloMosaic.Lib.Pipeline.ValueKit
public import Idealize.ShloMosaic.Lib.Pipeline.ReadBack
public import Idealize.ShloMosaic.Lib.Pointwise

/-! # The vocabulary head at one grid point: the block of logits it leaves, at the first, a middle and the last point -/

@[expose] public section

set_option maxRecDepth 16384

noncomputable section

namespace Cert.NIdeal.Value

open Idealize.ShloMosaic Idealize.ShloMosaic.TcCoe Idealize.SL.Sem
open Idealize.ShloMosaic.Tactic
open Cert.NIdeal Cert.NIdeal.Gen Cert.NIdeal.Body

section Pieces

variable (c : Dev nD) (i : grid0.Coords) (arg1 : Memref sig .tc .vmem S480x3072 .bf16) (harg1 : arg1.IsWhole) (arg2 : Memref sig .tc .vmem S3072x512 .fp8e4m3) (harg2 : arg2.IsWhole) (arg3 : Memref sig .tc .vmem S24x512 .f32) (harg3 : arg3.IsWhole) (arg4 : Memref sig .tc .vmem S480x1 .i32) (harg4 : arg4.IsWhole) (arg5 : Memref sig .tc .vmem S96x5x512 .bf16) (harg5 : arg5.IsWhole) (arg6 : Memref sig .tc .vmem S480x1 .f32) (harg6 : arg6.IsWhole) (arg7 : Memref sig .tc .vmem S480x1 .f32) (harg7 : arg7.IsWhole) (arg8 : Memref sig .tc .vmem S3072x512 .bf16) (harg8 : arg8.IsWhole) (arg9 : Memref sig .tc .vmem S4x488x128 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole)
  (x0 : Vec Ideal S480x3072 .bf16) (x1 : Vec Ideal S3072x512 .fp8e4m3) (x2 : Vec Ideal S24x512 .f32) (x3 : Vec Ideal S480x1 .i32)

variable (s2 s3 s4 : Vec Ideal S480x128 .f32)

set_option maxHeartbeats 4000000 in
theorem pieces_B (hc0 : ¬cond0_0 i) (hc1 : ¬cond0_1 i) : View.PiecesOf (block x0 x1 x2) (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 s2 s3 s4).1 := by
  have hL : View.PiecesOf (slab x0 x1 x2) (kernelRun0_B.sl.HS1_4 c arg1 harg1 arg2 harg2 arg3 harg3 arg8 x0 x1 x2) :=
    slab_A c arg1 harg1 arg2 harg2 arg3 harg3 arg8 x0 x1 x2
  have hc : ∀ y : S4x488x128.Idx, (y 1).val < 480 →
      ∃ p ∈ kernelRun0_B.sl.HS1_4 c arg1 harg1 arg2 harg2 arg3 harg3 arg8 x0 x1 x2, y ∈ p.1.set :=
    slab_cover_A c arg1 harg1 arg2 harg2 arg3 harg3 arg8 x0 x1 x2
  unfold kernelRun0_B
  dsimp only
  repeat refine step x0 x1 x2 _ hL hc arg9.view (by decide) (by decide) (by rfl) (by rfl) _ ?_
  exact trivial

set_option maxHeartbeats 4000000 in
theorem pieces_C (hc0 : ¬cond0_0 i) (hc1 : cond0_1 i) : View.PiecesOf (block x0 x1 x2) (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 s2 s3 s4).1 := by
  have hL : View.PiecesOf (slab x0 x1 x2) (kernelRun0_C.sl.HS1_4 c arg1 harg1 arg2 harg2 arg3 harg3 arg8 x0 x1 x2) :=
    slab_A c arg1 harg1 arg2 harg2 arg3 harg3 arg8 x0 x1 x2
  have hc : ∀ y : S4x488x128.Idx, (y 1).val < 480 →
      ∃ p ∈ kernelRun0_C.sl.HS1_4 c arg1 harg1 arg2 harg2 arg3 harg3 arg8 x0 x1 x2, y ∈ p.1.set :=
    slab_cover_A c arg1 harg1 arg2 harg2 arg3 harg3 arg8 x0 x1 x2
  unfold kernelRun0_C
  dsimp only
  repeat refine step x0 x1 x2 _ hL hc arg9.view (by decide) (by decide) (by rfl) (by rfl) _ ?_
  exact trivial

/-! ## What the buffer of the logits holds afterwards -/

theorem logits_A (hc0 : cond0_0 i) (hc1 : ¬cond0_1 i) (f : arg5.view.ty.Contents (Elt Ideal)) :
    arg5.view.read (Elt Ideal) (arg5.view.writes (Elt Ideal) f (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3).1) = block x0 x1 x2 :=
  funext fun y => View.read_writes_apply_of_pieces _ _ _ _ (pieces_A c i arg1 harg1 arg2 harg2 arg3 harg3 arg4 harg4 arg5 harg5 arg6 harg6 arg7 harg7 arg8 harg8 arg9 harg9 arg10 harg10 arg11 harg11 arg12 harg12 x0 x1 x2 x3 hc0 hc1).mem y
    (View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3).1 S1x5x128.size (by sl_kernel_rfl) y)

theorem logits_B (hc0 : ¬cond0_0 i) (hc1 : ¬cond0_1 i) (f : arg5.view.ty.Contents (Elt Ideal)) :
    arg5.view.read (Elt Ideal) (arg5.view.writes (Elt Ideal) f (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 s2 s3 s4).1) = block x0 x1 x2 :=
  funext fun y => View.read_writes_apply_of_pieces _ _ _ _ (pieces_B c i arg1 harg1 arg2 harg2 arg3 harg3 arg4 harg4 arg5 harg5 arg6 harg6 arg7 harg7 arg8 harg8 arg9 harg9 arg10 harg10 arg11 harg11 arg12 harg12 x0 x1 x2 x3 s2 s3 s4 hc0 hc1).mem y
    (View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 s2 s3 s4).1 S1x5x128.size (by sl_kernel_rfl) y)

theorem logits_C (hc0 : ¬cond0_0 i) (hc1 : cond0_1 i) (f : arg5.view.ty.Contents (Elt Ideal)) :
    arg5.view.read (Elt Ideal) (arg5.view.writes (Elt Ideal) f (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 s2 s3 s4).1) = block x0 x1 x2 :=
  funext fun y => View.read_writes_apply_of_pieces _ _ _ _ (pieces_C c i arg1 harg1 arg2 harg2 arg3 harg3 arg4 harg4 arg5 harg5 arg6 harg6 arg7 harg7 arg8 harg8 arg9 harg9 arg10 harg10 arg11 harg11 arg12 harg12 x0 x1 x2 x3 s2 s3 s4 hc0 hc1).mem y
    (View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 s2 s3 s4).1 S1x5x128.size (by sl_kernel_rfl) y)

end Pieces

end Cert.NIdeal.Value
-- ==== Proof.HeadDat.lean ====
module

public import proofs.«01_k».proof.Proof.HeadBodies

/-! # The vocabulary head: what each grid point is given and what it leaves, over the argument arrays

The blocks of the weights, the scales and the logits are 512 columns wide, and the last of them lies half outside its array. What a
buffer holds outside is arbitrary; a column of logits inside is made of columns of weights and scales inside only. -/

@[expose] public section

set_option maxRecDepth 16384

noncomputable section

namespace Cert.NIdeal.Value

open Idealize.ShloMosaic Idealize.ShloMosaic.TcCoe Idealize.SL.Sem
open Idealize.ShloMosaic.Pipeline (Dat Window)
open Cert.NIdeal Cert.NIdeal.Gen

/-- A row against a column of the scaled weights. -/
def val (X : Vec Ideal S480x3072 .bf16) (WC : Vec Ideal S3072x128256 .fp8e4m3) (WS : Vec Ideal S24x128256 .f32)
    (r : Fin 480) (n : Fin 128256) : EReal :=
  ∑ k : Fin 3072, X (ix2 r k) * (WC (ix2 k n) * WS (ix2 ⟨↑k / 128, by omega⟩ n))

variable (m : (ℓ : Loc nD τ sig) → Buf (Elt Ideal) ℓ)

/-- The value over the argument arrays of the program. -/
abbrev value (c : Dev nD) : Fin 480 → Fin 128256 → EReal :=
  val (m ((c : Thread nD τ).loc main_arg0)) (m ((c : Thread nD τ).loc main_arg1)) (m ((c : Thread nD τ).loc main_arg2))

/-- Which block of its array each window is on. -/
theorem idx : ∀ t : Fin cfg0.N, win0_0.index t = ![0, 0] ∧ win0_1.index t = ![0, t.val] ∧ win0_2.index t = ![0, t.val]
    ∧ win0_4.index t = ![0, 0, t.val] :=
  (by decide +kernel : ∀ t : Fin grid0.N, _)

/-- How much of a block lies inside its array. -/
theorem inside : ∀ t : Fin cfg0.N, win0_1.xsize (grid0.coords t) 0 = 3072
    ∧ win0_1.xsize (grid0.coords t) 1 = min 512 (128256 - 512 * t.val)
    ∧ win0_2.xsize (grid0.coords t) 0 = 24
    ∧ win0_2.xsize (grid0.coords t) 1 = min 512 (128256 - 512 * t.val)
    ∧ win0_4.xsize (grid0.coords t) 0 = 96 ∧ win0_4.xsize (grid0.coords t) 1 = 5
    ∧ win0_4.xsize (grid0.coords t) 2 = min 512 (128256 - 512 * t.val) :=
  (by decide +kernel : ∀ t : Fin grid0.N, _)

/-- The buffer of the weights at a point: the block where it lies inside the array, `d` elsewhere. -/
abbrev codes (c : Dev nD) (t : Fin cfg0.N) (d : S3072x512.Idx → Elt Ideal .fp8e4m3) : Vec Ideal S3072x512 .fp8e4m3 :=
  win0_1.fill (grid0.coords t) d (iblk m c 1 t)

/-- The buffer of the scales at a point. -/
abbrev scales (c : Dev nD) (t : Fin cfg0.N) (d : S24x512.Idx → Elt Ideal .f32) : Vec Ideal S24x512 .f32 :=
  win0_2.fill (grid0.coords t) d (iblk m c 2 t)

theorem rows_at (c : Dev nD) (t : Fin cfg0.N) (r : Fin 480) (k : Fin 3072) :
    (iblk m c 0 t : Vec Ideal S480x3072 .bf16) (ix2 r k) = m ((c : Thread nD τ).loc main_arg0) (ix2 r k) := by
  blk_ext [iblk, V, idx t]

theorem codes_at (c : Dev nD) (t : Fin cfg0.N) (d : S3072x512.Idx → Elt Ideal .fp8e4m3) (k : Fin 3072) (n : Fin 512)
    (hn : 512 * t.val + n.val < 128256) :
    codes m c t d (ix2 k n) = m ((c : Thread nD τ).loc main_arg1) (ix2 k ⟨512 * t.val + n.val, hn⟩) := by
  have hm : win0_1.moved (grid0.coords t) (ix2 k n) = true := (Window.moved_iff _ _ _).mpr fun a => by
    obtain ⟨i0, i1, -⟩ := inside t
    match a with
    | ⟨0, _⟩ => exact lt_of_lt_of_eq k.isLt i0.symm
    | ⟨1, _⟩ => exact lt_of_lt_of_eq (lt_min n.isLt (by omega : n.val < 128256 - 512 * t.val)) i1.symm
  unfold codes Window.fill
  rw [dif_pos hm]
  blk_ext [iblk, V, idx t]

theorem scales_at (c : Dev nD) (t : Fin cfg0.N) (d : S24x512.Idx → Elt Ideal .f32) (k : Fin 24) (n : Fin 512)
    (hn : 512 * t.val + n.val < 128256) :
    scales m c t d (ix2 k n) = m ((c : Thread nD τ).loc main_arg2) (ix2 k ⟨512 * t.val + n.val, hn⟩) := by
  have hm : win0_2.moved (grid0.coords t) (ix2 k n) = true := (Window.moved_iff _ _ _).mpr fun a => by
    obtain ⟨-, -, i0, i1, -⟩ := inside t
    match a with
    | ⟨0, _⟩ => exact lt_of_lt_of_eq k.isLt i0.symm
    | ⟨1, _⟩ => exact lt_of_lt_of_eq (lt_min n.isLt (by omega : n.val < 128256 - 512 * t.val)) i1.symm
  unfold scales Window.fill
  rw [dif_pos hm]
  blk_ext [iblk, V, idx t]

/-- A product inside the arrays does not depend on what the buffers hold outside. -/
theorem prod_inside (c : Dev nD) (t : Fin cfg0.N) (d1 : S3072x512.Idx → Elt Ideal .fp8e4m3) (d2 : S24x512.Idx → Elt Ideal .f32)
    (r n : ℕ) (hr : r < 480) (h : n < 512) (hn : 512 * t.val + n < 128256) :
    prod (iblk m c 0 t) (codes m c t d1) (scales m c t d2) r n = value m c ⟨r, hr⟩ ⟨512 * t.val + n, hn⟩ := by
  rw [prod, dif_pos ⟨hr, h⟩]
  refine Finset.sum_congr rfl fun k _ => ?_
  rw [rows_at, codes_at m c t d1 k ⟨n, h⟩ hn, scales_at m c t d2 _ ⟨n, h⟩ hn]

/-- The block of logits at a point, of buffers that hold `d1` and `d2` outside the arrays. -/
abbrev logits (c : Dev nD) (t : Fin cfg0.N) (d1 : S3072x512.Idx → Elt Ideal .fp8e4m3) (d2 : S24x512.Idx → Elt Ideal .f32) :
    S96x5x512.Idx → Elt Ideal .bf16 :=
  block (iblk m c 0 t) (codes m c t d1) (scales m c t d2)

theorem logits_inside (c : Dev nD) (t : Fin cfg0.N) (d1 : S3072x512.Idx → Elt Ideal .fp8e4m3) (d2 : S24x512.Idx → Elt Ideal .f32)
    (y : S96x5x512.Idx) (hn : 512 * t.val + (y 2).val < 128256) :
    logits m c t d1 d2 y = value m c ⟨5 * (y 0).val + (y 1).val, by have h0 := (y 0).isLt; have h1 := (y 1).isLt; simp at h0 h1; omega⟩
      ⟨512 * t.val + (y 2).val, hn⟩ :=
  prod_inside m c t d1 d2 _ _ _ (y 2).isLt hn

/-- A place of the logits' block inside the array: its column. -/
theorem column_inside (t : Fin cfg0.N) (j : (win0_4.xblock (grid0.coords t)).Idx) :
    512 * t.val + (win0_4.xinj (grid0.coords t) j 2).val < 128256 := by
  have h : (j 2).val < win0_4.xsize (grid0.coords t) 2 := (j 2).isLt
  rw [(inside t).2.2.2.2.2.2] at h
  have : (win0_4.xinj (grid0.coords t) j 2).val = (j 2).val := rfl
  omega

/-- Inside the array the logits do not depend on what the buffers held outside. -/
theorem logits_cut (c : Dev nD) (t : Fin cfg0.N) (d1 d1' : S3072x512.Idx → Elt Ideal .fp8e4m3) (d2 d2' : S24x512.Idx → Elt Ideal .f32) :
    win0_4.cut (grid0.coords t) (logits m c t d1 d2) = win0_4.cut (grid0.coords t) (logits m c t d1' d2') := by
  funext j
  exact (logits_inside m c t d1 d2 _ (column_inside t j)).trans (logits_inside m c t d1' d2' _ (column_inside t j)).symm

/-- The proof data: the arrays as launched; after a point the inputs are as fetched and the logits are the point's block; nothing is
    named of the token ids and of the last two results. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => codes m c t fun _ => 0
    | ⟨2, _⟩ => scales m c t fun _ => 0
    | ⟨3, _⟩ => Dat.unnamed (cfg := cfg0) 3 t
    | ⟨4, _⟩ => logits m c t (fun _ => 0) fun _ => 0
    | ⟨5, _⟩ => Dat.unnamed (cfg := cfg0) 5 t
    | ⟨6, _⟩ => Dat.unnamed (cfg := cfg0) 6 t
  Φ _ := Pipeline.ΦA spec0 c
  q _ := Idealize.SL.RA.fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = codes m c t fun _ => 0 := by dsimp only [dats]
theorem after_2 (c : Dev nD) (t : Fin cfg0.N) : (dats m 0 c).after 2 t = scales m c t fun _ => 0 := by dsimp only [dats]
theorem after_4 (c : Dev nD) (t : Fin cfg0.N) : (dats m 0 c).after 4 t = logits m c t (fun _ => 0) fun _ => 0 := by
  dsimp only [dats]

theorem before_0 (c : Dev nD) (t : Fin cfg0.N) (d) : (dats m 0 c).before 0 t d = iblk m c 0 t :=
  before0_0_of m (dats m 0 c) rfl (after_0 m c) t d

theorem before_1 (c : Dev nD) (t : Fin cfg0.N) (d) : (dats m 0 c).before 1 t d = codes m c t d := by
  unfold Dat.before
  rw [if_pos (fetch0_1 t)]
  rfl

theorem before_2 (c : Dev nD) (t : Fin cfg0.N) (d) : (dats m 0 c).before 2 t d = scales m c t d := by
  unfold Dat.before
  rw [if_pos (fetch0_2 t)]
  rfl

/-- The array of logits after the run. -/
theorem final_out (c : Dev nD) : (dats m 0 c).arrAt 4 (cfgs 0).N
    = (fun j => value m c ⟨5 * (j 0).val + (j 1).val, by have h0 := (j 0).isLt; have h1 := (j 1).isLt; simp at h0 h1; omega⟩ (j 2)
      : Vec Ideal S96x5x128256 .bf16) := by
  refine (dats m 0 c).arrAt_eq_of_covers 4 _ (by decide +kernel) fun t hf y => ?_
  rw [after_4]
  refine (logits_inside m c t _ _ _ (column_inside t y)).trans ?_
  blk_simp
  have hi : win0_4.index t = ![0, 0, t.val] := (idx t).2.2.2
  refine congrArg₂ (value m c) (Fin.ext ?_) (Fin.ext ?_)
  · show 5 * (y 0).val + (y 1).val = 5 * (win0_4.index t 0 * 96 + (y 0).val) + (win0_4.index t 1 * 5 + (y 1).val)
    rw [hi]; simp
  · blk_simp
    show 512 * t.val + (y 2).val = win0_4.index t 2 * 512 + (y 2).val
    rw [hi]; simp [Nat.mul_comm]

end Cert.NIdeal.Value

end
-- ==== Proof.HeadValue.lean ====
module

public import proofs.«01_k».proof.Proof.HeadDat

/-! # The vocabulary head: what the grid leaves, and that it leaves the arguments as they were -/

@[expose] public section

set_option maxRecDepth 16384

noncomputable section

namespace Cert.NIdeal.Value

open Cert.NIdeal Cert.NIdeal.Gen Cert.NIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What is not followed: the token ids, and the last two results. -/
abbrev fgt : Fin cfg0.W → Bool := fun | 0 => false | 1 => false | 2 => false | 3 => true | 4 => false | 5 => true | 6 => true

/-- The body's buffers and scratch before a point: the rows, and the weights and scales with anything outside the arrays; the rest
    at some contents. -/
def given (c : Dev nD) (t : Fin cfg0.N) : sProp 𝕄 :=
  iprop((Pipeline.ΦA spec0 c) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ X, owns (c : Thread nD τ) (ms0_3 t) fullShare X)
    ∗ (∃ d, owns (c : Thread nD τ) (ms0_4 t) fullShare ((dats m 0 c).before 4 t d))
    ∗ (∃ X, owns (c : Thread nD τ) (ms0_5 t) fullShare X)
    ∗ (∃ X, owns (c : Thread nD τ) (ms0_6 t) fullShare X))

/-- The body's buffers and scratch after a point: the same, and the point's logits inside the array. -/
def left (c : Dev nD) (t : Fin cfg0.N) : sProp 𝕄 :=
  iprop((Pipeline.ΦA spec0 c) ∗ (dats m 0 c).owesAt () t.castSucc
    ∗ owns (c : Thread nD τ) (ms0_0 t) fullShare ((dats m 0 c).after 0 t)
    ∗ (∃ d, owns (c : Thread nD τ) (ms0_1 t) fullShare (win0_1.fill (grid0.coords t) d (win0_1.cut (grid0.coords t) ((dats m 0 c).after 1 t))))
    ∗ (∃ d, owns (c : Thread nD τ) (ms0_2 t) fullShare (win0_2.fill (grid0.coords t) d (win0_2.cut (grid0.coords t) ((dats m 0 c).after 2 t))))
    ∗ (∃ X, owns (c : Thread nD τ) (ms0_3 t) fullShare X)
    ∗ (∃ d, owns (c : Thread nD τ) (ms0_4 t) fullShare (win0_4.fill (grid0.coords t) d (win0_4.cut (grid0.coords t) ((dats m 0 c).after 4 t))))
    ∗ (∃ X, owns (c : Thread nD τ) (ms0_5 t) fullShare X)
    ∗ (∃ X, owns (c : Thread nD τ) (ms0_6 t) fullShare X))

theorem refill_1 (c : Dev nD) (t : Fin cfg0.N) (d) :
    win0_1.fill (grid0.coords t) d (win0_1.cut (grid0.coords t) ((dats m 0 c).after 1 t)) = codes m c t d := by
  rw [after_1]; unfold codes; rw [Window.cut_fill]

theorem refill_2 (c : Dev nD) (t : Fin cfg0.N) (d) :
    win0_2.fill (grid0.coords t) d (win0_2.cut (grid0.coords t) ((dats m 0 c).after 2 t)) = scales m c t d := by
  rw [after_2]; unfold scales; rw [Window.cut_fill]

theorem refill_4 (c : Dev nD) (t : Fin cfg0.N) (d1 d2) :
    win0_4.fill (grid0.coords t) (logits m c t d1 d2) (win0_4.cut (grid0.coords t) ((dats m 0 c).after 4 t)) = logits m c t d1 d2 := by
  rw [after_4]; exact Window.fill_congr_cut _ _ (logits_cut m c t _ _ _ _)

set_option maxHeartbeats 4000000 in
/-- The body runs at every point from any contents to some contents. -/
theorem sound_body (c : Dev nD) (t : Fin cfg0.N) :
    given m c t ⊢ wp frame (wpE (defs₀ (F := Ideal)) Variants.none c none) Set.univ (bodyAt0 t) (fun _ => left m c t) := by
  unfold given left bodyAt0
  simp only [before_0, before_1, before_2, after_0]
  rw [PhiA0_eq]
  have hN : t.val < 251 := lt_of_lt_of_eq t.isLt (show cfg0.N = 251 from N_0)
  by_cases h0 : t.val % 251 = 0
  · by_cases h1 : t.val % 251 = 250
    · exfalso; omega
    · iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ ((hcond0_0 t).mpr h0) (fun h => h1 ((hcond0_1 t).mp h)) (iblk m c 0 t) (codes m c t d1) (scales m c t d2) d3).2.2.2.2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, ⟨%e4, H4⟩, H5, H6, ⟨%fT0, HS0⟩, ⟨%fT1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexists d1; rw [refill_1]; iexact H1
      isplitl [H2]; · iexists d2; rw [refill_2]; iexact H2
      isplitl [H3]; · iexists _; iexact H3
      isplitl [H4]
      · iexists (logits m c t d1 d2); rw [refill_4]; unfold owns; iexists _; isplitr
        swap; · iexact H4
        ipureintro; exact logits_A _ _ _ _ _ _ _ _ _ _ _ _ _ _ _ _ _ _ _ _ _ _ _ _ _ _ _ _ _ _ _ _ _
      isplitl [H5]; · iexists _; iexact H5
      iexists _; iexact H6
  · by_cases h1 : t.val % 251 = 250
    · iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ _ _ _ _ (fun h => h0 ((hcond0_0 t).mp h)) ((hcond0_1 t).mpr h1) (iblk m c 0 t) (codes m c t d1) (scales m c t d2) d3 s2 s3 s4).2.2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexists _; iexact HS0
      isplitl [HS1]; · iexists _; iexact HS1
      isplitl [HS2]; · iexact HS2
      isplitl [HS3]; · iexact HS3
      isplitl [HS4]; · iexact HS4
      iintro ⟨H0, H1, H2, H3, ⟨%e4, H4⟩, ⟨%e5, H5⟩, ⟨%e6, H6⟩, ⟨%fT0, HS0⟩, ⟨%fT1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexists d1; rw [refill_1]; iexact H1
      isplitl [H2]; · iexists d2; rw [refill_2]; iexact H2
      isplitl [H3]; · iexists _; iexact H3
      isplitl [H4]
      · iexists (logits m c t d1 d2); rw [refill_4]; unfold owns; iexists _; isplitr
        swap; · iexact H4
        ipureintro; exact logits_C _ _ _ _ _ _ _ _ _ _ _ _ _ _ _ _ _ _ _ _ _ _ _ _ _ _ _ _ _ _ _ _ _ _ _ _
      isplitl [H5]
      · iexists _; unfold owns; iexists _; isplitr
        swap; · iexact H5
        ipureintro; rfl
      iexists _; unfold owns; iexists _; isplitr
      swap; · iexact H6
      ipureintro; rfl
    · iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (codes m c t d1) (scales m c t d2) d3 s2 s3 s4).2.2.2.2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexists _; iexact HS0
      isplitl [HS1]; · iexists _; iexact HS1
      isplitl [HS2]; · iexact HS2
      isplitl [HS3]; · iexact HS3
      isplitl [HS4]; · iexact HS4
      iintro ⟨H0, H1, H2, H3, ⟨%e4, H4⟩, H5, H6, ⟨%fT0, HS0⟩, ⟨%fT1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexists d1; rw [refill_1]; iexact H1
      isplitl [H2]; · iexists d2; rw [refill_2]; iexact H2
      isplitl [H3]; · iexists _; iexact H3
      isplitl [H4]
      · iexists (logits m c t d1 d2); rw [refill_4]; unfold owns; iexists _; isplitr
        swap; · iexact H4
        ipureintro; exact logits_B _ _ _ _ _ _ _ _ _ _ _ _ _ _ _ _ _ _ _ _ _ _ _ _ _ _ _ _ _ _ _ _ _ _ _ _
      isplitl [H5]; · iexists _; iexact H5
      iexists _; iexact H6

/-- The body at point `t`, as the program's table of bodies gives it. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := Ideal))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := fun _ _ => rfl) (hΦ := fun _ _ => rfl)
    (hQ' := fun _ h => h)

/-- From any memory every run ends without fault and leaves the four arguments as they were. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1.arr_in c 0 rfl, h.1.arr_in c 1 rfl, h.1.arr_in c 2 rfl, h.1.arr_in c 3 rfl⟩, h.2⟩)
    (run_main m ρ)

end Cert.NIdeal.Value

end
-- ==== Proof.HeadRefValue.lean ====
module

public import proofs.«01_k».proof.Proof.Gen.NRefIdeal.Frame
public import Idealize.ShloMosaic.Lib.Pipeline.ValueKit
public import Idealize.ShloMosaic.Lib.Pointwise

/-! # The logits, as the reference states them: the result array as a function of the arguments -/

@[expose] public section

set_option maxRecDepth 16384

noncomputable section

namespace Cert.NRefIdeal.Value

open Idealize.ShloMosaic Idealize.ShloMosaic.TcCoe Idealize.SL.Sem
open Idealize.ShloMosaic.Pipeline (Dat)
open Cert.NRefIdeal Cert.NRefIdeal.Gen

/-- A row against a column of the scaled weights. -/
def val (X : Vec Ideal S480x3072 .bf16) (WC : Vec Ideal S3072x128256 .fp8e4m3) (WS : Vec Ideal S24x128256 .f32)
    (r : Fin 480) (n : Fin 128256) : EReal :=
  ∑ k : Fin 3072, X (ix2 r k) * (WC (ix2 k n) * WS (ix2 ⟨↑k / 128, by omega⟩ n))

theorem value_at (x : Vec Ideal S480x3072 .bf16) (wc : Vec Ideal S3072x128256 .fp8e4m3) (ws : Vec Ideal S24x128256 .f32)
    (b : Fin 96) (s : Fin 5) (n : Fin 128256) :
    k0_pay1 x wc ws (ix3 b s n) = val x wc ws ⟨5 * ↑b + ↑s, by omega⟩ n := by
  pointwise [k0_pay1]
  simp only [val, Nat.mul_comm]

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- The value over the argument arrays of the program. -/
abbrev value (c : Dev nD) : Fin 480 → Fin 128256 → EReal :=
  val (m ((c : Thread nD τ).loc main_arg0)) (m ((c : Thread nD τ).loc main_arg1)) (m ((c : Thread nD τ).loc main_arg2))

/-- The one block of each argument is the whole array. -/
theorem blocks (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) := by
  refine ⟨?_, ?_, ?_⟩ <;> funext j <;> blk_ext [iblk, V, idx t0_0]

/-- The array after the run. -/
theorem final_out (c : Dev nD) : (dats m 0 c).arrAt 3 (cfgs 0).N
    = (fun j => value m c ⟨5 * (j 0).val + (j 1).val, by have h0 := (j 0).isLt; have h1 := (j 1).isLt; simp at h0 h1; omega⟩ (j 2)
      : Vec Ideal S96x5x128256 .bf16) := by
  refine (dats m 0 c).arrAt_eq_of_after_last 3 t0_0 (by decide +kernel) _ fun j => ?_
  blk_simp
  rw [after0_3]
  frame_out
  obtain ⟨h0, h1, h2⟩ := blocks m c
  rw [h0, h1, h2]
  idx_vars j
  exact value_at _ _ _ j0 j1 j2

end Cert.NRefIdeal.Value
-- ==== Proof.HeadClaim.lean ====
module

public import proofs.«01_k».proof.Defs
public import proofs.«01_k».proof.Proof.HeadValue
public import proofs.«01_k».proof.Proof.HeadRefValue
public import Idealize.ShloMosaic.Lib.Claim

/-! # The vocabulary head and its reference compute the same logits -/

@[expose] public section

set_option maxRecDepth 16384

noncomputable section

namespace Cert.HeadClaim

open Idealize.ShloMosaic Idealize.ShloMosaic.TcCoe Idealize.SL.Sem

/-- Of equal arguments the head and the reference have equal values. -/
theorem val_congr {X X' : Vec Ideal NIdeal.S480x3072 .bf16} {WC WC' : Vec Ideal NIdeal.S3072x128256 .fp8e4m3}
    {WS WS' : Vec Ideal NIdeal.S24x128256 .f32} (hX : X' = X) (hWC : WC' = WC) (hWS : WS' = WS) :
    NRefIdeal.Value.val X' WC' WS' = NIdeal.Value.val X WC WS := by
  subst hX hWC hWS
  rfl

theorem algebraic : Cert.algebraic_NIdeal_NRefIdeal := by
  pair_intro
  · refine (θ_run _ _ _).mono (fun r h c => ?_) (Cert.NIdeal.Value.run_main m g)
    refine ⟨?_, h.1.arr_in c 0 rfl, h.1.arr_in c 1 rfl, h.1.arr_in c 2 rfl, h.1.arr_in c 3 rfl⟩
    exact ((Cert.NIdeal.Value.dats m 0 c).toRForget_arrAt_iff (w := 4) rfl _ _).mp ((h.1 c).1 4)
  · have hv : ∀ c, NRefIdeal.Value.value m' c = NIdeal.Value.value m c := fun c =>
      val_congr (hagree c).1 (hagree c).2.1 (hagree c).2.2.1
    run_from Cert.NRefIdeal.Gen.run_main m' g'
    · exact (NRefIdeal.Value.final_out m' c).trans (by rw [NIdeal.Value.final_out, hv])

end Cert.HeadClaim

end
-- ==== Proof.HeadRuns.lean ====
/- The three kinds of grid point of `head` (the first, the inner ones, the last) and the buffers its body works on. -/
module

public import proofs.«01_k».proof.Proof.Gen.N.Frame
public import proofs.«01_k».proof.Proof.Gen.N.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.N.Body

open Cert.N Cert.N.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 251 = 0 :=
  (fun t => by
    have ht : t.val < 251 := Nat.lt_of_lt_of_eq t.isLt N_0
    have e0 : (grid0.coords t 0).val = t.val / 1 % 251 := Pipeline.Grid.coords_val t 0 (by decide) rfl
    simp only [cond0_0, e0]
    word_cmp
   : ∀ t : Fin grid0.N, cond0_0 (grid0.coords t) ↔ t.val % 251 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 251 = 250 :=
  (fun t => by
    have ht : t.val < 251 := Nat.lt_of_lt_of_eq t.isLt N_0
    have e0 : (grid0.coords t 0).val = t.val / 1 % 251 := Pipeline.Grid.coords_val t 0 (by decide) rfl
    simp only [cond0_1, k0_cond2, e0]
    word_cmp
   : ∀ t : Fin grid0.N, cond0_1 (grid0.coords t) ↔ t.val % 251 = 250)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 4, through which its contents are stated (`View.read_writes_of_cover`: the
    choice does not matter). -/
abbrev VO0_4 : View sig .tc .vmem S96x5x512 .bf16 := (Memref.whole cc0_stg4_0 : Memref sig .tc .vmem S96x5x512 .bf16).view
/-- One staging buffer of output window 5, through which its contents are stated (`View.read_writes_of_cover`: the
    choice does not matter). -/
abbrev VO0_5 : View sig .tc .vmem S480x1 .f32 := (Memref.whole cc0_stg5_0 : Memref sig .tc .vmem S480x1 .f32).view
/-- One staging buffer of output window 6, through which its contents are stated (`View.read_writes_of_cover`: the
    choice does not matter). -/
abbrev VO0_6 : View sig .tc .vmem S480x1 .f32 := (Memref.whole cc0_stg6_0 : Memref sig .tc .vmem S480x1 .f32).view
/-- Each window's current staging memref at point `t`, spelled as the pipeline passes it (`bodyAt0`), and its wholeness. -/
abbrev ms0_0 (t : Fin cfg0.N) : Memref sig .tc .vmem S480x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S24x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S480x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x5x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S480x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S480x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S3072x512 .bf16 := Memref.whole cc0_scratch0
abbrev scM0_1 : Memref sig .tc .vmem S4x488x128 .f32 := Memref.whole cc0_scratch1
abbrev scM0_2 : Memref sig .tc .vmem S480x128 .f32 := Memref.whole cc0_scratch2
abbrev scM0_3 : Memref sig .tc .vmem S480x128 .f32 := Memref.whole cc0_scratch3
abbrev scM0_4 : Memref sig .tc .vmem S480x128 .f32 := Memref.whole cc0_scratch4
/-- The scratch `arg10` the kernel carries between points, as a view: what it holds is stated through it. -/
abbrev VS0_2 : View sig .tc .vmem S480x128 .f32 := scM0_2.view
/-- The scratch `arg11` the kernel carries between points, as a view: what it holds is stated through it. -/
abbrev VS0_3 : View sig .tc .vmem S480x128 .f32 := scM0_3.view
/-- The scratch `arg12` the kernel carries between points, as a view: what it holds is stated through it. -/
abbrev VS0_4 : View sig .tc .vmem S480x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.N.Body

end
-- ==== Proof.HeadRunA.lean ====
/- The run of the body of `head` at the first point. -/
module

public import proofs.«01_k».proof.Proof.HeadRuns

@[expose] public section

-- membership in a rectangle of production extents (`View.cover_of_tiled`): the elaborator's structural look
-- recurses once per coordinate of the long axes
set_option maxRecDepth 16384

noncomputable section

namespace Cert.N.Body

open Cert.N Cert.N.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 7648000 in
/-- What the body of `head` leaves in its buffers at the first point, as the pieces it stores (the last first), with the proof that the body
    runs without fault from whole buffers, the input blocks at any contents `x·`, and leaves the input blocks as they were. -/
noncomputable def kernelRun0_A (c : Dev nD) (i : grid0.Coords) (arg1 : Memref sig .tc .vmem S480x3072 .bf16) (harg1 : arg1.IsWhole) (arg2 : Memref sig .tc .vmem S3072x512 .fp8e4m3) (harg2 : arg2.IsWhole) (arg3 : Memref sig .tc .vmem S24x512 .f32) (harg3 : arg3.IsWhole) (arg4 : Memref sig .tc .vmem S480x1 .i32) (harg4 : arg4.IsWhole) (arg5 : Memref sig .tc .vmem S96x5x512 .bf16) (harg5 : arg5.IsWhole) (arg6 : Memref sig .tc .vmem S480x1 .f32) (harg6 : arg6.IsWhole) (arg7 : Memref sig .tc .vmem S480x1 .f32) (harg7 : arg7.IsWhole) (arg8 : Memref sig .tc .vmem S3072x512 .bf16) (harg8 : arg8.IsWhole) (arg9 : Memref sig .tc .vmem S4x488x128 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (hc0 : cond0_0 i) (hc1 : ¬cond0_1 i)
    (x0 : Vec F S480x3072 .bf16) (x1 : Vec F S3072x512 .fp8e4m3) (x2 : Vec F S24x512 .f32) (x3 : Vec F S480x1 .i32) :
    Σ' (L4 : List (View.Piece (Elt F) S96x5x512 .bf16)), Σ' (L5 : List (View.Piece (Elt F) S480x1 .f32)), Σ' (L6 : List (View.Piece (Elt F) S480x1 .f32)), Σ' (LS2 : List (View.Piece (Elt F) S480x128 .f32)), Σ' (LS3 : List (View.Piece (Elt F) S480x128 .f32)), Σ' (LS4 : List (View.Piece (Elt F) S480x128 .f32)), Σ' (LT0 : List (View.Piece (Elt F) S3072x512 .bf16)), { LT1 : List (View.Piece (Elt F) S4x488x128 .f32) //
      ∀ (xi5 : Vec F S480x1 .f32) (xi6 : Vec F S480x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12) K } := by
  refine ⟨?_, [], [], ?_, ?_, ?_, ?_, ?_, fun xi5 xi6 E K => ?run⟩
  case run =>
    simp only [cc0_head_eq_skeleton]; unfold cc0_head_skel
    simp only [k0_part94_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]; · iexists _; iexact HS2
    isplitl [HS3]; · iexists _; iexact HS3
    iexists _; iexact HS4

end Cert.N.Body

end
-- ==== Proof.HeadRunB.lean ====
/- The run of the body of `head` at an inner point. -/
module

public import proofs.«01_k».proof.Proof.HeadRunA

@[expose] public section

-- membership in a rectangle of production extents (`View.cover_of_tiled`): the elaborator's structural look
-- recurses once per coordinate of the long axes
set_option maxRecDepth 16384

noncomputable section

namespace Cert.N.Body

open Cert.N Cert.N.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 7612000 in
/-- What the body of `head` leaves in its buffers at an inner point, as the pieces it stores (the last first), with the proof that the body
    runs without fault from whole buffers, the input blocks at any contents `x·`, and leaves the input blocks as they were. -/
noncomputable def kernelRun0_B (c : Dev nD) (i : grid0.Coords) (arg1 : Memref sig .tc .vmem S480x3072 .bf16) (harg1 : arg1.IsWhole) (arg2 : Memref sig .tc .vmem S3072x512 .fp8e4m3) (harg2 : arg2.IsWhole) (arg3 : Memref sig .tc .vmem S24x512 .f32) (harg3 : arg3.IsWhole) (arg4 : Memref sig .tc .vmem S480x1 .i32) (harg4 : arg4.IsWhole) (arg5 : Memref sig .tc .vmem S96x5x512 .bf16) (harg5 : arg5.IsWhole) (arg6 : Memref sig .tc .vmem S480x1 .f32) (harg6 : arg6.IsWhole) (arg7 : Memref sig .tc .vmem S480x1 .f32) (harg7 : arg7.IsWhole) (arg8 : Memref sig .tc .vmem S3072x512 .bf16) (harg8 : arg8.IsWhole) (arg9 : Memref sig .tc .vmem S4x488x128 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (hc0 : ¬cond0_0 i) (hc1 : ¬cond0_1 i)
    (x0 : Vec F S480x3072 .bf16) (x1 : Vec F S3072x512 .fp8e4m3) (x2 : Vec F S24x512 .f32) (x3 : Vec F S480x1 .i32) (xs2 : Vec F S480x128 .f32) (xs3 : Vec F S480x128 .f32) (xs4 : Vec F S480x128 .f32) :
    Σ' (L4 : List (View.Piece (Elt F) S96x5x512 .bf16)), Σ' (L5 : List (View.Piece (Elt F) S480x1 .f32)), Σ' (L6 : List (View.Piece (Elt F) S480x1 .f32)), Σ' (LS2 : List (View.Piece (Elt F) S480x128 .f32)), Σ' (LS3 : List (View.Piece (Elt F) S480x128 .f32)), Σ' (LS4 : List (View.Piece (Elt F) S480x128 .f32)), Σ' (LT0 : List (View.Piece (Elt F) S3072x512 .bf16)), { LT1 : List (View.Piece (Elt F) S4x488x128 .f32) //
      ∀ (xi5 : Vec F S480x1 .f32) (xi6 : Vec F S480x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d) ∗ owns (c : Thread nD τ) arg10 fullShare xs2 ∗ owns (c : Thread nD τ) arg11 fullShare xs3 ∗ owns (c : Thread nD τ) arg12 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12) K } := by
  refine ⟨?_, [], [], ?_, ?_, ?_, ?_, ?_, fun xi5 xi6 E K => ?run⟩
  case run =>
    simp only [cc0_head_eq_skeleton]; unfold cc0_head_skel
    simp only [k0_part94_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg10.eq_unread hfs2; obtain rfl := harg11.eq_unread hfs3; obtain rfl := harg12.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]; · iexists _; iexact HS2
    isplitl [HS3]; · iexists _; iexact HS3
    iexists _; iexact HS4

end Cert.N.Body

end
-- ==== Proof.HeadRunC.lean ====
/- The run of the body of `head` at the last point. -/
module

public import proofs.«01_k».proof.Proof.HeadRunB

@[expose] public section

-- membership in a rectangle of production extents (`View.cover_of_tiled`): the elaborator's structural look
-- recurses once per coordinate of the long axes
set_option maxRecDepth 16384

noncomputable section

namespace Cert.N.Body

open Cert.N Cert.N.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 7656000 in
/-- What the body of `head` leaves in its buffers at the last point, as the pieces it stores (the last first), with the proof that the body
    runs without fault from whole buffers, the input blocks at any contents `x·`, and leaves the input blocks as they were. -/
noncomputable def kernelRun0_C (c : Dev nD) (i : grid0.Coords) (arg1 : Memref sig .tc .vmem S480x3072 .bf16) (harg1 : arg1.IsWhole) (arg2 : Memref sig .tc .vmem S3072x512 .fp8e4m3) (harg2 : arg2.IsWhole) (arg3 : Memref sig .tc .vmem S24x512 .f32) (harg3 : arg3.IsWhole) (arg4 : Memref sig .tc .vmem S480x1 .i32) (harg4 : arg4.IsWhole) (arg5 : Memref sig .tc .vmem S96x5x512 .bf16) (harg5 : arg5.IsWhole) (arg6 : Memref sig .tc .vmem S480x1 .f32) (harg6 : arg6.IsWhole) (arg7 : Memref sig .tc .vmem S480x1 .f32) (harg7 : arg7.IsWhole) (arg8 : Memref sig .tc .vmem S3072x512 .bf16) (harg8 : arg8.IsWhole) (arg9 : Memref sig .tc .vmem S4x488x128 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (hc0 : ¬cond0_0 i) (hc1 : cond0_1 i)
    (x0 : Vec F S480x3072 .bf16) (x1 : Vec F S3072x512 .fp8e4m3) (x2 : Vec F S24x512 .f32) (x3 : Vec F S480x1 .i32) (xs2 : Vec F S480x128 .f32) (xs3 : Vec F S480x128 .f32) (xs4 : Vec F S480x128 .f32) :
    Σ' (L4 : List (View.Piece (Elt F) S96x5x512 .bf16)), Σ' (L5 : List (View.Piece (Elt F) S480x1 .f32)), Σ' (L6 : List (View.Piece (Elt F) S480x1 .f32)), Σ' (LS2 : List (View.Piece (Elt F) S480x128 .f32)), Σ' (LS3 : List (View.Piece (Elt F) S480x128 .f32)), Σ' (LS4 : List (View.Piece (Elt F) S480x128 .f32)), Σ' (LT0 : List (View.Piece (Elt F) S3072x512 .bf16)), { LT1 : List (View.Piece (Elt F) S4x488x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs2 ∗ owns (c : Thread nD τ) arg11 fullShare xs3 ∗ owns (c : Thread nD τ) arg12 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun E K => ?run⟩
  case run =>
    simp only [cc0_head_eq_skeleton]; unfold cc0_head_skel
    simp only [k0_part94_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg10.eq_unread hfs2; obtain rfl := harg11.eq_unread hfs3; obtain rfl := harg12.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iexists _; iexact HS4

end Cert.N.Body

end
-- ==== Proof.HeadFrame.lean ====
/- The frame of `head`: from any memory every run ends without fault and leaves the four arguments as they were. Nothing is said of
   what the body leaves in any buffer, so the half of the last block that lies outside the arrays needs no account. -/
module

public import proofs.«01_k».proof.Proof.HeadRunC

@[expose] public section

set_option maxRecDepth 16384

noncomputable section

namespace Cert.N.Body

open Cert.N Cert.N.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as launched; nothing is named of the blocks (`all` forgets every window). -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- Every window is forgotten. -/
abbrev all : Fin cfg0.W → Bool := fun _ => true

/-- The body's buffers and scratch at a point, each at some contents. -/
def held (c : Dev nD) (t : Fin cfg0.N) : sProp 𝕄 :=
  iprop((Pipeline.ΦA spec0 c) ∗ (dats m 0 c).owesAt () t.castSucc
    ∗ (∃ X, owns (c : Thread nD τ) (ms0_0 t) fullShare X)
    ∗ (∃ X, owns (c : Thread nD τ) (ms0_1 t) fullShare X)
    ∗ (∃ X, owns (c : Thread nD τ) (ms0_2 t) fullShare X)
    ∗ (∃ X, owns (c : Thread nD τ) (ms0_3 t) fullShare X)
    ∗ (∃ X, owns (c : Thread nD τ) (ms0_4 t) fullShare X)
    ∗ (∃ X, owns (c : Thread nD τ) (ms0_5 t) fullShare X)
    ∗ (∃ X, owns (c : Thread nD τ) (ms0_6 t) fullShare X))

set_option maxHeartbeats 4000000 in
/-- The body runs at every point from any contents to some contents. -/
theorem sound_body (c : Dev nD) (t : Fin cfg0.N) :
    held m c t ⊢ wp frame (wpE (defs₀ (F := F)) Variants.none c none) Set.univ (bodyAt0 t) (fun _ => held m c t) := by
  unfold held bodyAt0
  rw [PhiA0_eq]
  have hN : t.val < 251 := lt_of_lt_of_eq t.isLt (show cfg0.N = 251 from N_0)
  by_cases h0 : t.val % 251 = 0
  · by_cases h1 : t.val % 251 = 250
    · exfalso; omega
    · iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ ((hcond0_0 t).mpr h0) (fun h => h1 ((hcond0_1 t).mp h)) d0 d1 d2 d3).2.2.2.2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, ⟨%e4, H4⟩, H5, H6, ⟨%fT0, HS0⟩, ⟨%fT1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]
      · iexists _; unfold owns; iexists _; isplitr
        swap; · iexact H4
        ipureintro; rfl
      isplitl [H5]; · iexists _; iexact H5
      iexists _; iexact H6
  · by_cases h1 : t.val % 251 = 250
    · iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ _ _ _ _ (fun h => h0 ((hcond0_0 t).mp h)) ((hcond0_1 t).mpr h1) d0 d1 d2 d3 s2 s3 s4).2.2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexists _; iexact HS0
      isplitl [HS1]; · iexists _; iexact HS1
      isplitl [HS2]; · iexact HS2
      isplitl [HS3]; · iexact HS3
      isplitl [HS4]; · iexact HS4
      iintro ⟨H0, H1, H2, H3, ⟨%e4, H4⟩, ⟨%e5, H5⟩, ⟨%e6, H6⟩, ⟨%fT0, HS0⟩, ⟨%fT1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]
      · iexists _; unfold owns; iexists _; isplitr
        swap; · iexact H4
        ipureintro; rfl
      isplitl [H5]
      · iexists _; unfold owns; iexists _; isplitr
        swap; · iexact H5
        ipureintro; rfl
      iexists _; unfold owns; iexists _; isplitr
      swap; · iexact H6
      ipureintro; rfl
    · iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ _ _ (fun h => h0 ((hcond0_0 t).mp h)) (fun h => h1 ((hcond0_1 t).mp h)) d0 d1 d2 d3 s2 s3 s4).2.2.2.2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexists _; iexact HS0
      isplitl [HS1]; · iexists _; iexact HS1
      isplitl [HS2]; · iexact HS2
      isplitl [HS3]; · iexact HS3
      isplitl [HS4]; · iexact HS4
      iintro ⟨H0, H1, H2, H3, ⟨%e4, H4⟩, H5, H6, ⟨%fT0, HS0⟩, ⟨%fT1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]
      · iexists _; unfold owns; iexists _; isplitr
        swap; · iexact H4
        ipureintro; rfl
      isplitl [H5]; · iexists _; iexact H5
      iexists _; iexact H6

/-- The body at point `t`, as the program's table of bodies gives it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ all := fun t => by
  rw [bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost cfg0 (fun c => (dats m 0 c).toRForget all) (V m) r ∧ r.2.sem = fun _ => 0) :=
  Pipeline.θ_run_frame_forget (Q' := _) cfgs (dats m) (0 : Fin 1) launch0 defs₀ Variants.none all m ρ main
    (hbody := body_obligation m) (hshare := fun c => (dats m 0 c).share_full fun _ => rfl)
    (howed := fun _ _ => rfl) (V := V m) (hmain := hmain m Variants.none) (hA := fun _ _ => rfl) (hΦ := fun _ _ => rfl)
    (hQ' := fun _ h => h)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1.arr_in c 0 rfl, h.1.arr_in c 1 rfl, h.1.arr_in c 2 rfl, h.1.arr_in c 3 rfl⟩, h.2⟩)
    (run_main m ρ)

end Cert.N.Body

end
-- ==== Proof.lean ====
module

public import proofs.«01_k».proof.Defs
public import proofs.«01_k».proof.Proof.Gen.X.Frame
public import proofs.«01_k».proof.Proof.Gen.XIdeal.Frame
public import proofs.«01_k».proof.Proof.Gen.XRefIdeal.Frame
public import proofs.«01_k».proof.Proof.Gen.L.Frame
public import proofs.«01_k».proof.Proof.Gen.LIdeal.Frame
public import proofs.«01_k».proof.Proof.Gen.LRefIdeal.Frame
public import proofs.«01_k».proof.Proof.Gen.E.Frame
public import proofs.«01_k».proof.Proof.Gen.EIdeal.Frame
public import proofs.«01_k».proof.Proof.Gen.ERefIdeal.Frame
public import proofs.«01_k».proof.Proof.Gen.F.Frame
public import proofs.«01_k».proof.Proof.Gen.FIdeal.Frame
public import proofs.«01_k».proof.Proof.Gen.FRefIdeal.Frame
public import proofs.«01_k».proof.Proof.Gen.S.Frame
public import proofs.«01_k».proof.Proof.Gen.SIdeal.Frame
public import proofs.«01_k».proof.Proof.Gen.SRefIdeal.Frame
public import proofs.«01_k».proof.Proof.Gen.H1.Frame
public import proofs.«01_k».proof.Proof.Gen.H1Ideal.Frame
public import proofs.«01_k».proof.Proof.Gen.H1RefIdeal.Frame
public import proofs.«01_k».proof.Proof.Gen.H2.Frame
public import proofs.«01_k».proof.Proof.Gen.H2Ideal.Frame
public import proofs.«01_k».proof.Proof.Gen.H2RefIdeal.Frame
public import proofs.«01_k».proof.Proof.Gen.N.Frame
public import proofs.«01_k».proof.Proof.Gen.NIdeal.Frame
public import proofs.«01_k».proof.Proof.Gen.NRefIdeal.Frame
public import proofs.«01_k».proof.Proof.Gen.N.Skeleton
public import proofs.«01_k».proof.Proof.Gen.NIdeal.Skeleton
public import proofs.«01_k».proof.Proof.XClaim
public import proofs.«01_k».proof.Proof.LClaim
public import proofs.«01_k».proof.Proof.EClaim
public import proofs.«01_k».proof.Proof.FClaim
public import proofs.«01_k».proof.Proof.SClaim
public import proofs.«01_k».proof.Proof.H1Claim
public import proofs.«01_k».proof.Proof.H2Claim
public import proofs.«01_k».proof.Proof.HeadClaim
public import proofs.«01_k».proof.Proof.HeadFrame
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.X.Gen.facts, Cert.XIdeal.Gen.facts, Cert.XRefIdeal.Gen.facts, Cert.L.Gen.facts, Cert.LIdeal.Gen.facts, Cert.LRefIdeal.Gen.facts, Cert.E.Gen.facts, Cert.EIdeal.Gen.facts, Cert.ERefIdeal.Gen.facts, Cert.F.Gen.facts, Cert.FIdeal.Gen.facts, Cert.FRefIdeal.Gen.facts, Cert.S.Gen.facts, Cert.SIdeal.Gen.facts, Cert.SRefIdeal.Gen.facts, Cert.H1.Gen.facts, Cert.H1Ideal.Gen.facts, Cert.H1RefIdeal.Gen.facts, Cert.H2.Gen.facts, Cert.H2Ideal.Gen.facts, Cert.H2RefIdeal.Gen.facts, Cert.N.Gen.facts, Cert.NIdeal.Gen.facts, Cert.NRefIdeal.Gen.facts,
  fun m ρ _ => Cert.X.Gen.frame m ρ,
  fun m ρ _ => Cert.XIdeal.Gen.frame m ρ,
  fun m ρ _ => Cert.XRefIdeal.Gen.frame m ρ,
  fun m ρ _ => Cert.L.Gen.frame m ρ,
  fun m ρ _ => Cert.LIdeal.Gen.frame m ρ,
  fun m ρ _ => Cert.LRefIdeal.Gen.frame m ρ,
  fun m ρ _ => Cert.E.Gen.frame m ρ,
  fun m ρ _ => Cert.EIdeal.Gen.frame m ρ,
  fun m ρ _ => Cert.ERefIdeal.Gen.frame m ρ,
  fun m ρ _ => Cert.F.Gen.frame m ρ,
  fun m ρ _ => Cert.FIdeal.Gen.frame m ρ,
  fun m ρ _ => Cert.FRefIdeal.Gen.frame m ρ,
  fun m ρ _ => Cert.S.Gen.frame m ρ,
  fun m ρ _ => Cert.SIdeal.Gen.frame m ρ,
  fun m ρ _ => Cert.SRefIdeal.Gen.frame m ρ,
  fun m ρ _ => Cert.H1.Gen.frame m ρ,
  fun m ρ _ => Cert.H1Ideal.Gen.frame m ρ,
  fun m ρ _ => Cert.H1RefIdeal.Gen.frame m ρ,
  fun m ρ _ => Cert.H2.Gen.frame m ρ,
  fun m ρ _ => Cert.H2Ideal.Gen.frame m ρ,
  fun m ρ _ => Cert.H2RefIdeal.Gen.frame m ρ,
  fun m ρ _ => Cert.N.Body.frame m ρ,
  fun m ρ _ => Cert.NIdeal.Value.frame m ρ,
  fun m ρ _ => Cert.NRefIdeal.Gen.frame m ρ,
  trivial, Cert.XClaim.algebraic, trivial, Cert.LClaim.algebraic, trivial, Cert.EClaim.algebraic, trivial, Cert.FClaim.algebraic, trivial, Cert.SClaim.algebraic, trivial, Cert.H1Claim.algebraic, trivial, Cert.H2Claim.algebraic, trivial, Cert.HeadClaim.algebraic⟩

end Cert.Proof

end
